-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits_KernelIdeal [hPre_finite_logits_KernelIdeal : Cert.Pre_finite_logits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits_ReferenceIdeal [hPre_finite_logits_ReferenceIdeal : Cert.Pre_finite_logits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits_KernelIdeal [hKernelIdeal : Cert.KernelIdeal.Facts] [hPre_finite_logits_KernelIdeal : Cert.Pre_finite_logits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits_ReferenceIdeal [hReferenceIdeal : Cert.ReferenceIdeal.Facts] [hPre_finite_logits_ReferenceIdeal : Cert.Pre_finite_logits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_logits_KernelIdeal [hKernelIdeal : Cert.KernelIdeal.Facts] [hReferenceIdeal : Cert.ReferenceIdeal.Facts] [hPre_finite_logits_KernelIdeal : Cert.Pre_finite_logits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v105) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_logits_KernelIdeal : Cert.Pre_finite_logits_KernelIdeal.Facts) (hPre_finite_logits_ReferenceIdeal : Cert.Pre_finite_logits_ReferenceIdeal.Facts),
    quiescent_Kernel (hKernel := hKernel)
    ∧ quiescent_KernelIdeal (hKernelIdeal := hKernelIdeal)
    ∧ quiescent_KernelIdeal_pre_finite_logits_KernelIdeal (hKernelIdeal := hKernelIdeal) (hPre_finite_logits_KernelIdeal := hPre_finite_logits_KernelIdeal)
    ∧ quiescent_ReferenceIdeal (hReferenceIdeal := hReferenceIdeal)
    ∧ quiescent_ReferenceIdeal_pre_finite_logits_ReferenceIdeal (hReferenceIdeal := hReferenceIdeal) (hPre_finite_logits_ReferenceIdeal := hPre_finite_logits_ReferenceIdeal)
    ∧ preserves_Kernel_KernelIdeal
    ∧ algebraic_KernelIdeal_ReferenceIdeal_pre_finite_logits_KernelIdeal (hKernelIdeal := hKernelIdeal) (hReferenceIdeal := hReferenceIdeal) (hPre_finite_logits_KernelIdeal := hPre_finite_logits_KernelIdeal)
-- ==== Pre_finite_logits_KernelIdeal.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x1024 .f32) (main_arg2 : FVec F S1024x1024 .f32) (main_arg3 : FVec F S1x4096x64x128 .f32) (main_arg4 : FVec F S1x4096x64x128 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x64x128 .f32 := Host.absf main_arg3
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Pre_finite_logits_ReferenceIdeal.lean ====
abbrev S1x256x1024 : Shape := ⟨3, ![1, 256, 1024]⟩
abbrev S1024x32768 : Shape := ⟨2, ![1024, 32768]⟩
abbrev S32768x1024 : Shape := ⟨2, ![32768, 1024]⟩
abbrev S1x4096x64x128 : Shape := ⟨4, ![1, 4096, 64, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x32768 : S_.BroadcastsInDim S1024x32768 (![] : Fin 0 → Fin S1024x32768.rank)
  reducesTo_S1024x32768_S_d0_1 : S1024x32768.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x32768 .f32) (main_arg2 : FVec F S32768x1024 .f32) (main_arg3 : FVec F S1x4096x64x128 .f32) (main_arg4 : FVec F S1x4096x64x128 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  let main_v9 : FVec F S1x4096x64x128 .f32 := Host.absf main_arg3
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S2x4096x128 : Shape := ⟨3, ![2, 4096, 128]⟩
abbrev S256x1024 : Shape := ⟨2, ![256, 1024]⟩
abbrev S32x8x1024 : Shape := ⟨3, ![32, 8, 1024]⟩
abbrev S2x2 : Shape := ⟨2, ![2, 2]⟩
abbrev S_ : Shape := ⟨0, ![]⟩
abbrev S32 : Shape := ⟨1, ![32]⟩
abbrev S1x1 : Shape := ⟨2, ![1, 1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x8x1024 : Shape := ⟨3, ![1, 8, 1024]⟩
abbrev S8x1024 : Shape := ⟨2, ![8, 1024]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1x4096x64x128, .f32⟩
  | .hbm, ⟨4, _⟩ => ⟨S1x4096x64x128, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1x256x1024, .f32⟩
  | .local _ .vmem, ⟨3, _⟩ => ⟨S2x4096x128, .f32⟩
  | .local _ .vmem, ⟨4, _⟩ => ⟨S2x4096x128, .f32⟩
  | .local _ .vmem, ⟨5, _⟩ => ⟨S1024x1024, .f32⟩
  | .local _ .vmem, ⟨6, _⟩ => ⟨S256x1024, .bf16⟩
  | .local _ .vmem, ⟨7, _⟩ => ⟨S32x8x1024, .bf16⟩
  | .local _ .vmem, ⟨8, _⟩ => ⟨S32x8x1024, .bf16⟩
  | .local _ .vmem, ⟨9, _⟩ => ⟨S32x8x1024, .bf16⟩
  | _, _ => ⟨S1x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 4 → Nat :=
  let c0_i32_1 : BitVec 32 := 0#32
  let c0_i32_7 : BitVec 32 := 0#32
  let c2_i32 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.muli c2_i32 v2
  let v4 : BitVec 32 := Scalar.addi v3 c0_i32
  let c0_i32_8 : BitVec 32 := 0#32
  ![0, 0, v4.toNat, 0]
def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_37 : BitVec 32 := 1#32
  let v34 : BitVec 32 := Scalar.addi v2 c1_i32_37
  let c32_i32_38 : BitVec 32 := 32#32
  let v35 : BitVec 32 := Scalar.remsi v34 c32_i32_38
  let c1_i32_40 : BitVec 32 := 1#32
  let v36 : BitVec 32 := Scalar.muli v35 c1_i32_40
  let v37 : BitVec 32 := Scalar.addi c0_i32_41 v36
  v37.toNat
def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_42 : BitVec 32 := 2#32
  let v38 : BitVec 32 := Scalar.addi v2 c2_i32_42
  let c32_i32_43 : BitVec 32 := 32#32
  let v39 : BitVec 32 := Scalar.remsi v38 c32_i32_43
  let c1_i32_45 : BitVec 32 := 1#32
  let v40 : BitVec 32 := Scalar.muli v39 c1_i32_45
  let v41 : BitVec 32 := Scalar.addi c0_i32_46 v40
  v41.toNat
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v42 : BitVec 32 := Scalar.addi v2 c3_i32
  let c32_i32_47 : BitVec 32 := 32#32
  let v43 : BitVec 32 := Scalar.remsi v42 c32_i32_47
  let c1_i32_49 : BitVec 32 := 1#32
  let v44 : BitVec 32 := Scalar.muli v43 c1_i32_49
  let v45 : BitVec 32 := Scalar.addi c0_i32_50 v44
  v45.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v46 : BitVec 32 := Scalar.addi v2 c4_i32
  let c32_i32_51 : BitVec 32 := 32#32
  let v47 : BitVec 32 := Scalar.remsi v46 c32_i32_51
  let c1_i32_53 : BitVec 32 := 1#32
  let v48 : BitVec 32 := Scalar.muli v47 c1_i32_53
  let v49 : BitVec 32 := Scalar.addi c0_i32_54 v48
  v49.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v50 : BitVec 32 := Scalar.addi v2 c5_i32
  let c32_i32_55 : BitVec 32 := 32#32
  let v51 : BitVec 32 := Scalar.remsi v50 c32_i32_55
  let c1_i32_57 : BitVec 32 := 1#32
  let v52 : BitVec 32 := Scalar.muli v51 c1_i32_57
  let v53 : BitVec 32 := Scalar.addi c0_i32_58 v52
  v53.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v54 : BitVec 32 := Scalar.addi v2 c6_i32
  let c32_i32_59 : BitVec 32 := 32#32
  let v55 : BitVec 32 := Scalar.remsi v54 c32_i32_59
  let c1_i32_61 : BitVec 32 := 1#32
  let v56 : BitVec 32 := Scalar.muli v55 c1_i32_61
  let v57 : BitVec 32 := Scalar.addi c0_i32_62 v56
  v57.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v58 : BitVec 32 := Scalar.addi v2 c7_i32
  let c32_i32_63 : BitVec 32 := 32#32
  let v59 : BitVec 32 := Scalar.remsi v58 c32_i32_63
  let c1_i32_65 : BitVec 32 := 1#32
  let v60 : BitVec 32 := Scalar.muli v59 c1_i32_65
  let v61 : BitVec 32 := Scalar.addi c0_i32_66 v60
  v61.toNat
def k0_dev8 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v62 : BitVec 32 := Scalar.addi v2 c8_i32
  let c32_i32_67 : BitVec 32 := 32#32
  let v63 : BitVec 32 := Scalar.remsi v62 c32_i32_67
  let c1_i32_69 : BitVec 32 := 1#32
  let v64 : BitVec 32 := Scalar.muli v63 c1_i32_69
  let v65 : BitVec 32 := Scalar.addi c0_i32_70 v64
  v65.toNat
def k0_dev9 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v66 : BitVec 32 := Scalar.addi v2 c9_i32
  let c32_i32_71 : BitVec 32 := 32#32
  let v67 : BitVec 32 := Scalar.remsi v66 c32_i32_71
  let c1_i32_73 : BitVec 32 := 1#32
  let v68 : BitVec 32 := Scalar.muli v67 c1_i32_73
  let v69 : BitVec 32 := Scalar.addi c0_i32_74 v68
  v69.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v70 : BitVec 32 := Scalar.addi v2 c10_i32
  let c32_i32_75 : BitVec 32 := 32#32
  let v71 : BitVec 32 := Scalar.remsi v70 c32_i32_75
  let c1_i32_77 : BitVec 32 := 1#32
  let v72 : BitVec 32 := Scalar.muli v71 c1_i32_77
  let v73 : BitVec 32 := Scalar.addi c0_i32_78 v72
  v73.toNat
def k0_dev11 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v74 : BitVec 32 := Scalar.addi v2 c11_i32
  let c32_i32_79 : BitVec 32 := 32#32
  let v75 : BitVec 32 := Scalar.remsi v74 c32_i32_79
  let c1_i32_81 : BitVec 32 := 1#32
  let v76 : BitVec 32 := Scalar.muli v75 c1_i32_81
  let v77 : BitVec 32 := Scalar.addi c0_i32_82 v76
  v77.toNat
def k0_dev12 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v78 : BitVec 32 := Scalar.addi v2 c12_i32
  let c32_i32_83 : BitVec 32 := 32#32
  let v79 : BitVec 32 := Scalar.remsi v78 c32_i32_83
  let c1_i32_85 : BitVec 32 := 1#32
  let v80 : BitVec 32 := Scalar.muli v79 c1_i32_85
  let v81 : BitVec 32 := Scalar.addi c0_i32_86 v80
  v81.toNat
def k0_dev13 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v82 : BitVec 32 := Scalar.addi v2 c13_i32
  let c32_i32_87 : BitVec 32 := 32#32
  let v83 : BitVec 32 := Scalar.remsi v82 c32_i32_87
  let c1_i32_89 : BitVec 32 := 1#32
  let v84 : BitVec 32 := Scalar.muli v83 c1_i32_89
  let v85 : BitVec 32 := Scalar.addi c0_i32_90 v84
  v85.toNat
def k0_dev14 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v86 : BitVec 32 := Scalar.addi v2 c14_i32
  let c32_i32_91 : BitVec 32 := 32#32
  let v87 : BitVec 32 := Scalar.remsi v86 c32_i32_91
  let c1_i32_93 : BitVec 32 := 1#32
  let v88 : BitVec 32 := Scalar.muli v87 c1_i32_93
  let v89 : BitVec 32 := Scalar.addi c0_i32_94 v88
  v89.toNat
def k0_dev15 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v90 : BitVec 32 := Scalar.addi v2 c15_i32
  let c32_i32_95 : BitVec 32 := 32#32
  let v91 : BitVec 32 := Scalar.remsi v90 c32_i32_95
  let c1_i32_97 : BitVec 32 := 1#32
  let v92 : BitVec 32 := Scalar.muli v91 c1_i32_97
  let v93 : BitVec 32 := Scalar.addi c0_i32_98 v92
  v93.toNat
def k0_dev16 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v94 : BitVec 32 := Scalar.addi v2 c16_i32
  let c32_i32_99 : BitVec 32 := 32#32
  let v95 : BitVec 32 := Scalar.remsi v94 c32_i32_99
  let c1_i32_101 : BitVec 32 := 1#32
  let v96 : BitVec 32 := Scalar.muli v95 c1_i32_101
  let v97 : BitVec 32 := Scalar.addi c0_i32_102 v96
  v97.toNat
def k0_dev17 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v98 : BitVec 32 := Scalar.addi v2 c17_i32
  let c32_i32_103 : BitVec 32 := 32#32
  let v99 : BitVec 32 := Scalar.remsi v98 c32_i32_103
  let c1_i32_105 : BitVec 32 := 1#32
  let v100 : BitVec 32 := Scalar.muli v99 c1_i32_105
  let v101 : BitVec 32 := Scalar.addi c0_i32_106 v100
  v101.toNat
def k0_dev18 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v102 : BitVec 32 := Scalar.addi v2 c18_i32
  let c32_i32_107 : BitVec 32 := 32#32
  let v103 : BitVec 32 := Scalar.remsi v102 c32_i32_107
  let c1_i32_109 : BitVec 32 := 1#32
  let v104 : BitVec 32 := Scalar.muli v103 c1_i32_109
  let v105 : BitVec 32 := Scalar.addi c0_i32_110 v104
  v105.toNat
def k0_dev19 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v106 : BitVec 32 := Scalar.addi v2 c19_i32
  let c32_i32_111 : BitVec 32 := 32#32
  let v107 : BitVec 32 := Scalar.remsi v106 c32_i32_111
  let c1_i32_113 : BitVec 32 := 1#32
  let v108 : BitVec 32 := Scalar.muli v107 c1_i32_113
  let v109 : BitVec 32 := Scalar.addi c0_i32_114 v108
  v109.toNat
def k0_dev20 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v110 : BitVec 32 := Scalar.addi v2 c20_i32
  let c32_i32_115 : BitVec 32 := 32#32
  let v111 : BitVec 32 := Scalar.remsi v110 c32_i32_115
  let c1_i32_117 : BitVec 32 := 1#32
  let v112 : BitVec 32 := Scalar.muli v111 c1_i32_117
  let v113 : BitVec 32 := Scalar.addi c0_i32_118 v112
  v113.toNat
def k0_dev21 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v114 : BitVec 32 := Scalar.addi v2 c21_i32
  let c32_i32_119 : BitVec 32 := 32#32
  let v115 : BitVec 32 := Scalar.remsi v114 c32_i32_119
  let c1_i32_121 : BitVec 32 := 1#32
  let v116 : BitVec 32 := Scalar.muli v115 c1_i32_121
  let v117 : BitVec 32 := Scalar.addi c0_i32_122 v116
  v117.toNat
def k0_dev22 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v118 : BitVec 32 := Scalar.addi v2 c22_i32
  let c32_i32_123 : BitVec 32 := 32#32
  let v119 : BitVec 32 := Scalar.remsi v118 c32_i32_123
  let c1_i32_125 : BitVec 32 := 1#32
  let v120 : BitVec 32 := Scalar.muli v119 c1_i32_125
  let v121 : BitVec 32 := Scalar.addi c0_i32_126 v120
  v121.toNat
def k0_dev23 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v122 : BitVec 32 := Scalar.addi v2 c23_i32
  let c32_i32_127 : BitVec 32 := 32#32
  let v123 : BitVec 32 := Scalar.remsi v122 c32_i32_127
  let c1_i32_129 : BitVec 32 := 1#32
  let v124 : BitVec 32 := Scalar.muli v123 c1_i32_129
  let v125 : BitVec 32 := Scalar.addi c0_i32_130 v124
  v125.toNat
def k0_dev24 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v126 : BitVec 32 := Scalar.addi v2 c24_i32
  let c32_i32_131 : BitVec 32 := 32#32
  let v127 : BitVec 32 := Scalar.remsi v126 c32_i32_131
  let c1_i32_133 : BitVec 32 := 1#32
  let v128 : BitVec 32 := Scalar.muli v127 c1_i32_133
  let v129 : BitVec 32 := Scalar.addi c0_i32_134 v128
  v129.toNat
def k0_dev25 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v130 : BitVec 32 := Scalar.addi v2 c25_i32
  let c32_i32_135 : BitVec 32 := 32#32
  let v131 : BitVec 32 := Scalar.remsi v130 c32_i32_135
  let c1_i32_137 : BitVec 32 := 1#32
  let v132 : BitVec 32 := Scalar.muli v131 c1_i32_137
  let v133 : BitVec 32 := Scalar.addi c0_i32_138 v132
  v133.toNat
def k0_dev26 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v134 : BitVec 32 := Scalar.addi v2 c26_i32
  let c32_i32_139 : BitVec 32 := 32#32
  let v135 : BitVec 32 := Scalar.remsi v134 c32_i32_139
  let c1_i32_141 : BitVec 32 := 1#32
  let v136 : BitVec 32 := Scalar.muli v135 c1_i32_141
  let v137 : BitVec 32 := Scalar.addi c0_i32_142 v136
  v137.toNat
def k0_dev27 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v138 : BitVec 32 := Scalar.addi v2 c27_i32
  let c32_i32_143 : BitVec 32 := 32#32
  let v139 : BitVec 32 := Scalar.remsi v138 c32_i32_143
  let c1_i32_145 : BitVec 32 := 1#32
  let v140 : BitVec 32 := Scalar.muli v139 c1_i32_145
  let v141 : BitVec 32 := Scalar.addi c0_i32_146 v140
  v141.toNat
def k0_dev28 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v142 : BitVec 32 := Scalar.addi v2 c28_i32
  let c32_i32_147 : BitVec 32 := 32#32
  let v143 : BitVec 32 := Scalar.remsi v142 c32_i32_147
  let c1_i32_149 : BitVec 32 := 1#32
  let v144 : BitVec 32 := Scalar.muli v143 c1_i32_149
  let v145 : BitVec 32 := Scalar.addi c0_i32_150 v144
  v145.toNat
def k0_dev29 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v146 : BitVec 32 := Scalar.addi v2 c29_i32
  let c32_i32_151 : BitVec 32 := 32#32
  let v147 : BitVec 32 := Scalar.remsi v146 c32_i32_151
  let c1_i32_153 : BitVec 32 := 1#32
  let v148 : BitVec 32 := Scalar.muli v147 c1_i32_153
  let v149 : BitVec 32 := Scalar.addi c0_i32_154 v148
  v149.toNat
def k0_dev30 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v150 : BitVec 32 := Scalar.addi v2 c30_i32
  let c32_i32_155 : BitVec 32 := 32#32
  let v151 : BitVec 32 := Scalar.remsi v150 c32_i32_155
  let c1_i32_157 : BitVec 32 := 1#32
  let v152 : BitVec 32 := Scalar.muli v151 c1_i32_157
  let v153 : BitVec 32 := Scalar.addi c0_i32_158 v152
  v153.toNat
def k0_dev31 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v154 : BitVec 32 := Scalar.addi v2 c31_i32
  let c32_i32_159 : BitVec 32 := 32#32
  let v155 : BitVec 32 := Scalar.remsi v154 c32_i32_159
  let c1_i32_161 : BitVec 32 := 1#32
  let v156 : BitVec 32 := Scalar.muli v155 c1_i32_161
  let v157 : BitVec 32 := Scalar.addi c0_i32_162 v156
  v157.toNat
def k0_cond2 (d0 : Dev nD) : BitVec 1 :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v333 : BitVec 32 := Scalar.subi c0_i32_255 v2
  let c32_i32_256 : BitVec 32 := 32#32
  let v334 : BitVec 32 := Scalar.addi v333 c32_i32_256
  let c32_i32_257 : BitVec 32 := 32#32
  let v335 : BitVec 32 := Scalar.remsi v334 c32_i32_257
  let c0_i32_260 : BitVec 32 := 0#32
  let v339 : BitVec 1 := Scalar.cmpi .ne v335 c0_i32_260
  let v340 : BitVec 32 := Scalar.extui v339
  let c0_i32_261 : BitVec 32 := 0#32
  let v341 : BitVec 1 := Scalar.cmpi .ne v340 c0_i32_261
  v341

def k0_off2 (d0 : Dev nD) : Fin 1 → Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v333 : BitVec 32 := Scalar.subi c0_i32_255 v2
  let c32_i32_256 : BitVec 32 := 32#32
  let v334 : BitVec 32 := Scalar.addi v333 c32_i32_256
  let c32_i32_257 : BitVec 32 := 32#32
  let v335 : BitVec 32 := Scalar.remsi v334 c32_i32_257
  ![v335.toNat]
def k0_off3 (d0 : Dev nD) : Fin 3 → Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v333 : BitVec 32 := Scalar.subi c0_i32_255 v2
  let c32_i32_256 : BitVec 32 := 32#32
  let v334 : BitVec 32 := Scalar.addi v333 c32_i32_256
  let c32_i32_257 : BitVec 32 := 32#32
  let v335 : BitVec 32 := Scalar.remsi v334 c32_i32_257
  let c0_i32_2104 : BitVec 32 := 0#32
  let c0_i32_2105 : BitVec 32 := 0#32
  ![v335.toNat, 0, 0]
def k0_dev32 : Nat :=
  let c0_i32_2103 : BitVec 32 := 0#32
  let c0_i32_2101 : BitVec 32 := 0#32
  let c1_i32_2102 : BitVec 32 := 1#32
  let v2246 : BitVec 32 := Scalar.muli c0_i32_2101 c1_i32_2102
  let v2247 : BitVec 32 := Scalar.addi c0_i32_2103 v2246
  v2247.toNat
def k0_cond4 (d0 : Dev nD) : BitVec 1 :=
  let c1_i32_262 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v342 : BitVec 32 := Scalar.subi c1_i32_262 v2
  let c32_i32_263 : BitVec 32 := 32#32
  let v343 : BitVec 32 := Scalar.addi v342 c32_i32_263
  let c32_i32_264 : BitVec 32 := 32#32
  let v344 : BitVec 32 := Scalar.remsi v343 c32_i32_264
  let c0_i32_267 : BitVec 32 := 0#32
  let v348 : BitVec 1 := Scalar.cmpi .ne v344 c0_i32_267
  let v349 : BitVec 32 := Scalar.extui v348
  let c0_i32_268 : BitVec 32 := 0#32
  let v350 : BitVec 1 := Scalar.cmpi .ne v349 c0_i32_268
  v350

def k0_off4 (d0 : Dev nD) : Fin 1 → Nat :=
  let c1_i32_262 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v342 : BitVec 32 := Scalar.subi c1_i32_262 v2
  let c32_i32_263 : BitVec 32 := 32#32
  let v343 : BitVec 32 := Scalar.addi v342 c32_i32_263
  let c32_i32_264 : BitVec 32 := 32#32
  let v344 : BitVec 32 := Scalar.remsi v343 c32_i32_264
  ![v344.toNat]
def k0_off5 (d0 : Dev nD) : Fin 3 → Nat :=
  let c1_i32_262 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v342 : BitVec 32 := Scalar.subi c1_i32_262 v2
  let c32_i32_263 : BitVec 32 := 32#32
  let v343 : BitVec 32 := Scalar.addi v342 c32_i32_263
  let c32_i32_264 : BitVec 32 := 32#32
  let v344 : BitVec 32 := Scalar.remsi v343 c32_i32_264
  let c0_i32_2104 : BitVec 32 := 0#32
  let c0_i32_2105 : BitVec 32 := 0#32
  ![v344.toNat, 0, 0]
def k0_dev33 : Nat :=
  let c0_i32_2103 : BitVec 32 := 0#32
  let c1_i32_2101 : BitVec 32 := 1#32
  let c1_i32_2102 : BitVec 32 := 1#32
  let v2246 : BitVec 32 := Scalar.muli c1_i32_2101 c1_i32_2102
  let v2247 : BitVec 32 := Scalar.addi c0_i32_2103 v2246
  v2247.toNat
def k0_cond6 (d0 : Dev nD) : BitVec 1 :=
  let c2_i32_269 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v351 : BitVec 32 := Scalar.subi c2_i32_269 v2
  let c32_i32_270 : BitVec 32 := 32#32
  let v352 : BitVec 32 := Scalar.addi v351 c32_i32_270
  let c32_i32_271 : BitVec 32 := 32#32
  let v353 : BitVec 32 := Scalar.remsi v352 c32_i32_271
  let c0_i32_274 : BitVec 32 := 0#32
  let v357 : BitVec 1 := Scalar.cmpi .ne v353 c0_i32_274
  let v358 : BitVec 32 := Scalar.extui v357
  let c0_i32_275 : BitVec 32 := 0#32
  let v359 : BitVec 1 := Scalar.cmpi .ne v358 c0_i32_275
  v359

def k0_off6 (d0 : Dev nD) : Fin 1 → Nat :=
  let c2_i32_269 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v351 : BitVec 32 := Scalar.subi c2_i32_269 v2
  let c32_i32_270 : BitVec 32 := 32#32
  let v352 : BitVec 32 := Scalar.addi v351 c32_i32_270
  let c32_i32_271 : BitVec 32 := 32#32
  let v353 : BitVec 32 := Scalar.remsi v352 c32_i32_271
  ![v353.toNat]
def k0_off7 (d0 : Dev nD) : Fin 3 → Nat :=
  let c2_i32_269 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v351 : BitVec 32 := Scalar.subi c2_i32_269 v2
  let c32_i32_270 : BitVec 32 := 32#32
  let v352 : BitVec 32 := Scalar.addi v351 c32_i32_270
  let c32_i32_271 : BitVec 32 := 32#32
  let v353 : BitVec 32 := Scalar.remsi v352 c32_i32_271
  let c0_i32_2104 : BitVec 32 := 0#32
  let c0_i32_2105 : BitVec 32 := 0#32
  ![v353.toNat, 0, 0]
def k0_dev34 : Nat :=
  let c0_i32_2103 : BitVec 32 := 0#32
  let c2_i32_2101 : BitVec 32 := 2#32
  let c1_i32_2102 : BitVec 32 := 1#32
  let v2246 : BitVec 32 := Scalar.muli c2_i32_2101 c1_i32_2102
  let v2247 : BitVec 32 := Scalar.addi c0_i32_2103 v2246
  v2247.toNat
def k0_cond8 (d0 : Dev nD) : BitVec 1 :=
  let c3_i32_276 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v360 : BitVec 32 := Scalar.subi c3_i32_276 v2
  let c32_i32_277 : BitVec 32 := 32#32
  let v361 : BitVec 32 := Scalar.addi v360 c32_i32_277
  let c32_i32_278 : BitVec 32 := 32#32
  let v362 : BitVec 32 := Scalar.remsi v361 c32_i32_278
  let c0_i32_281 : BitVec 32 := 0#32
  let v366 : BitVec 1 := Scalar.cmpi .ne v362 c0_i32_281
  let v367 : BitVec 32 := Scalar.extui v366
  let c0_i32_282 : BitVec 32 := 0#32
  let v368 : BitVec 1 := Scalar.cmpi .ne v367 c0_i32_282
  v368

def k0_off8 (d0 : Dev nD) : Fin 1 → Nat :=
  let c3_i32_276 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v360 : BitVec 32 := Scalar.subi c3_i32_276 v2
  let c32_i32_277 : BitVec 32 := 32#32
  let v361 : BitVec 32 := Scalar.addi v360 c32_i32_277
  let c32_i32_278 : BitVec 32 := 32#32
  let v362 : BitVec 32 := Scalar.remsi v361 c32_i32_278
  ![v362.toNat]
def k0_off9 (d0 : Dev nD) : Fin 3 → Nat :=
  let c3_i32_276 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v360 : BitVec 32 := Scalar.subi c3_i32_276 v2
  let c32_i32_277 : BitVec 32 := 32#32
  let v361 : BitVec 32 := Scalar.addi v360 c32_i32_277
  let c32_i32_278 : BitVec 32 := 32#32
  let v362 : BitVec 32 := Scalar.remsi v361 c32_i32_278
  let c0_i32_2104 : BitVec 32 := 0#32
  let c0_i32_2105 : BitVec 32 := 0#32
  ![v362.toNat, 0, 0]
def k0_dev35 : Nat :=
  let c0_i32_2103 : BitVec 32 := 0#32
  let c3_i32_2101 : BitVec 32 := 3#32
  let c1_i32_2102 : BitVec 32 := 1#32
  let v2246 : BitVec 32 := Scalar.muli c3_i32_2101 c1_i32_2102
  let v2247 : BitVec 32 := Scalar.addi c0_i32_2103 v2246
  v2247.toNat
def k0_cond10 (d0 : Dev nD) : BitVec 1 :=
  let c4_i32_283 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v369 : BitVec 32 := Scalar.subi c4_i32_283 v2
  let c32_i32_284 : BitVec 32 := 32#32
  let v370 : BitVec 32 := Scalar.addi v369 c32_i32_284
  let c32_i32_285 : BitVec 32 := 32#32
  let v371 : BitVec 32 := Scalar.remsi v370 c32_i32_285
  let c0_i32_288 : BitVec 32 := 0#32
  let v375 : BitVec 1 := Scalar.cmpi .ne v371 c0_i32_288
  let v376 : BitVec 32 := Scalar.extui v375
  let c0_i32_289 : BitVec 32 := 0#32
  let v377 : BitVec 1 := Scalar.cmpi .ne v376 c0_i32_289
  v377

def k0_off10 (d0 : Dev nD) : Fin 1 → Nat :=
  let c4_i32_283 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v369 : BitVec 32 := Scalar.subi c4_i32_283 v2
  let c32_i32_284 : BitVec 32 := 32#32
  let v370 : BitVec 32 := Scalar.addi v369 c32_i32_284
  let c32_i32_285 : BitVec 32 := 32#32
  let v371 : BitVec 32 := Scalar.remsi v370 c32_i32_285
  ![v371.toNat]
def k0_off11 (d0 : Dev nD) : Fin 3 → Nat :=
  let c4_i32_283 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v369 : BitVec 32 := Scalar.subi c4_i32_283 v2
  let c32_i32_284 : BitVec 32 := 32#32
  let v370 : BitVec 32 := Scalar.addi v369 c32_i32_284
  let c32_i32_285 : BitVec 32 := 32#32
  let v371 : BitVec 32 := Scalar.remsi v370 c32_i32_285
  let c0_i32_2104 : BitVec 32 := 0#32
  let c0_i32_2105 : BitVec 32 := 0#32
  ![v371.toNat, 0, 0]
def k0_dev36 : Nat :=
  let c0_i32_2103 : BitVec 32 := 0#32
  let c4_i32_2101 : BitVec 32 := 4#32
  let c1_i32_2102 : BitVec 32 := 1#32
  let v2246 : BitVec 32 := Scalar.muli c4_i32_2101 c1_i32_2102
  let v2247 : BitVec 32 := Scalar.addi c0_i32_2103 v2246
  v2247.toNat
def k0_cond12 (d0 : Dev nD) : BitVec 1 :=
  let c5_i32_290 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v378 : BitVec 32 := Scalar.subi c5_i32_290 v2
  let c32_i32_291 : BitVec 32 := 32#32
  let v379 : BitVec 32 := Scalar.addi v378 c32_i32_291
  let c32_i32_292 : BitVec 32 := 32#32
  let v380 : BitVec 32 := Scalar.remsi v379 c32_i32_292
  let c0_i32_295 : BitVec 32 := 0#32
  let v384 : BitVec 1 := Scalar.cmpi .ne v380 c0_i32_295
  let v385 : BitVec 32 := Scalar.extui v384
  let c0_i32_296 : BitVec 32 := 0#32
  let v386 : BitVec 1 := Scalar.cmpi .ne v385 c0_i32_296
  v386

def k0_off12 (d0 : Dev nD) : Fin 1 → Nat :=
  let c5_i32_290 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v378 : BitVec 32 := Scalar.subi c5_i32_290 v2
  let c32_i32_291 : BitVec 32 := 32#32
  let v379 : BitVec 32 := Scalar.addi v378 c32_i32_291
  let c32_i32_292 : BitVec 32 := 32#32
  let v380 : BitVec 32 := Scalar.remsi v379 c32_i32_292
  ![v380.toNat]
def k0_off13 (d0 : Dev nD) : Fin 3 → Nat :=
  let c5_i32_290 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v378 : BitVec 32 := Scalar.subi c5_i32_290 v2
  let c32_i32_291 : BitVec 32 := 32#32
  let v379 : BitVec 32 := Scalar.addi v378 c32_i32_291
  let c32_i32_292 : BitVec 32 := 32#32
  let v380 : BitVec 32 := Scalar.remsi v379 c32_i32_292
  let c0_i32_2104 : BitVec 32 := 0#32
  let c0_i32_2105 : BitVec 32 := 0#32
  ![v380.toNat, 0, 0]
def k0_dev37 : Nat :=
  let c0_i32_2103 : BitVec 32 := 0#32
  let c5_i32_2101 : BitVec 32 := 5#32
  let c1_i32_2102 : BitVec 32 := 1#32
  let v2246 : BitVec 32 := Scalar.muli c5_i32_2101 c1_i32_2102
  let v2247 : BitVec 32 := Scalar.addi c0_i32_2103 v2246
  v2247.toNat
def k0_cond14 (d0 : Dev nD) : BitVec 1 :=
  let c6_i32_297 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v387 : BitVec 32 := Scalar.subi c6_i32_297 v2
  let c32_i32_298 : BitVec 32 := 32#32
  let v388 : BitVec 32 := Scalar.addi v387 c32_i32_298
  let c32_i32_299 : BitVec 32 := 32#32
  let v389 : BitVec 32 := Scalar.remsi v388 c32_i32_299
  let c0_i32_302 : BitVec 32 := 0#32
  let v393 : BitVec 1 := Scalar.cmpi .ne v389 c0_i32_302
  let v394 : BitVec 32 := Scalar.extui v393
  let c0_i32_303 : BitVec 32 := 0#32
  let v395 : BitVec 1 := Scalar.cmpi .ne v394 c0_i32_303
  v395

def k0_off14 (d0 : Dev nD) : Fin 1 → Nat :=
  let c6_i32_297 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v387 : BitVec 32 := Scalar.subi c6_i32_297 v2
  let c32_i32_298 : BitVec 32 := 32#32
  let v388 : BitVec 32 := Scalar.addi v387 c32_i32_298
  let c32_i32_299 : BitVec 32 := 32#32
  let v389 : BitVec 32 := Scalar.remsi v388 c32_i32_299
  ![v389.toNat]
def k0_off15 (d0 : Dev nD) : Fin 3 → Nat :=
  let c6_i32_297 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v387 : BitVec 32 := Scalar.subi c6_i32_297 v2
  let c32_i32_298 : BitVec 32 := 32#32
  let v388 : BitVec 32 := Scalar.addi v387 c32_i32_298
  let c32_i32_299 : BitVec 32 := 32#32
  let v389 : BitVec 32 := Scalar.remsi v388 c32_i32_299
  let c0_i32_2104 : BitVec 32 := 0#32
  let c0_i32_2105 : BitVec 32 := 0#32
  ![v389.toNat, 0, 0]
def k0_dev38 : Nat :=
  let c0_i32_2103 : BitVec 32 := 0#32
  let c6_i32_2101 : BitVec 32 := 6#32
  let c1_i32_2102 : BitVec 32 := 1#32
  let v2246 : BitVec 32 := Scalar.muli c6_i32_2101 c1_i32_2102
  let v2247 : BitVec 32 := Scalar.addi c0_i32_2103 v2246
  v2247.toNat
def k0_cond16 (d0 : Dev nD) : BitVec 1 :=
  let c7_i32_304 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v396 : BitVec 32 := Scalar.subi c7_i32_304 v2
  let c32_i32_305 : BitVec 32 := 32#32
  let v397 : BitVec 32 := Scalar.addi v396 c32_i32_305
  let c32_i32_306 : BitVec 32 := 32#32
  let v398 : BitVec 32 := Scalar.remsi v397 c32_i32_306
  let c0_i32_309 : BitVec 32 := 0#32
  let v402 : BitVec 1 := Scalar.cmpi .ne v398 c0_i32_309
  let v403 : BitVec 32 := Scalar.extui v402
  let c0_i32_310 : BitVec 32 := 0#32
  let v404 : BitVec 1 := Scalar.cmpi .ne v403 c0_i32_310
  v404

def k0_off16 (d0 : Dev nD) : Fin 1 → Nat :=
  let c7_i32_304 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v396 : BitVec 32 := Scalar.subi c7_i32_304 v2
  let c32_i32_305 : BitVec 32 := 32#32
  let v397 : BitVec 32 := Scalar.addi v396 c32_i32_305
  let c32_i32_306 : BitVec 32 := 32#32
  let v398 : BitVec 32 := Scalar.remsi v397 c32_i32_306
  ![v398.toNat]
def k0_off17 (d0 : Dev nD) : Fin 3 → Nat :=
  let c7_i32_304 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v396 : BitVec 32 := Scalar.subi c7_i32_304 v2
  let c32_i32_305 : BitVec 32 := 32#32
  let v397 : BitVec 32 := Scalar.addi v396 c32_i32_305
  let c32_i32_306 : BitVec 32 := 32#32
  let v398 : BitVec 32 := Scalar.remsi v397 c32_i32_306
  let c0_i32_2104 : BitVec 32 := 0#32
  let c0_i32_2105 : BitVec 32 := 0#32
  ![v398.toNat, 0, 0]
def k0_dev39 : Nat :=
  let c0_i32_2103 : BitVec 32 := 0#32
  let c7_i32_2101 : BitVec 32 := 7#32
  let c1_i32_2102 : BitVec 32 := 1#32
  let v2246 : BitVec 32 := Scalar.muli c7_i32_2101 c1_i32_2102
  let v2247 : BitVec 32 := Scalar.addi c0_i32_2103 v2246
  v2247.toNat
def k0_cond18 (d0 : Dev nD) : BitVec 1 :=
  let c8_i32_311 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v405 : BitVec 32 := Scalar.subi c8_i32_311 v2
  let c32_i32_312 : BitVec 32 := 32#32
  let v406 : BitVec 32 := Scalar.addi v405 c32_i32_312
  let c32_i32_313 : BitVec 32 := 32#32
  let v407 : BitVec 32 := Scalar.remsi v406 c32_i32_313
  let c0_i32_316 : BitVec 32 := 0#32
  let v411 : BitVec 1 := Scalar.cmpi .ne v407 c0_i32_316
  let v412 : BitVec 32 := Scalar.extui v411
  let c0_i32_317 : BitVec 32 := 0#32
  let v413 : BitVec 1 := Scalar.cmpi .ne v412 c0_i32_317
  v413

def k0_off18 (d0 : Dev nD) : Fin 1 → Nat :=
  let c8_i32_311 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v405 : BitVec 32 := Scalar.subi c8_i32_311 v2
  let c32_i32_312 : BitVec 32 := 32#32
  let v406 : BitVec 32 := Scalar.addi v405 c32_i32_312
  let c32_i32_313 : BitVec 32 := 32#32
  let v407 : BitVec 32 := Scalar.remsi v406 c32_i32_313
  ![v407.toNat]
def k0_off19 (d0 : Dev nD) : Fin 3 → Nat :=
  let c8_i32_311 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v405 : BitVec 32 := Scalar.subi c8_i32_311 v2
  let c32_i32_312 : BitVec 32 := 32#32
  let v406 : BitVec 32 := Scalar.addi v405 c32_i32_312
  let c32_i32_313 : BitVec 32 := 32#32
  let v407 : BitVec 32 := Scalar.remsi v406 c32_i32_313
  let c0_i32_2104 : BitVec 32 := 0#32
  let c0_i32_2105 : BitVec 32 := 0#32
  ![v407.toNat, 0, 0]
def k0_dev40 : Nat :=
  let c0_i32_2103 : BitVec 32 := 0#32
  let c8_i32_2101 : BitVec 32 := 8#32
  let c1_i32_2102 : BitVec 32 := 1#32
  let v2246 : BitVec 32 := Scalar.muli c8_i32_2101 c1_i32_2102
  let v2247 : BitVec 32 := Scalar.addi c0_i32_2103 v2246
  v2247.toNat
def k0_cond20 (d0 : Dev nD) : BitVec 1 :=
  let c9_i32_318 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v414 : BitVec 32 := Scalar.subi c9_i32_318 v2
  let c32_i32_319 : BitVec 32 := 32#32
  let v415 : BitVec 32 := Scalar.addi v414 c32_i32_319
  let c32_i32_320 : BitVec 32 := 32#32
  let v416 : BitVec 32 := Scalar.remsi v415 c32_i32_320
  let c0_i32_323 : BitVec 32 := 0#32
  let v420 : BitVec 1 := Scalar.cmpi .ne v416 c0_i32_323
  let v421 : BitVec 32 := Scalar.extui v420
  let c0_i32_324 : BitVec 32 := 0#32
  let v422 : BitVec 1 := Scalar.cmpi .ne v421 c0_i32_324
  v422

def k0_off20 (d0 : Dev nD) : Fin 1 → Nat :=
  let c9_i32_318 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v414 : BitVec 32 := Scalar.subi c9_i32_318 v2
  let c32_i32_319 : BitVec 32 := 32#32
  let v415 : BitVec 32 := Scalar.addi v414 c32_i32_319
  let c32_i32_320 : BitVec 32 := 32#32
  let v416 : BitVec 32 := Scalar.remsi v415 c32_i32_320
  ![v416.toNat]
def k0_off21 (d0 : Dev nD) : Fin 3 → Nat :=
  let c9_i32_318 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v414 : BitVec 32 := Scalar.subi c9_i32_318 v2
  let c32_i32_319 : BitVec 32 := 32#32
  let v415 : BitVec 32 := Scalar.addi v414 c32_i32_319
  let c32_i32_320 : BitVec 32 := 32#32
  let v416 : BitVec 32 := Scalar.remsi v415 c32_i32_320
  let c0_i32_2104 : BitVec 32 := 0#32
  let c0_i32_2105 : BitVec 32 := 0#32
  ![v416.toNat, 0, 0]
def k0_dev41 : Nat :=
  let c0_i32_2103 : BitVec 32 := 0#32
  let c9_i32_2101 : BitVec 32 := 9#32
  let c1_i32_2102 : BitVec 32 := 1#32
  let v2246 : BitVec 32 := Scalar.muli c9_i32_2101 c1_i32_2102
  let v2247 : BitVec 32 := Scalar.addi c0_i32_2103 v2246
  v2247.toNat
def k0_cond22 (d0 : Dev nD) : BitVec 1 :=
  let c10_i32_325 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v423 : BitVec 32 := Scalar.subi c10_i32_325 v2
  let c32_i32_326 : BitVec 32 := 32#32
  let v424 : BitVec 32 := Scalar.addi v423 c32_i32_326
  let c32_i32_327 : BitVec 32 := 32#32
  let v425 : BitVec 32 := Scalar.remsi v424 c32_i32_327
  let c0_i32_330 : BitVec 32 := 0#32
  let v429 : BitVec 1 := Scalar.cmpi .ne v425 c0_i32_330
  let v430 : BitVec 32 := Scalar.extui v429
  let c0_i32_331 : BitVec 32 := 0#32
  let v431 : BitVec 1 := Scalar.cmpi .ne v430 c0_i32_331
  v431

def k0_off22 (d0 : Dev nD) : Fin 1 → Nat :=
  let c10_i32_325 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v423 : BitVec 32 := Scalar.subi c10_i32_325 v2
  let c32_i32_326 : BitVec 32 := 32#32
  let v424 : BitVec 32 := Scalar.addi v423 c32_i32_326
  let c32_i32_327 : BitVec 32 := 32#32
  let v425 : BitVec 32 := Scalar.remsi v424 c32_i32_327
  ![v425.toNat]
def k0_off23 (d0 : Dev nD) : Fin 3 → Nat :=
  let c10_i32_325 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v423 : BitVec 32 := Scalar.subi c10_i32_325 v2
  let c32_i32_326 : BitVec 32 := 32#32
  let v424 : BitVec 32 := Scalar.addi v423 c32_i32_326
  let c32_i32_327 : BitVec 32 := 32#32
  let v425 : BitVec 32 := Scalar.remsi v424 c32_i32_327
  let c0_i32_2104 : BitVec 32 := 0#32
  let c0_i32_2105 : BitVec 32 := 0#32
  ![v425.toNat, 0, 0]
def k0_dev42 : Nat :=
  let c0_i32_2103 : BitVec 32 := 0#32
  let c10_i32_2101 : BitVec 32 := 10#32
  let c1_i32_2102 : BitVec 32 := 1#32
  let v2246 : BitVec 32 := Scalar.muli c10_i32_2101 c1_i32_2102
  let v2247 : BitVec 32 := Scalar.addi c0_i32_2103 v2246
  v2247.toNat
def k0_cond24 (d0 : Dev nD) : BitVec 1 :=
  let c11_i32_332 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v432 : BitVec 32 := Scalar.subi c11_i32_332 v2
  let c32_i32_333 : BitVec 32 := 32#32
  let v433 : BitVec 32 := Scalar.addi v432 c32_i32_333
  let c32_i32_334 : BitVec 32 := 32#32
  let v434 : BitVec 32 := Scalar.remsi v433 c32_i32_334
  let c0_i32_337 : BitVec 32 := 0#32
  let v438 : BitVec 1 := Scalar.cmpi .ne v434 c0_i32_337
  let v439 : BitVec 32 := Scalar.extui v438
  let c0_i32_338 : BitVec 32 := 0#32
  let v440 : BitVec 1 := Scalar.cmpi .ne v439 c0_i32_338
  v440

def k0_off24 (d0 : Dev nD) : Fin 1 → Nat :=
  let c11_i32_332 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v432 : BitVec 32 := Scalar.subi c11_i32_332 v2
  let c32_i32_333 : BitVec 32 := 32#32
  let v433 : BitVec 32 := Scalar.addi v432 c32_i32_333
  let c32_i32_334 : BitVec 32 := 32#32
  let v434 : BitVec 32 := Scalar.remsi v433 c32_i32_334
  ![v434.toNat]
def k0_off25 (d0 : Dev nD) : Fin 3 → Nat :=
  let c11_i32_332 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v432 : BitVec 32 := Scalar.subi c11_i32_332 v2
  let c32_i32_333 : BitVec 32 := 32#32
  let v433 : BitVec 32 := Scalar.addi v432 c32_i32_333
  let c32_i32_334 : BitVec 32 := 32#32
  let v434 : BitVec 32 := Scalar.remsi v433 c32_i32_334
  let c0_i32_2104 : BitVec 32 := 0#32
  let c0_i32_2105 : BitVec 32 := 0#32
  ![v434.toNat, 0, 0]
def k0_dev43 : Nat :=
  let c0_i32_2103 : BitVec 32 := 0#32
  let c11_i32_2101 : BitVec 32 := 11#32
  let c1_i32_2102 : BitVec 32 := 1#32
  let v2246 : BitVec 32 := Scalar.muli c11_i32_2101 c1_i32_2102
  let v2247 : BitVec 32 := Scalar.addi c0_i32_2103 v2246
  v2247.toNat
def k0_cond26 (d0 : Dev nD) : BitVec 1 :=
  let c12_i32_339 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v441 : BitVec 32 := Scalar.subi c12_i32_339 v2
  let c32_i32_340 : BitVec 32 := 32#32
  let v442 : BitVec 32 := Scalar.addi v441 c32_i32_340
  let c32_i32_341 : BitVec 32 := 32#32
  let v443 : BitVec 32 := Scalar.remsi v442 c32_i32_341
  let c0_i32_344 : BitVec 32 := 0#32
  let v447 : BitVec 1 := Scalar.cmpi .ne v443 c0_i32_344
  let v448 : BitVec 32 := Scalar.extui v447
  let c0_i32_345 : BitVec 32 := 0#32
  let v449 : BitVec 1 := Scalar.cmpi .ne v448 c0_i32_345
  v449

def k0_off26 (d0 : Dev nD) : Fin 1 → Nat :=
  let c12_i32_339 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v441 : BitVec 32 := Scalar.subi c12_i32_339 v2
  let c32_i32_340 : BitVec 32 := 32#32
  let v442 : BitVec 32 := Scalar.addi v441 c32_i32_340
  let c32_i32_341 : BitVec 32 := 32#32
  let v443 : BitVec 32 := Scalar.remsi v442 c32_i32_341
  ![v443.toNat]
def k0_off27 (d0 : Dev nD) : Fin 3 → Nat :=
  let c12_i32_339 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v441 : BitVec 32 := Scalar.subi c12_i32_339 v2
  let c32_i32_340 : BitVec 32 := 32#32
  let v442 : BitVec 32 := Scalar.addi v441 c32_i32_340
  let c32_i32_341 : BitVec 32 := 32#32
  let v443 : BitVec 32 := Scalar.remsi v442 c32_i32_341
  let c0_i32_2104 : BitVec 32 := 0#32
  let c0_i32_2105 : BitVec 32 := 0#32
  ![v443.toNat, 0, 0]
def k0_dev44 : Nat :=
  let c0_i32_2103 : BitVec 32 := 0#32
  let c12_i32_2101 : BitVec 32 := 12#32
  let c1_i32_2102 : BitVec 32 := 1#32
  let v2246 : BitVec 32 := Scalar.muli c12_i32_2101 c1_i32_2102
  let v2247 : BitVec 32 := Scalar.addi c0_i32_2103 v2246
  v2247.toNat
def k0_cond28 (d0 : Dev nD) : BitVec 1 :=
  let c13_i32_346 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v450 : BitVec 32 := Scalar.subi c13_i32_346 v2
  let c32_i32_347 : BitVec 32 := 32#32
  let v451 : BitVec 32 := Scalar.addi v450 c32_i32_347
  let c32_i32_348 : BitVec 32 := 32#32
  let v452 : BitVec 32 := Scalar.remsi v451 c32_i32_348
  let c0_i32_351 : BitVec 32 := 0#32
  let v456 : BitVec 1 := Scalar.cmpi .ne v452 c0_i32_351
  let v457 : BitVec 32 := Scalar.extui v456
  let c0_i32_352 : BitVec 32 := 0#32
  let v458 : BitVec 1 := Scalar.cmpi .ne v457 c0_i32_352
  v458

def k0_off28 (d0 : Dev nD) : Fin 1 → Nat :=
  let c13_i32_346 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v450 : BitVec 32 := Scalar.subi c13_i32_346 v2
  let c32_i32_347 : BitVec 32 := 32#32
  let v451 : BitVec 32 := Scalar.addi v450 c32_i32_347
  let c32_i32_348 : BitVec 32 := 32#32
  let v452 : BitVec 32 := Scalar.remsi v451 c32_i32_348
  ![v452.toNat]
def k0_off29 (d0 : Dev nD) : Fin 3 → Nat :=
  let c13_i32_346 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v450 : BitVec 32 := Scalar.subi c13_i32_346 v2
  let c32_i32_347 : BitVec 32 := 32#32
  let v451 : BitVec 32 := Scalar.addi v450 c32_i32_347
  let c32_i32_348 : BitVec 32 := 32#32
  let v452 : BitVec 32 := Scalar.remsi v451 c32_i32_348
  let c0_i32_2104 : BitVec 32 := 0#32
  let c0_i32_2105 : BitVec 32 := 0#32
  ![v452.toNat, 0, 0]
def k0_dev45 : Nat :=
  let c0_i32_2103 : BitVec 32 := 0#32
  let c13_i32_2101 : BitVec 32 := 13#32
  let c1_i32_2102 : BitVec 32 := 1#32
  let v2246 : BitVec 32 := Scalar.muli c13_i32_2101 c1_i32_2102
  let v2247 : BitVec 32 := Scalar.addi c0_i32_2103 v2246
  v2247.toNat
def k0_cond30 (d0 : Dev nD) : BitVec 1 :=
  let c14_i32_353 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v459 : BitVec 32 := Scalar.subi c14_i32_353 v2
  let c32_i32_354 : BitVec 32 := 32#32
  let v460 : BitVec 32 := Scalar.addi v459 c32_i32_354
  let c32_i32_355 : BitVec 32 := 32#32
  let v461 : BitVec 32 := Scalar.remsi v460 c32_i32_355
  let c0_i32_358 : BitVec 32 := 0#32
  let v465 : BitVec 1 := Scalar.cmpi .ne v461 c0_i32_358
  let v466 : BitVec 32 := Scalar.extui v465
  let c0_i32_359 : BitVec 32 := 0#32
  let v467 : BitVec 1 := Scalar.cmpi .ne v466 c0_i32_359
  v467

def k0_off30 (d0 : Dev nD) : Fin 1 → Nat :=
  let c14_i32_353 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v459 : BitVec 32 := Scalar.subi c14_i32_353 v2
  let c32_i32_354 : BitVec 32 := 32#32
  let v460 : BitVec 32 := Scalar.addi v459 c32_i32_354
  let c32_i32_355 : BitVec 32 := 32#32
  let v461 : BitVec 32 := Scalar.remsi v460 c32_i32_355
  ![v461.toNat]
def k0_off31 (d0 : Dev nD) : Fin 3 → Nat :=
  let c14_i32_353 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v459 : BitVec 32 := Scalar.subi c14_i32_353 v2
  let c32_i32_354 : BitVec 32 := 32#32
  let v460 : BitVec 32 := Scalar.addi v459 c32_i32_354
  let c32_i32_355 : BitVec 32 := 32#32
  let v461 : BitVec 32 := Scalar.remsi v460 c32_i32_355
  let c0_i32_2104 : BitVec 32 := 0#32
  let c0_i32_2105 : BitVec 32 := 0#32
  ![v461.toNat, 0, 0]
def k0_dev46 : Nat :=
  let c0_i32_2103 : BitVec 32 := 0#32
  let c14_i32_2101 : BitVec 32 := 14#32
  let c1_i32_2102 : BitVec 32 := 1#32
  let v2246 : BitVec 32 := Scalar.muli c14_i32_2101 c1_i32_2102
  let v2247 : BitVec 32 := Scalar.addi c0_i32_2103 v2246
  v2247.toNat
def k0_cond32 (d0 : Dev nD) : BitVec 1 :=
  let c15_i32_360 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v468 : BitVec 32 := Scalar.subi c15_i32_360 v2
  let c32_i32_361 : BitVec 32 := 32#32
  let v469 : BitVec 32 := Scalar.addi v468 c32_i32_361
  let c32_i32_362 : BitVec 32 := 32#32
  let v470 : BitVec 32 := Scalar.remsi v469 c32_i32_362
  let c0_i32_365 : BitVec 32 := 0#32
  let v474 : BitVec 1 := Scalar.cmpi .ne v470 c0_i32_365
  let v475 : BitVec 32 := Scalar.extui v474
  let c0_i32_366 : BitVec 32 := 0#32
  let v476 : BitVec 1 := Scalar.cmpi .ne v475 c0_i32_366
  v476

def k0_off32 (d0 : Dev nD) : Fin 1 → Nat :=
  let c15_i32_360 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v468 : BitVec 32 := Scalar.subi c15_i32_360 v2
  let c32_i32_361 : BitVec 32 := 32#32
  let v469 : BitVec 32 := Scalar.addi v468 c32_i32_361
  let c32_i32_362 : BitVec 32 := 32#32
  let v470 : BitVec 32 := Scalar.remsi v469 c32_i32_362
  ![v470.toNat]
def k0_off33 (d0 : Dev nD) : Fin 3 → Nat :=
  let c15_i32_360 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v468 : BitVec 32 := Scalar.subi c15_i32_360 v2
  let c32_i32_361 : BitVec 32 := 32#32
  let v469 : BitVec 32 := Scalar.addi v468 c32_i32_361
  let c32_i32_362 : BitVec 32 := 32#32
  let v470 : BitVec 32 := Scalar.remsi v469 c32_i32_362
  let c0_i32_2104 : BitVec 32 := 0#32
  let c0_i32_2105 : BitVec 32 := 0#32
  ![v470.toNat, 0, 0]
def k0_dev47 : Nat :=
  let c0_i32_2103 : BitVec 32 := 0#32
  let c15_i32_2101 : BitVec 32 := 15#32
  let c1_i32_2102 : BitVec 32 := 1#32
  let v2246 : BitVec 32 := Scalar.muli c15_i32_2101 c1_i32_2102
  let v2247 : BitVec 32 := Scalar.addi c0_i32_2103 v2246
  v2247.toNat
def k0_cond34 (d0 : Dev nD) : BitVec 1 :=
  let c16_i32_367 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v477 : BitVec 32 := Scalar.subi c16_i32_367 v2
  let c32_i32_368 : BitVec 32 := 32#32
  let v478 : BitVec 32 := Scalar.addi v477 c32_i32_368
  let c32_i32_369 : BitVec 32 := 32#32
  let v479 : BitVec 32 := Scalar.remsi v478 c32_i32_369
  let c0_i32_372 : BitVec 32 := 0#32
  let v483 : BitVec 1 := Scalar.cmpi .ne v479 c0_i32_372
  let v484 : BitVec 32 := Scalar.extui v483
  let c0_i32_373 : BitVec 32 := 0#32
  let v485 : BitVec 1 := Scalar.cmpi .ne v484 c0_i32_373
  v485

def k0_off34 (d0 : Dev nD) : Fin 1 → Nat :=
  let c16_i32_367 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v477 : BitVec 32 := Scalar.subi c16_i32_367 v2
  let c32_i32_368 : BitVec 32 := 32#32
  let v478 : BitVec 32 := Scalar.addi v477 c32_i32_368
  let c32_i32_369 : BitVec 32 := 32#32
  let v479 : BitVec 32 := Scalar.remsi v478 c32_i32_369
  ![v479.toNat]
def k0_off35 (d0 : Dev nD) : Fin 3 → Nat :=
  let c16_i32_367 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v477 : BitVec 32 := Scalar.subi c16_i32_367 v2
  let c32_i32_368 : BitVec 32 := 32#32
  let v478 : BitVec 32 := Scalar.addi v477 c32_i32_368
  let c32_i32_369 : BitVec 32 := 32#32
  let v479 : BitVec 32 := Scalar.remsi v478 c32_i32_369
  let c0_i32_2104 : BitVec 32 := 0#32
  let c0_i32_2105 : BitVec 32 := 0#32
  ![v479.toNat, 0, 0]
def k0_dev48 : Nat :=
  let c0_i32_2103 : BitVec 32 := 0#32
  let c16_i32_2101 : BitVec 32 := 16#32
  let c1_i32_2102 : BitVec 32 := 1#32
  let v2246 : BitVec 32 := Scalar.muli c16_i32_2101 c1_i32_2102
  let v2247 : BitVec 32 := Scalar.addi c0_i32_2103 v2246
  v2247.toNat
def k0_cond36 (d0 : Dev nD) : BitVec 1 :=
  let c17_i32_374 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v486 : BitVec 32 := Scalar.subi c17_i32_374 v2
  let c32_i32_375 : BitVec 32 := 32#32
  let v487 : BitVec 32 := Scalar.addi v486 c32_i32_375
  let c32_i32_376 : BitVec 32 := 32#32
  let v488 : BitVec 32 := Scalar.remsi v487 c32_i32_376
  let c0_i32_379 : BitVec 32 := 0#32
  let v492 : BitVec 1 := Scalar.cmpi .ne v488 c0_i32_379
  let v493 : BitVec 32 := Scalar.extui v492
  let c0_i32_380 : BitVec 32 := 0#32
  let v494 : BitVec 1 := Scalar.cmpi .ne v493 c0_i32_380
  v494

def k0_off36 (d0 : Dev nD) : Fin 1 → Nat :=
  let c17_i32_374 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v486 : BitVec 32 := Scalar.subi c17_i32_374 v2
  let c32_i32_375 : BitVec 32 := 32#32
  let v487 : BitVec 32 := Scalar.addi v486 c32_i32_375
  let c32_i32_376 : BitVec 32 := 32#32
  let v488 : BitVec 32 := Scalar.remsi v487 c32_i32_376
  ![v488.toNat]
def k0_off37 (d0 : Dev nD) : Fin 3 → Nat :=
  let c17_i32_374 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v486 : BitVec 32 := Scalar.subi c17_i32_374 v2
  let c32_i32_375 : BitVec 32 := 32#32
  let v487 : BitVec 32 := Scalar.addi v486 c32_i32_375
  let c32_i32_376 : BitVec 32 := 32#32
  let v488 : BitVec 32 := Scalar.remsi v487 c32_i32_376
  let c0_i32_2104 : BitVec 32 := 0#32
  let c0_i32_2105 : BitVec 32 := 0#32
  ![v488.toNat, 0, 0]
def k0_dev49 : Nat :=
  let c0_i32_2103 : BitVec 32 := 0#32
  let c17_i32_2101 : BitVec 32 := 17#32
  let c1_i32_2102 : BitVec 32 := 1#32
  let v2246 : BitVec 32 := Scalar.muli c17_i32_2101 c1_i32_2102
  let v2247 : BitVec 32 := Scalar.addi c0_i32_2103 v2246
  v2247.toNat
def k0_cond38 (d0 : Dev nD) : BitVec 1 :=
  let c18_i32_381 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v495 : BitVec 32 := Scalar.subi c18_i32_381 v2
  let c32_i32_382 : BitVec 32 := 32#32
  let v496 : BitVec 32 := Scalar.addi v495 c32_i32_382
  let c32_i32_383 : BitVec 32 := 32#32
  let v497 : BitVec 32 := Scalar.remsi v496 c32_i32_383
  let c0_i32_386 : BitVec 32 := 0#32
  let v501 : BitVec 1 := Scalar.cmpi .ne v497 c0_i32_386
  let v502 : BitVec 32 := Scalar.extui v501
  let c0_i32_387 : BitVec 32 := 0#32
  let v503 : BitVec 1 := Scalar.cmpi .ne v502 c0_i32_387
  v503

def k0_off38 (d0 : Dev nD) : Fin 1 → Nat :=
  let c18_i32_381 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v495 : BitVec 32 := Scalar.subi c18_i32_381 v2
  let c32_i32_382 : BitVec 32 := 32#32
  let v496 : BitVec 32 := Scalar.addi v495 c32_i32_382
  let c32_i32_383 : BitVec 32 := 32#32
  let v497 : BitVec 32 := Scalar.remsi v496 c32_i32_383
  ![v497.toNat]
def k0_off39 (d0 : Dev nD) : Fin 3 → Nat :=
  let c18_i32_381 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v495 : BitVec 32 := Scalar.subi c18_i32_381 v2
  let c32_i32_382 : BitVec 32 := 32#32
  let v496 : BitVec 32 := Scalar.addi v495 c32_i32_382
  let c32_i32_383 : BitVec 32 := 32#32
  let v497 : BitVec 32 := Scalar.remsi v496 c32_i32_383
  let c0_i32_2104 : BitVec 32 := 0#32
  let c0_i32_2105 : BitVec 32 := 0#32
  ![v497.toNat, 0, 0]
def k0_dev50 : Nat :=
  let c0_i32_2103 : BitVec 32 := 0#32
  let c18_i32_2101 : BitVec 32 := 18#32
  let c1_i32_2102 : BitVec 32 := 1#32
  let v2246 : BitVec 32 := Scalar.muli c18_i32_2101 c1_i32_2102
  let v2247 : BitVec 32 := Scalar.addi c0_i32_2103 v2246
  v2247.toNat
def k0_cond40 (d0 : Dev nD) : BitVec 1 :=
  let c19_i32_388 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v504 : BitVec 32 := Scalar.subi c19_i32_388 v2
  let c32_i32_389 : BitVec 32 := 32#32
  let v505 : BitVec 32 := Scalar.addi v504 c32_i32_389
  let c32_i32_390 : BitVec 32 := 32#32
  let v506 : BitVec 32 := Scalar.remsi v505 c32_i32_390
  let c0_i32_393 : BitVec 32 := 0#32
  let v510 : BitVec 1 := Scalar.cmpi .ne v506 c0_i32_393
  let v511 : BitVec 32 := Scalar.extui v510
  let c0_i32_394 : BitVec 32 := 0#32
  let v512 : BitVec 1 := Scalar.cmpi .ne v511 c0_i32_394
  v512

def k0_off40 (d0 : Dev nD) : Fin 1 → Nat :=
  let c19_i32_388 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v504 : BitVec 32 := Scalar.subi c19_i32_388 v2
  let c32_i32_389 : BitVec 32 := 32#32
  let v505 : BitVec 32 := Scalar.addi v504 c32_i32_389
  let c32_i32_390 : BitVec 32 := 32#32
  let v506 : BitVec 32 := Scalar.remsi v505 c32_i32_390
  ![v506.toNat]
def k0_off41 (d0 : Dev nD) : Fin 3 → Nat :=
  let c19_i32_388 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v504 : BitVec 32 := Scalar.subi c19_i32_388 v2
  let c32_i32_389 : BitVec 32 := 32#32
  let v505 : BitVec 32 := Scalar.addi v504 c32_i32_389
  let c32_i32_390 : BitVec 32 := 32#32
  let v506 : BitVec 32 := Scalar.remsi v505 c32_i32_390
  let c0_i32_2104 : BitVec 32 := 0#32
  let c0_i32_2105 : BitVec 32 := 0#32
  ![v506.toNat, 0, 0]
def k0_dev51 : Nat :=
  let c0_i32_2103 : BitVec 32 := 0#32
  let c19_i32_2101 : BitVec 32 := 19#32
  let c1_i32_2102 : BitVec 32 := 1#32
  let v2246 : BitVec 32 := Scalar.muli c19_i32_2101 c1_i32_2102
  let v2247 : BitVec 32 := Scalar.addi c0_i32_2103 v2246
  v2247.toNat
def k0_cond42 (d0 : Dev nD) : BitVec 1 :=
  let c20_i32_395 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v513 : BitVec 32 := Scalar.subi c20_i32_395 v2
  let c32_i32_396 : BitVec 32 := 32#32
  let v514 : BitVec 32 := Scalar.addi v513 c32_i32_396
  let c32_i32_397 : BitVec 32 := 32#32
  let v515 : BitVec 32 := Scalar.remsi v514 c32_i32_397
  let c0_i32_400 : BitVec 32 := 0#32
  let v519 : BitVec 1 := Scalar.cmpi .ne v515 c0_i32_400
  let v520 : BitVec 32 := Scalar.extui v519
  let c0_i32_401 : BitVec 32 := 0#32
  let v521 : BitVec 1 := Scalar.cmpi .ne v520 c0_i32_401
  v521

def k0_off42 (d0 : Dev nD) : Fin 1 → Nat :=
  let c20_i32_395 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v513 : BitVec 32 := Scalar.subi c20_i32_395 v2
  let c32_i32_396 : BitVec 32 := 32#32
  let v514 : BitVec 32 := Scalar.addi v513 c32_i32_396
  let c32_i32_397 : BitVec 32 := 32#32
  let v515 : BitVec 32 := Scalar.remsi v514 c32_i32_397
  ![v515.toNat]
def k0_off43 (d0 : Dev nD) : Fin 3 → Nat :=
  let c20_i32_395 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v513 : BitVec 32 := Scalar.subi c20_i32_395 v2
  let c32_i32_396 : BitVec 32 := 32#32
  let v514 : BitVec 32 := Scalar.addi v513 c32_i32_396
  let c32_i32_397 : BitVec 32 := 32#32
  let v515 : BitVec 32 := Scalar.remsi v514 c32_i32_397
  let c0_i32_2104 : BitVec 32 := 0#32
  let c0_i32_2105 : BitVec 32 := 0#32
  ![v515.toNat, 0, 0]
def k0_dev52 : Nat :=
  let c0_i32_2103 : BitVec 32 := 0#32
  let c20_i32_2101 : BitVec 32 := 20#32
  let c1_i32_2102 : BitVec 32 := 1#32
  let v2246 : BitVec 32 := Scalar.muli c20_i32_2101 c1_i32_2102
  let v2247 : BitVec 32 := Scalar.addi c0_i32_2103 v2246
  v2247.toNat
def k0_cond44 (d0 : Dev nD) : BitVec 1 :=
  let c21_i32_402 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : BitVec 32 := Scalar.subi c21_i32_402 v2
  let c32_i32_403 : BitVec 32 := 32#32
  let v523 : BitVec 32 := Scalar.addi v522 c32_i32_403
  let c32_i32_404 : BitVec 32 := 32#32
  let v524 : BitVec 32 := Scalar.remsi v523 c32_i32_404
  let c0_i32_407 : BitVec 32 := 0#32
  let v528 : BitVec 1 := Scalar.cmpi .ne v524 c0_i32_407
  let v529 : BitVec 32 := Scalar.extui v528
  let c0_i32_408 : BitVec 32 := 0#32
  let v530 : BitVec 1 := Scalar.cmpi .ne v529 c0_i32_408
  v530

def k0_off44 (d0 : Dev nD) : Fin 1 → Nat :=
  let c21_i32_402 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : BitVec 32 := Scalar.subi c21_i32_402 v2
  let c32_i32_403 : BitVec 32 := 32#32
  let v523 : BitVec 32 := Scalar.addi v522 c32_i32_403
  let c32_i32_404 : BitVec 32 := 32#32
  let v524 : BitVec 32 := Scalar.remsi v523 c32_i32_404
  ![v524.toNat]
def k0_off45 (d0 : Dev nD) : Fin 3 → Nat :=
  let c21_i32_402 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : BitVec 32 := Scalar.subi c21_i32_402 v2
  let c32_i32_403 : BitVec 32 := 32#32
  let v523 : BitVec 32 := Scalar.addi v522 c32_i32_403
  let c32_i32_404 : BitVec 32 := 32#32
  let v524 : BitVec 32 := Scalar.remsi v523 c32_i32_404
  let c0_i32_2104 : BitVec 32 := 0#32
  let c0_i32_2105 : BitVec 32 := 0#32
  ![v524.toNat, 0, 0]
def k0_dev53 : Nat :=
  let c0_i32_2103 : BitVec 32 := 0#32
  let c21_i32_2101 : BitVec 32 := 21#32
  let c1_i32_2102 : BitVec 32 := 1#32
  let v2246 : BitVec 32 := Scalar.muli c21_i32_2101 c1_i32_2102
  let v2247 : BitVec 32 := Scalar.addi c0_i32_2103 v2246
  v2247.toNat
def k0_cond46 (d0 : Dev nD) : BitVec 1 :=
  let c22_i32_409 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v531 : BitVec 32 := Scalar.subi c22_i32_409 v2
  let c32_i32_410 : BitVec 32 := 32#32
  let v532 : BitVec 32 := Scalar.addi v531 c32_i32_410
  let c32_i32_411 : BitVec 32 := 32#32
  let v533 : BitVec 32 := Scalar.remsi v532 c32_i32_411
  let c0_i32_414 : BitVec 32 := 0#32
  let v537 : BitVec 1 := Scalar.cmpi .ne v533 c0_i32_414
  let v538 : BitVec 32 := Scalar.extui v537
  let c0_i32_415 : BitVec 32 := 0#32
  let v539 : BitVec 1 := Scalar.cmpi .ne v538 c0_i32_415
  v539

def k0_off46 (d0 : Dev nD) : Fin 1 → Nat :=
  let c22_i32_409 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v531 : BitVec 32 := Scalar.subi c22_i32_409 v2
  let c32_i32_410 : BitVec 32 := 32#32
  let v532 : BitVec 32 := Scalar.addi v531 c32_i32_410
  let c32_i32_411 : BitVec 32 := 32#32
  let v533 : BitVec 32 := Scalar.remsi v532 c32_i32_411
  ![v533.toNat]
def k0_off47 (d0 : Dev nD) : Fin 3 → Nat :=
  let c22_i32_409 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v531 : BitVec 32 := Scalar.subi c22_i32_409 v2
  let c32_i32_410 : BitVec 32 := 32#32
  let v532 : BitVec 32 := Scalar.addi v531 c32_i32_410
  let c32_i32_411 : BitVec 32 := 32#32
  let v533 : BitVec 32 := Scalar.remsi v532 c32_i32_411
  let c0_i32_2104 : BitVec 32 := 0#32
  let c0_i32_2105 : BitVec 32 := 0#32
  ![v533.toNat, 0, 0]
def k0_dev54 : Nat :=
  let c0_i32_2103 : BitVec 32 := 0#32
  let c22_i32_2101 : BitVec 32 := 22#32
  let c1_i32_2102 : BitVec 32 := 1#32
  let v2246 : BitVec 32 := Scalar.muli c22_i32_2101 c1_i32_2102
  let v2247 : BitVec 32 := Scalar.addi c0_i32_2103 v2246
  v2247.toNat
def k0_cond48 (d0 : Dev nD) : BitVec 1 :=
  let c23_i32_416 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v540 : BitVec 32 := Scalar.subi c23_i32_416 v2
  let c32_i32_417 : BitVec 32 := 32#32
  let v541 : BitVec 32 := Scalar.addi v540 c32_i32_417
  let c32_i32_418 : BitVec 32 := 32#32
  let v542 : BitVec 32 := Scalar.remsi v541 c32_i32_418
  let c0_i32_421 : BitVec 32 := 0#32
  let v546 : BitVec 1 := Scalar.cmpi .ne v542 c0_i32_421
  let v547 : BitVec 32 := Scalar.extui v546
  let c0_i32_422 : BitVec 32 := 0#32
  let v548 : BitVec 1 := Scalar.cmpi .ne v547 c0_i32_422
  v548

def k0_off48 (d0 : Dev nD) : Fin 1 → Nat :=
  let c23_i32_416 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v540 : BitVec 32 := Scalar.subi c23_i32_416 v2
  let c32_i32_417 : BitVec 32 := 32#32
  let v541 : BitVec 32 := Scalar.addi v540 c32_i32_417
  let c32_i32_418 : BitVec 32 := 32#32
  let v542 : BitVec 32 := Scalar.remsi v541 c32_i32_418
  ![v542.toNat]
def k0_off49 (d0 : Dev nD) : Fin 3 → Nat :=
  let c23_i32_416 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v540 : BitVec 32 := Scalar.subi c23_i32_416 v2
  let c32_i32_417 : BitVec 32 := 32#32
  let v541 : BitVec 32 := Scalar.addi v540 c32_i32_417
  let c32_i32_418 : BitVec 32 := 32#32
  let v542 : BitVec 32 := Scalar.remsi v541 c32_i32_418
  let c0_i32_2104 : BitVec 32 := 0#32
  let c0_i32_2105 : BitVec 32 := 0#32
  ![v542.toNat, 0, 0]
def k0_dev55 : Nat :=
  let c0_i32_2103 : BitVec 32 := 0#32
  let c23_i32_2101 : BitVec 32 := 23#32
  let c1_i32_2102 : BitVec 32 := 1#32
  let v2246 : BitVec 32 := Scalar.muli c23_i32_2101 c1_i32_2102
  let v2247 : BitVec 32 := Scalar.addi c0_i32_2103 v2246
  v2247.toNat
def k0_cond50 (d0 : Dev nD) : BitVec 1 :=
  let c24_i32_423 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v549 : BitVec 32 := Scalar.subi c24_i32_423 v2
  let c32_i32_424 : BitVec 32 := 32#32
  let v550 : BitVec 32 := Scalar.addi v549 c32_i32_424
  let c32_i32_425 : BitVec 32 := 32#32
  let v551 : BitVec 32 := Scalar.remsi v550 c32_i32_425
  let c0_i32_428 : BitVec 32 := 0#32
  let v555 : BitVec 1 := Scalar.cmpi .ne v551 c0_i32_428
  let v556 : BitVec 32 := Scalar.extui v555
  let c0_i32_429 : BitVec 32 := 0#32
  let v557 : BitVec 1 := Scalar.cmpi .ne v556 c0_i32_429
  v557

def k0_off50 (d0 : Dev nD) : Fin 1 → Nat :=
  let c24_i32_423 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v549 : BitVec 32 := Scalar.subi c24_i32_423 v2
  let c32_i32_424 : BitVec 32 := 32#32
  let v550 : BitVec 32 := Scalar.addi v549 c32_i32_424
  let c32_i32_425 : BitVec 32 := 32#32
  let v551 : BitVec 32 := Scalar.remsi v550 c32_i32_425
  ![v551.toNat]
def k0_off51 (d0 : Dev nD) : Fin 3 → Nat :=
  let c24_i32_423 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v549 : BitVec 32 := Scalar.subi c24_i32_423 v2
  let c32_i32_424 : BitVec 32 := 32#32
  let v550 : BitVec 32 := Scalar.addi v549 c32_i32_424
  let c32_i32_425 : BitVec 32 := 32#32
  let v551 : BitVec 32 := Scalar.remsi v550 c32_i32_425
  let c0_i32_2104 : BitVec 32 := 0#32
  let c0_i32_2105 : BitVec 32 := 0#32
  ![v551.toNat, 0, 0]
def k0_dev56 : Nat :=
  let c0_i32_2103 : BitVec 32 := 0#32
  let c24_i32_2101 : BitVec 32 := 24#32
  let c1_i32_2102 : BitVec 32 := 1#32
  let v2246 : BitVec 32 := Scalar.muli c24_i32_2101 c1_i32_2102
  let v2247 : BitVec 32 := Scalar.addi c0_i32_2103 v2246
  v2247.toNat
def k0_cond52 (d0 : Dev nD) : BitVec 1 :=
  let c25_i32_430 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v558 : BitVec 32 := Scalar.subi c25_i32_430 v2
  let c32_i32_431 : BitVec 32 := 32#32
  let v559 : BitVec 32 := Scalar.addi v558 c32_i32_431
  let c32_i32_432 : BitVec 32 := 32#32
  let v560 : BitVec 32 := Scalar.remsi v559 c32_i32_432
  let c0_i32_435 : BitVec 32 := 0#32
  let v564 : BitVec 1 := Scalar.cmpi .ne v560 c0_i32_435
  let v565 : BitVec 32 := Scalar.extui v564
  let c0_i32_436 : BitVec 32 := 0#32
  let v566 : BitVec 1 := Scalar.cmpi .ne v565 c0_i32_436
  v566

def k0_off52 (d0 : Dev nD) : Fin 1 → Nat :=
  let c25_i32_430 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v558 : BitVec 32 := Scalar.subi c25_i32_430 v2
  let c32_i32_431 : BitVec 32 := 32#32
  let v559 : BitVec 32 := Scalar.addi v558 c32_i32_431
  let c32_i32_432 : BitVec 32 := 32#32
  let v560 : BitVec 32 := Scalar.remsi v559 c32_i32_432
  ![v560.toNat]
def k0_off53 (d0 : Dev nD) : Fin 3 → Nat :=
  let c25_i32_430 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v558 : BitVec 32 := Scalar.subi c25_i32_430 v2
  let c32_i32_431 : BitVec 32 := 32#32
  let v559 : BitVec 32 := Scalar.addi v558 c32_i32_431
  let c32_i32_432 : BitVec 32 := 32#32
  let v560 : BitVec 32 := Scalar.remsi v559 c32_i32_432
  let c0_i32_2104 : BitVec 32 := 0#32
  let c0_i32_2105 : BitVec 32 := 0#32
  ![v560.toNat, 0, 0]
def k0_dev57 : Nat :=
  let c0_i32_2103 : BitVec 32 := 0#32
  let c25_i32_2101 : BitVec 32 := 25#32
  let c1_i32_2102 : BitVec 32 := 1#32
  let v2246 : BitVec 32 := Scalar.muli c25_i32_2101 c1_i32_2102
  let v2247 : BitVec 32 := Scalar.addi c0_i32_2103 v2246
  v2247.toNat
def k0_cond54 (d0 : Dev nD) : BitVec 1 :=
  let c26_i32_437 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v567 : BitVec 32 := Scalar.subi c26_i32_437 v2
  let c32_i32_438 : BitVec 32 := 32#32
  let v568 : BitVec 32 := Scalar.addi v567 c32_i32_438
  let c32_i32_439 : BitVec 32 := 32#32
  let v569 : BitVec 32 := Scalar.remsi v568 c32_i32_439
  let c0_i32_442 : BitVec 32 := 0#32
  let v573 : BitVec 1 := Scalar.cmpi .ne v569 c0_i32_442
  let v574 : BitVec 32 := Scalar.extui v573
  let c0_i32_443 : BitVec 32 := 0#32
  let v575 : BitVec 1 := Scalar.cmpi .ne v574 c0_i32_443
  v575

def k0_off54 (d0 : Dev nD) : Fin 1 → Nat :=
  let c26_i32_437 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v567 : BitVec 32 := Scalar.subi c26_i32_437 v2
  let c32_i32_438 : BitVec 32 := 32#32
  let v568 : BitVec 32 := Scalar.addi v567 c32_i32_438
  let c32_i32_439 : BitVec 32 := 32#32
  let v569 : BitVec 32 := Scalar.remsi v568 c32_i32_439
  ![v569.toNat]
def k0_off55 (d0 : Dev nD) : Fin 3 → Nat :=
  let c26_i32_437 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v567 : BitVec 32 := Scalar.subi c26_i32_437 v2
  let c32_i32_438 : BitVec 32 := 32#32
  let v568 : BitVec 32 := Scalar.addi v567 c32_i32_438
  let c32_i32_439 : BitVec 32 := 32#32
  let v569 : BitVec 32 := Scalar.remsi v568 c32_i32_439
  let c0_i32_2104 : BitVec 32 := 0#32
  let c0_i32_2105 : BitVec 32 := 0#32
  ![v569.toNat, 0, 0]
def k0_dev58 : Nat :=
  let c0_i32_2103 : BitVec 32 := 0#32
  let c26_i32_2101 : BitVec 32 := 26#32
  let c1_i32_2102 : BitVec 32 := 1#32
  let v2246 : BitVec 32 := Scalar.muli c26_i32_2101 c1_i32_2102
  let v2247 : BitVec 32 := Scalar.addi c0_i32_2103 v2246
  v2247.toNat
def k0_cond56 (d0 : Dev nD) : BitVec 1 :=
  let c27_i32_444 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v576 : BitVec 32 := Scalar.subi c27_i32_444 v2
  let c32_i32_445 : BitVec 32 := 32#32
  let v577 : BitVec 32 := Scalar.addi v576 c32_i32_445
  let c32_i32_446 : BitVec 32 := 32#32
  let v578 : BitVec 32 := Scalar.remsi v577 c32_i32_446
  let c0_i32_449 : BitVec 32 := 0#32
  let v582 : BitVec 1 := Scalar.cmpi .ne v578 c0_i32_449
  let v583 : BitVec 32 := Scalar.extui v582
  let c0_i32_450 : BitVec 32 := 0#32
  let v584 : BitVec 1 := Scalar.cmpi .ne v583 c0_i32_450
  v584

def k0_off56 (d0 : Dev nD) : Fin 1 → Nat :=
  let c27_i32_444 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v576 : BitVec 32 := Scalar.subi c27_i32_444 v2
  let c32_i32_445 : BitVec 32 := 32#32
  let v577 : BitVec 32 := Scalar.addi v576 c32_i32_445
  let c32_i32_446 : BitVec 32 := 32#32
  let v578 : BitVec 32 := Scalar.remsi v577 c32_i32_446
  ![v578.toNat]
def k0_off57 (d0 : Dev nD) : Fin 3 → Nat :=
  let c27_i32_444 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v576 : BitVec 32 := Scalar.subi c27_i32_444 v2
  let c32_i32_445 : BitVec 32 := 32#32
  let v577 : BitVec 32 := Scalar.addi v576 c32_i32_445
  let c32_i32_446 : BitVec 32 := 32#32
  let v578 : BitVec 32 := Scalar.remsi v577 c32_i32_446
  let c0_i32_2104 : BitVec 32 := 0#32
  let c0_i32_2105 : BitVec 32 := 0#32
  ![v578.toNat, 0, 0]
def k0_dev59 : Nat :=
  let c0_i32_2103 : BitVec 32 := 0#32
  let c27_i32_2101 : BitVec 32 := 27#32
  let c1_i32_2102 : BitVec 32 := 1#32
  let v2246 : BitVec 32 := Scalar.muli c27_i32_2101 c1_i32_2102
  let v2247 : BitVec 32 := Scalar.addi c0_i32_2103 v2246
  v2247.toNat
def k0_cond58 (d0 : Dev nD) : BitVec 1 :=
  let c28_i32_451 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v585 : BitVec 32 := Scalar.subi c28_i32_451 v2
  let c32_i32_452 : BitVec 32 := 32#32
  let v586 : BitVec 32 := Scalar.addi v585 c32_i32_452
  let c32_i32_453 : BitVec 32 := 32#32
  let v587 : BitVec 32 := Scalar.remsi v586 c32_i32_453
  let c0_i32_456 : BitVec 32 := 0#32
  let v591 : BitVec 1 := Scalar.cmpi .ne v587 c0_i32_456
  let v592 : BitVec 32 := Scalar.extui v591
  let c0_i32_457 : BitVec 32 := 0#32
  let v593 : BitVec 1 := Scalar.cmpi .ne v592 c0_i32_457
  v593

def k0_off58 (d0 : Dev nD) : Fin 1 → Nat :=
  let c28_i32_451 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v585 : BitVec 32 := Scalar.subi c28_i32_451 v2
  let c32_i32_452 : BitVec 32 := 32#32
  let v586 : BitVec 32 := Scalar.addi v585 c32_i32_452
  let c32_i32_453 : BitVec 32 := 32#32
  let v587 : BitVec 32 := Scalar.remsi v586 c32_i32_453
  ![v587.toNat]
def k0_off59 (d0 : Dev nD) : Fin 3 → Nat :=
  let c28_i32_451 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v585 : BitVec 32 := Scalar.subi c28_i32_451 v2
  let c32_i32_452 : BitVec 32 := 32#32
  let v586 : BitVec 32 := Scalar.addi v585 c32_i32_452
  let c32_i32_453 : BitVec 32 := 32#32
  let v587 : BitVec 32 := Scalar.remsi v586 c32_i32_453
  let c0_i32_2104 : BitVec 32 := 0#32
  let c0_i32_2105 : BitVec 32 := 0#32
  ![v587.toNat, 0, 0]
def k0_dev60 : Nat :=
  let c0_i32_2103 : BitVec 32 := 0#32
  let c28_i32_2101 : BitVec 32 := 28#32
  let c1_i32_2102 : BitVec 32 := 1#32
  let v2246 : BitVec 32 := Scalar.muli c28_i32_2101 c1_i32_2102
  let v2247 : BitVec 32 := Scalar.addi c0_i32_2103 v2246
  v2247.toNat
def k0_cond60 (d0 : Dev nD) : BitVec 1 :=
  let c29_i32_458 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v594 : BitVec 32 := Scalar.subi c29_i32_458 v2
  let c32_i32_459 : BitVec 32 := 32#32
  let v595 : BitVec 32 := Scalar.addi v594 c32_i32_459
  let c32_i32_460 : BitVec 32 := 32#32
  let v596 : BitVec 32 := Scalar.remsi v595 c32_i32_460
  let c0_i32_463 : BitVec 32 := 0#32
  let v600 : BitVec 1 := Scalar.cmpi .ne v596 c0_i32_463
  let v601 : BitVec 32 := Scalar.extui v600
  let c0_i32_464 : BitVec 32 := 0#32
  let v602 : BitVec 1 := Scalar.cmpi .ne v601 c0_i32_464
  v602

def k0_off60 (d0 : Dev nD) : Fin 1 → Nat :=
  let c29_i32_458 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v594 : BitVec 32 := Scalar.subi c29_i32_458 v2
  let c32_i32_459 : BitVec 32 := 32#32
  let v595 : BitVec 32 := Scalar.addi v594 c32_i32_459
  let c32_i32_460 : BitVec 32 := 32#32
  let v596 : BitVec 32 := Scalar.remsi v595 c32_i32_460
  ![v596.toNat]
def k0_off61 (d0 : Dev nD) : Fin 3 → Nat :=
  let c29_i32_458 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v594 : BitVec 32 := Scalar.subi c29_i32_458 v2
  let c32_i32_459 : BitVec 32 := 32#32
  let v595 : BitVec 32 := Scalar.addi v594 c32_i32_459
  let c32_i32_460 : BitVec 32 := 32#32
  let v596 : BitVec 32 := Scalar.remsi v595 c32_i32_460
  let c0_i32_2104 : BitVec 32 := 0#32
  let c0_i32_2105 : BitVec 32 := 0#32
  ![v596.toNat, 0, 0]
def k0_dev61 : Nat :=
  let c0_i32_2103 : BitVec 32 := 0#32
  let c29_i32_2101 : BitVec 32 := 29#32
  let c1_i32_2102 : BitVec 32 := 1#32
  let v2246 : BitVec 32 := Scalar.muli c29_i32_2101 c1_i32_2102
  let v2247 : BitVec 32 := Scalar.addi c0_i32_2103 v2246
  v2247.toNat
def k0_cond62 (d0 : Dev nD) : BitVec 1 :=
  let c30_i32_465 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v603 : BitVec 32 := Scalar.subi c30_i32_465 v2
  let c32_i32_466 : BitVec 32 := 32#32
  let v604 : BitVec 32 := Scalar.addi v603 c32_i32_466
  let c32_i32_467 : BitVec 32 := 32#32
  let v605 : BitVec 32 := Scalar.remsi v604 c32_i32_467
  let c0_i32_470 : BitVec 32 := 0#32
  let v609 : BitVec 1 := Scalar.cmpi .ne v605 c0_i32_470
  let v610 : BitVec 32 := Scalar.extui v609
  let c0_i32_471 : BitVec 32 := 0#32
  let v611 : BitVec 1 := Scalar.cmpi .ne v610 c0_i32_471
  v611

def k0_off62 (d0 : Dev nD) : Fin 1 → Nat :=
  let c30_i32_465 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v603 : BitVec 32 := Scalar.subi c30_i32_465 v2
  let c32_i32_466 : BitVec 32 := 32#32
  let v604 : BitVec 32 := Scalar.addi v603 c32_i32_466
  let c32_i32_467 : BitVec 32 := 32#32
  let v605 : BitVec 32 := Scalar.remsi v604 c32_i32_467
  ![v605.toNat]
def k0_off63 (d0 : Dev nD) : Fin 3 → Nat :=
  let c30_i32_465 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v603 : BitVec 32 := Scalar.subi c30_i32_465 v2
  let c32_i32_466 : BitVec 32 := 32#32
  let v604 : BitVec 32 := Scalar.addi v603 c32_i32_466
  let c32_i32_467 : BitVec 32 := 32#32
  let v605 : BitVec 32 := Scalar.remsi v604 c32_i32_467
  let c0_i32_2104 : BitVec 32 := 0#32
  let c0_i32_2105 : BitVec 32 := 0#32
  ![v605.toNat, 0, 0]
def k0_dev62 : Nat :=
  let c0_i32_2103 : BitVec 32 := 0#32
  let c30_i32_2101 : BitVec 32 := 30#32
  let c1_i32_2102 : BitVec 32 := 1#32
  let v2246 : BitVec 32 := Scalar.muli c30_i32_2101 c1_i32_2102
  let v2247 : BitVec 32 := Scalar.addi c0_i32_2103 v2246
  v2247.toNat
def k0_cond64 (d0 : Dev nD) : BitVec 1 :=
  let c31_i32_472 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v612 : BitVec 32 := Scalar.subi c31_i32_472 v2
  let c32_i32_473 : BitVec 32 := 32#32
  let v613 : BitVec 32 := Scalar.addi v612 c32_i32_473
  let c32_i32_474 : BitVec 32 := 32#32
  let v614 : BitVec 32 := Scalar.remsi v613 c32_i32_474
  let c0_i32_477 : BitVec 32 := 0#32
  let v618 : BitVec 1 := Scalar.cmpi .ne v614 c0_i32_477
  let v619 : BitVec 32 := Scalar.extui v618
  let c0_i32_478 : BitVec 32 := 0#32
  let v620 : BitVec 1 := Scalar.cmpi .ne v619 c0_i32_478
  v620

def k0_off64 (d0 : Dev nD) : Fin 1 → Nat :=
  let c31_i32_472 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v612 : BitVec 32 := Scalar.subi c31_i32_472 v2
  let c32_i32_473 : BitVec 32 := 32#32
  let v613 : BitVec 32 := Scalar.addi v612 c32_i32_473
  let c32_i32_474 : BitVec 32 := 32#32
  let v614 : BitVec 32 := Scalar.remsi v613 c32_i32_474
  ![v614.toNat]
def k0_off65 (d0 : Dev nD) : Fin 3 → Nat :=
  let c31_i32_472 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v612 : BitVec 32 := Scalar.subi c31_i32_472 v2
  let c32_i32_473 : BitVec 32 := 32#32
  let v613 : BitVec 32 := Scalar.addi v612 c32_i32_473
  let c32_i32_474 : BitVec 32 := 32#32
  let v614 : BitVec 32 := Scalar.remsi v613 c32_i32_474
  let c0_i32_2104 : BitVec 32 := 0#32
  let c0_i32_2105 : BitVec 32 := 0#32
  ![v614.toNat, 0, 0]
def k0_dev63 : Nat :=
  let c0_i32_2103 : BitVec 32 := 0#32
  let c31_i32_2101 : BitVec 32 := 31#32
  let c1_i32_2102 : BitVec 32 := 1#32
  let v2246 : BitVec 32 := Scalar.muli c31_i32_2101 c1_i32_2102
  let v2247 : BitVec 32 := Scalar.addi c0_i32_2103 v2246
  v2247.toNat
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v873 : Index := Scalar.indexCast v2
  let c0_793 : Index := 0#32
  let c0_794 : Index := 0#32
  ![v873.toNat, 0, 0]
def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_801 : BitVec 32 := 0#32
  let c0_i32_802 : BitVec 32 := 0#32
  ![v2.toNat, 0, 0]
def k0_dev64 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_795 : BitVec 32 := 1#32
  let v877 : BitVec 32 := Scalar.addi v2 c1_i32_795
  let c32_i32_796 : BitVec 32 := 32#32
  let v878 : BitVec 32 := Scalar.remsi v877 c32_i32_796
  let c1_i32_799 : BitVec 32 := 1#32
  let v879 : BitVec 32 := Scalar.muli v878 c1_i32_799
  let v880 : BitVec 32 := Scalar.addi c0_i32_800 v879
  v880.toNat
def k0_dev65 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_805 : BitVec 32 := 2#32
  let v889 : BitVec 32 := Scalar.addi v2 c2_i32_805
  let c32_i32_806 : BitVec 32 := 32#32
  let v890 : BitVec 32 := Scalar.remsi v889 c32_i32_806
  let c1_i32_809 : BitVec 32 := 1#32
  let v891 : BitVec 32 := Scalar.muli v890 c1_i32_809
  let v892 : BitVec 32 := Scalar.addi c0_i32_810 v891
  v892.toNat
def k0_dev66 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_815 : BitVec 32 := 3#32
  let v901 : BitVec 32 := Scalar.addi v2 c3_i32_815
  let c32_i32_816 : BitVec 32 := 32#32
  let v902 : BitVec 32 := Scalar.remsi v901 c32_i32_816
  let c1_i32_819 : BitVec 32 := 1#32
  let v903 : BitVec 32 := Scalar.muli v902 c1_i32_819
  let v904 : BitVec 32 := Scalar.addi c0_i32_820 v903
  v904.toNat
def k0_dev67 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_825 : BitVec 32 := 4#32
  let v913 : BitVec 32 := Scalar.addi v2 c4_i32_825
  let c32_i32_826 : BitVec 32 := 32#32
  let v914 : BitVec 32 := Scalar.remsi v913 c32_i32_826
  let c1_i32_829 : BitVec 32 := 1#32
  let v915 : BitVec 32 := Scalar.muli v914 c1_i32_829
  let v916 : BitVec 32 := Scalar.addi c0_i32_830 v915
  v916.toNat
def k0_dev68 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_835 : BitVec 32 := 5#32
  let v925 : BitVec 32 := Scalar.addi v2 c5_i32_835
  let c32_i32_836 : BitVec 32 := 32#32
  let v926 : BitVec 32 := Scalar.remsi v925 c32_i32_836
  let c1_i32_839 : BitVec 32 := 1#32
  let v927 : BitVec 32 := Scalar.muli v926 c1_i32_839
  let v928 : BitVec 32 := Scalar.addi c0_i32_840 v927
  v928.toNat
def k0_dev69 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_845 : BitVec 32 := 6#32
  let v937 : BitVec 32 := Scalar.addi v2 c6_i32_845
  let c32_i32_846 : BitVec 32 := 32#32
  let v938 : BitVec 32 := Scalar.remsi v937 c32_i32_846
  let c1_i32_849 : BitVec 32 := 1#32
  let v939 : BitVec 32 := Scalar.muli v938 c1_i32_849
  let v940 : BitVec 32 := Scalar.addi c0_i32_850 v939
  v940.toNat
def k0_dev70 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_855 : BitVec 32 := 7#32
  let v949 : BitVec 32 := Scalar.addi v2 c7_i32_855
  let c32_i32_856 : BitVec 32 := 32#32
  let v950 : BitVec 32 := Scalar.remsi v949 c32_i32_856
  let c1_i32_859 : BitVec 32 := 1#32
  let v951 : BitVec 32 := Scalar.muli v950 c1_i32_859
  let v952 : BitVec 32 := Scalar.addi c0_i32_860 v951
  v952.toNat
def k0_dev71 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_865 : BitVec 32 := 8#32
  let v961 : BitVec 32 := Scalar.addi v2 c8_i32_865
  let c32_i32_866 : BitVec 32 := 32#32
  let v962 : BitVec 32 := Scalar.remsi v961 c32_i32_866
  let c1_i32_869 : BitVec 32 := 1#32
  let v963 : BitVec 32 := Scalar.muli v962 c1_i32_869
  let v964 : BitVec 32 := Scalar.addi c0_i32_870 v963
  v964.toNat
def k0_dev72 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_875 : BitVec 32 := 9#32
  let v973 : BitVec 32 := Scalar.addi v2 c9_i32_875
  let c32_i32_876 : BitVec 32 := 32#32
  let v974 : BitVec 32 := Scalar.remsi v973 c32_i32_876
  let c1_i32_879 : BitVec 32 := 1#32
  let v975 : BitVec 32 := Scalar.muli v974 c1_i32_879
  let v976 : BitVec 32 := Scalar.addi c0_i32_880 v975
  v976.toNat
def k0_dev73 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_885 : BitVec 32 := 10#32
  let v985 : BitVec 32 := Scalar.addi v2 c10_i32_885
  let c32_i32_886 : BitVec 32 := 32#32
  let v986 : BitVec 32 := Scalar.remsi v985 c32_i32_886
  let c1_i32_889 : BitVec 32 := 1#32
  let v987 : BitVec 32 := Scalar.muli v986 c1_i32_889
  let v988 : BitVec 32 := Scalar.addi c0_i32_890 v987
  v988.toNat
def k0_dev74 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_895 : BitVec 32 := 11#32
  let v997 : BitVec 32 := Scalar.addi v2 c11_i32_895
  let c32_i32_896 : BitVec 32 := 32#32
  let v998 : BitVec 32 := Scalar.remsi v997 c32_i32_896
  let c1_i32_899 : BitVec 32 := 1#32
  let v999 : BitVec 32 := Scalar.muli v998 c1_i32_899
  let v1000 : BitVec 32 := Scalar.addi c0_i32_900 v999
  v1000.toNat
def k0_dev75 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_905 : BitVec 32 := 12#32
  let v1009 : BitVec 32 := Scalar.addi v2 c12_i32_905
  let c32_i32_906 : BitVec 32 := 32#32
  let v1010 : BitVec 32 := Scalar.remsi v1009 c32_i32_906
  let c1_i32_909 : BitVec 32 := 1#32
  let v1011 : BitVec 32 := Scalar.muli v1010 c1_i32_909
  let v1012 : BitVec 32 := Scalar.addi c0_i32_910 v1011
  v1012.toNat
def k0_dev76 (d0 : Dev nD) : Nat :=
  let c0_i32_920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_915 : BitVec 32 := 13#32
  let v1021 : BitVec 32 := Scalar.addi v2 c13_i32_915
  let c32_i32_916 : BitVec 32 := 32#32
  let v1022 : BitVec 32 := Scalar.remsi v1021 c32_i32_916
  let c1_i32_919 : BitVec 32 := 1#32
  let v1023 : BitVec 32 := Scalar.muli v1022 c1_i32_919
  let v1024 : BitVec 32 := Scalar.addi c0_i32_920 v1023
  v1024.toNat
def k0_dev77 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_925 : BitVec 32 := 14#32
  let v1033 : BitVec 32 := Scalar.addi v2 c14_i32_925
  let c32_i32_926 : BitVec 32 := 32#32
  let v1034 : BitVec 32 := Scalar.remsi v1033 c32_i32_926
  let c1_i32_929 : BitVec 32 := 1#32
  let v1035 : BitVec 32 := Scalar.muli v1034 c1_i32_929
  let v1036 : BitVec 32 := Scalar.addi c0_i32_930 v1035
  v1036.toNat
def k0_dev78 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_935 : BitVec 32 := 15#32
  let v1045 : BitVec 32 := Scalar.addi v2 c15_i32_935
  let c32_i32_936 : BitVec 32 := 32#32
  let v1046 : BitVec 32 := Scalar.remsi v1045 c32_i32_936
  let c1_i32_939 : BitVec 32 := 1#32
  let v1047 : BitVec 32 := Scalar.muli v1046 c1_i32_939
  let v1048 : BitVec 32 := Scalar.addi c0_i32_940 v1047
  v1048.toNat
def k0_dev79 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_945 : BitVec 32 := 16#32
  let v1057 : BitVec 32 := Scalar.addi v2 c16_i32_945
  let c32_i32_946 : BitVec 32 := 32#32
  let v1058 : BitVec 32 := Scalar.remsi v1057 c32_i32_946
  let c1_i32_949 : BitVec 32 := 1#32
  let v1059 : BitVec 32 := Scalar.muli v1058 c1_i32_949
  let v1060 : BitVec 32 := Scalar.addi c0_i32_950 v1059
  v1060.toNat
def k0_dev80 (d0 : Dev nD) : Nat :=
  let c0_i32_960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_955 : BitVec 32 := 17#32
  let v1069 : BitVec 32 := Scalar.addi v2 c17_i32_955
  let c32_i32_956 : BitVec 32 := 32#32
  let v1070 : BitVec 32 := Scalar.remsi v1069 c32_i32_956
  let c1_i32_959 : BitVec 32 := 1#32
  let v1071 : BitVec 32 := Scalar.muli v1070 c1_i32_959
  let v1072 : BitVec 32 := Scalar.addi c0_i32_960 v1071
  v1072.toNat
def k0_dev81 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_965 : BitVec 32 := 18#32
  let v1081 : BitVec 32 := Scalar.addi v2 c18_i32_965
  let c32_i32_966 : BitVec 32 := 32#32
  let v1082 : BitVec 32 := Scalar.remsi v1081 c32_i32_966
  let c1_i32_969 : BitVec 32 := 1#32
  let v1083 : BitVec 32 := Scalar.muli v1082 c1_i32_969
  let v1084 : BitVec 32 := Scalar.addi c0_i32_970 v1083
  v1084.toNat
def k0_dev82 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_975 : BitVec 32 := 19#32
  let v1093 : BitVec 32 := Scalar.addi v2 c19_i32_975
  let c32_i32_976 : BitVec 32 := 32#32
  let v1094 : BitVec 32 := Scalar.remsi v1093 c32_i32_976
  let c1_i32_979 : BitVec 32 := 1#32
  let v1095 : BitVec 32 := Scalar.muli v1094 c1_i32_979
  let v1096 : BitVec 32 := Scalar.addi c0_i32_980 v1095
  v1096.toNat
def k0_dev83 (d0 : Dev nD) : Nat :=
  let c0_i32_990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_985 : BitVec 32 := 20#32
  let v1105 : BitVec 32 := Scalar.addi v2 c20_i32_985
  let c32_i32_986 : BitVec 32 := 32#32
  let v1106 : BitVec 32 := Scalar.remsi v1105 c32_i32_986
  let c1_i32_989 : BitVec 32 := 1#32
  let v1107 : BitVec 32 := Scalar.muli v1106 c1_i32_989
  let v1108 : BitVec 32 := Scalar.addi c0_i32_990 v1107
  v1108.toNat
def k0_dev84 (d0 : Dev nD) : Nat :=
  let c0_i32_1000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_995 : BitVec 32 := 21#32
  let v1117 : BitVec 32 := Scalar.addi v2 c21_i32_995
  let c32_i32_996 : BitVec 32 := 32#32
  let v1118 : BitVec 32 := Scalar.remsi v1117 c32_i32_996
  let c1_i32_999 : BitVec 32 := 1#32
  let v1119 : BitVec 32 := Scalar.muli v1118 c1_i32_999
  let v1120 : BitVec 32 := Scalar.addi c0_i32_1000 v1119
  v1120.toNat
def k0_dev85 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1005 : BitVec 32 := 22#32
  let v1129 : BitVec 32 := Scalar.addi v2 c22_i32_1005
  let c32_i32_1006 : BitVec 32 := 32#32
  let v1130 : BitVec 32 := Scalar.remsi v1129 c32_i32_1006
  let c1_i32_1009 : BitVec 32 := 1#32
  let v1131 : BitVec 32 := Scalar.muli v1130 c1_i32_1009
  let v1132 : BitVec 32 := Scalar.addi c0_i32_1010 v1131
  v1132.toNat
def k0_dev86 (d0 : Dev nD) : Nat :=
  let c0_i32_1020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1015 : BitVec 32 := 23#32
  let v1141 : BitVec 32 := Scalar.addi v2 c23_i32_1015
  let c32_i32_1016 : BitVec 32 := 32#32
  let v1142 : BitVec 32 := Scalar.remsi v1141 c32_i32_1016
  let c1_i32_1019 : BitVec 32 := 1#32
  let v1143 : BitVec 32 := Scalar.muli v1142 c1_i32_1019
  let v1144 : BitVec 32 := Scalar.addi c0_i32_1020 v1143
  v1144.toNat
def k0_dev87 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1025 : BitVec 32 := 24#32
  let v1153 : BitVec 32 := Scalar.addi v2 c24_i32_1025
  let c32_i32_1026 : BitVec 32 := 32#32
  let v1154 : BitVec 32 := Scalar.remsi v1153 c32_i32_1026
  let c1_i32_1029 : BitVec 32 := 1#32
  let v1155 : BitVec 32 := Scalar.muli v1154 c1_i32_1029
  let v1156 : BitVec 32 := Scalar.addi c0_i32_1030 v1155
  v1156.toNat
def k0_dev88 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1035 : BitVec 32 := 25#32
  let v1165 : BitVec 32 := Scalar.addi v2 c25_i32_1035
  let c32_i32_1036 : BitVec 32 := 32#32
  let v1166 : BitVec 32 := Scalar.remsi v1165 c32_i32_1036
  let c1_i32_1039 : BitVec 32 := 1#32
  let v1167 : BitVec 32 := Scalar.muli v1166 c1_i32_1039
  let v1168 : BitVec 32 := Scalar.addi c0_i32_1040 v1167
  v1168.toNat
def k0_dev89 (d0 : Dev nD) : Nat :=
  let c0_i32_1050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1045 : BitVec 32 := 26#32
  let v1177 : BitVec 32 := Scalar.addi v2 c26_i32_1045
  let c32_i32_1046 : BitVec 32 := 32#32
  let v1178 : BitVec 32 := Scalar.remsi v1177 c32_i32_1046
  let c1_i32_1049 : BitVec 32 := 1#32
  let v1179 : BitVec 32 := Scalar.muli v1178 c1_i32_1049
  let v1180 : BitVec 32 := Scalar.addi c0_i32_1050 v1179
  v1180.toNat
def k0_dev90 (d0 : Dev nD) : Nat :=
  let c0_i32_1060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1055 : BitVec 32 := 27#32
  let v1189 : BitVec 32 := Scalar.addi v2 c27_i32_1055
  let c32_i32_1056 : BitVec 32 := 32#32
  let v1190 : BitVec 32 := Scalar.remsi v1189 c32_i32_1056
  let c1_i32_1059 : BitVec 32 := 1#32
  let v1191 : BitVec 32 := Scalar.muli v1190 c1_i32_1059
  let v1192 : BitVec 32 := Scalar.addi c0_i32_1060 v1191
  v1192.toNat
def k0_dev91 (d0 : Dev nD) : Nat :=
  let c0_i32_1070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1065 : BitVec 32 := 28#32
  let v1201 : BitVec 32 := Scalar.addi v2 c28_i32_1065
  let c32_i32_1066 : BitVec 32 := 32#32
  let v1202 : BitVec 32 := Scalar.remsi v1201 c32_i32_1066
  let c1_i32_1069 : BitVec 32 := 1#32
  let v1203 : BitVec 32 := Scalar.muli v1202 c1_i32_1069
  let v1204 : BitVec 32 := Scalar.addi c0_i32_1070 v1203
  v1204.toNat
def k0_dev92 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1075 : BitVec 32 := 29#32
  let v1213 : BitVec 32 := Scalar.addi v2 c29_i32_1075
  let c32_i32_1076 : BitVec 32 := 32#32
  let v1214 : BitVec 32 := Scalar.remsi v1213 c32_i32_1076
  let c1_i32_1079 : BitVec 32 := 1#32
  let v1215 : BitVec 32 := Scalar.muli v1214 c1_i32_1079
  let v1216 : BitVec 32 := Scalar.addi c0_i32_1080 v1215
  v1216.toNat
def k0_dev93 (d0 : Dev nD) : Nat :=
  let c0_i32_1090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1085 : BitVec 32 := 30#32
  let v1225 : BitVec 32 := Scalar.addi v2 c30_i32_1085
  let c32_i32_1086 : BitVec 32 := 32#32
  let v1226 : BitVec 32 := Scalar.remsi v1225 c32_i32_1086
  let c1_i32_1089 : BitVec 32 := 1#32
  let v1227 : BitVec 32 := Scalar.muli v1226 c1_i32_1089
  let v1228 : BitVec 32 := Scalar.addi c0_i32_1090 v1227
  v1228.toNat
def k0_dev94 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1095 : BitVec 32 := 31#32
  let v1237 : BitVec 32 := Scalar.addi v2 c31_i32_1095
  let c32_i32_1096 : BitVec 32 := 32#32
  let v1238 : BitVec 32 := Scalar.remsi v1237 c32_i32_1096
  let c1_i32_1099 : BitVec 32 := 1#32
  let v1239 : BitVec 32 := Scalar.muli v1238 c1_i32_1099
  let v1240 : BitVec 32 := Scalar.addi c0_i32_1100 v1239
  v1240.toNat
def k0_off68 (d0 : Dev nD) : Fin 3 → Nat :=
  let c0_1106 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1105 : BitVec 32 := 8#32
  let v1249 : BitVec 32 := Scalar.muli v2 c8_i32_1105
  let v1250 : Index := Scalar.indexCast v1249
  let c0_1107 : Index := 0#32
  ![0, v1250.toNat, 0]
def k0_off69 (d0 : Dev nD) (c1_i32_1116 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1262 : BitVec 32 := Scalar.subi v2 c1_i32_1116
  let c32_i32_1117 : BitVec 32 := 32#32
  let v1263 : BitVec 32 := Scalar.addi v1262 c32_i32_1117
  let c32_i32_1118 : BitVec 32 := 32#32
  let v1264 : BitVec 32 := Scalar.remsi v1263 c32_i32_1118
  let v1265 : Index := Scalar.indexCast v1264
  let c0_1119 : Index := 0#32
  let c0_1120 : Index := 0#32
  ![v1265.toNat, 0, 0]
def k0_off70 (d0 : Dev nD) (c1_i32_1116 : BitVec 32) : Fin 3 → Nat :=
  let c0_1122 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1262 : BitVec 32 := Scalar.subi v2 c1_i32_1116
  let c32_i32_1117 : BitVec 32 := 32#32
  let v1263 : BitVec 32 := Scalar.addi v1262 c32_i32_1117
  let c32_i32_1118 : BitVec 32 := 32#32
  let v1264 : BitVec 32 := Scalar.remsi v1263 c32_i32_1118
  let c8_i32_1121 : BitVec 32 := 8#32
  let v1269 : BitVec 32 := Scalar.muli v1264 c8_i32_1121
  let v1270 : Index := Scalar.indexCast v1269
  let c0_1123 : Index := 0#32
  ![0, v1270.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x256x1024 : Shape := ⟨3, ![1, 256, 1024]⟩
abbrev S1024x32768 : Shape := ⟨2, ![1024, 32768]⟩
abbrev S32768x1024 : Shape := ⟨2, ![32768, 1024]⟩
abbrev S1x4096x64x128 : Shape := ⟨4, ![1, 4096, 64, 128]⟩
abbrev S1x256x32768 : Shape := ⟨3, ![1, 256, 32768]⟩
abbrev S1x256x256x128 : Shape := ⟨4, ![1, 256, 256, 128]⟩
abbrev S1x4096x64x4x128 : Shape := ⟨5, ![1, 4096, 64, 4, 128]⟩
abbrev S1x4096x256x128 : Shape := ⟨4, ![1, 4096, 256, 128]⟩
abbrev S_ : Shape := ⟨0, ![]⟩
abbrev S1x256x256x1 : Shape := ⟨4, ![1, 256, 256, 1]⟩
abbrev S1x1024x256x128 : Shape := ⟨4, ![1, 1024, 256, 128]⟩
abbrev S1x256x256x1024 : Shape := ⟨4, ![1, 256, 256, 1024]⟩
abbrev S1x256x256 : Shape := ⟨3, ![1, 256, 256]⟩
abbrev S1x256x128x256 : Shape := ⟨4, ![1, 256, 128, 256]⟩

abbrev nBuf : Space → Nat
  | .hbm => 126
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x32768, .f32⟩
  | .hbm, ⟨2, _⟩ => ⟨S32768x1024, .f32⟩
  | .hbm, ⟨3, _⟩ => ⟨S1x4096x64x128, .f32⟩
  | .hbm, ⟨4, _⟩ => ⟨S1x4096x64x128, .f32⟩
  | .hbm, ⟨5, _⟩ => ⟨S1x256x32768, .f32⟩
  | .hbm, ⟨6, _⟩ => ⟨S1x256x256x128, .f32⟩
  | .hbm, ⟨7, _⟩ => ⟨S1x4096x64x4x128, .f32⟩
  | .hbm, ⟨8, _⟩ => ⟨S1x4096x256x128, .f32⟩
  | .hbm, ⟨9, _⟩ => ⟨S1x4096x64x4x128, .f32⟩
  | .hbm, ⟨10, _⟩ => ⟨S1x4096x256x128, .f32⟩
  | .hbm, ⟨11, _⟩ => ⟨S_, .f32⟩
  | .hbm, ⟨12, _⟩ => ⟨S1x256x256x128, .f32⟩
  | .hbm, ⟨13, _⟩ => ⟨S_, .f32⟩
  | .hbm, ⟨14, _⟩ => ⟨S1x256x256x1, .f32⟩
  | .hbm, ⟨15, _⟩ => ⟨S_, .f32⟩
  | .hbm, ⟨16, _⟩ => ⟨S1x256x256x1, .f32⟩
  | .hbm, ⟨17, _⟩ => ⟨S1x1024x256x128, .f32⟩
  | .hbm, ⟨18, _⟩ => ⟨S1x1024x256x128, .f32⟩
  | .hbm, ⟨19, _⟩ => ⟨S1x256x256x1024, .f32⟩
  | .hbm, ⟨20, _⟩ => ⟨S_, .f32⟩
  | .hbm, ⟨21, _⟩ => ⟨S1x256x256x1024, .f32⟩
  | .hbm, ⟨22, _⟩ => ⟨S1x256x256x1024, .f32⟩
  | .hbm, ⟨23, _⟩ => ⟨S_, .f32⟩
  | .hbm, ⟨24, _⟩ => ⟨S1x256x256, .f32⟩
  | .hbm, ⟨25, _⟩ => ⟨S1x256x256x1, .f32⟩
  | .hbm, ⟨26, _⟩ => ⟨S1x256x256x1, .f32⟩
  | .hbm, ⟨27, _⟩ => ⟨S1x256x256x1, .f32⟩
  | .hbm, ⟨28, _⟩ => ⟨S1x256x256x1, .f32⟩
  | .hbm, ⟨29, _⟩ => ⟨S1x256x256x1024, .f32⟩
  | .hbm, ⟨30, _⟩ => ⟨S1x256x256x1024, .f32⟩
  | .hbm, ⟨31, _⟩ => ⟨S1x256x256x1024, .f32⟩
  | .hbm, ⟨32, _⟩ => ⟨S1x256x256x1, .f32⟩
  | .hbm, ⟨33, _⟩ => ⟨S_, .f32⟩
  | .hbm, ⟨34, _⟩ => ⟨S1x256x256, .f32⟩
  | .hbm, ⟨35, _⟩ => ⟨S1x256x256x1, .f32⟩
  | .hbm, ⟨36, _⟩ => ⟨S1x256x256x1, .f32⟩
  | .hbm, ⟨37, _⟩ => ⟨S1x256x256x1, .f32⟩
  | .hbm, ⟨38, _⟩ => ⟨S1x256x256x128, .f32⟩
  | .hbm, ⟨39, _⟩ => ⟨S1x256x256x128, .f32⟩
  | .hbm, ⟨40, _⟩ => ⟨S1x256x128x256, .f32⟩
  | .hbm, ⟨41, _⟩ => ⟨S1x256x256x128, .f32⟩
  | .hbm, ⟨42, _⟩ => ⟨S1x256x256x128, .f32⟩
  | .hbm, ⟨43, _⟩ => ⟨S1x1024x256x128, .f32⟩
  | .hbm, ⟨44, _⟩ => ⟨S1x1024x256x128, .f32⟩
  | .hbm, ⟨45, _⟩ => ⟨S1x256x256x1024, .f32⟩
  | .hbm, ⟨46, _⟩ => ⟨S_, .f32⟩
  | .hbm, ⟨47, _⟩ => ⟨S1x256x256x1024, .f32⟩
  | .hbm, ⟨48, _⟩ => ⟨S1x256x256x1024, .f32⟩
  | .hbm, ⟨49, _⟩ => ⟨S_, .f32⟩
  | .hbm, ⟨50, _⟩ => ⟨S1x256x256, .f32⟩
  | .hbm, ⟨51, _⟩ => ⟨S1x256x256x1, .f32⟩
  | .hbm, ⟨52, _⟩ => ⟨S1x256x256x1, .f32⟩
  | .hbm, ⟨53, _⟩ => ⟨S1x256x256x1, .f32⟩
  | .hbm, ⟨54, _⟩ => ⟨S1x256x256x1, .f32⟩
  | .hbm, ⟨55, _⟩ => ⟨S1x256x256x1024, .f32⟩
  | .hbm, ⟨56, _⟩ => ⟨S1x256x256x1024, .f32⟩
  | .hbm, ⟨57, _⟩ => ⟨S1x256x256x1024, .f32⟩
  | .hbm, ⟨58, _⟩ => ⟨S1x256x256x1, .f32⟩
  | .hbm, ⟨59, _⟩ => ⟨S_, .f32⟩
  | .hbm, ⟨60, _⟩ => ⟨S1x256x256, .f32⟩
  | .hbm, ⟨61, _⟩ => ⟨S1x256x256x1, .f32⟩
  | .hbm, ⟨62, _⟩ => ⟨S1x256x256x1, .f32⟩
  | .hbm, ⟨63, _⟩ => ⟨S1x256x256x1, .f32⟩
  | .hbm, ⟨64, _⟩ => ⟨S1x256x256x128, .f32⟩
  | .hbm, ⟨65, _⟩ => ⟨S1x256x256x128, .f32⟩
  | .hbm, ⟨66, _⟩ => ⟨S1x256x128x256, .f32⟩
  | .hbm, ⟨67, _⟩ => ⟨S1x256x256x128, .f32⟩
  | .hbm, ⟨68, _⟩ => ⟨S1x256x256x128, .f32⟩
  | .hbm, ⟨69, _⟩ => ⟨S1x1024x256x128, .f32⟩
  | .hbm, ⟨70, _⟩ => ⟨S1x1024x256x128, .f32⟩
  | .hbm, ⟨71, _⟩ => ⟨S1x256x256x1024, .f32⟩
  | .hbm, ⟨72, _⟩ => ⟨S_, .f32⟩
  | .hbm, ⟨73, _⟩ => ⟨S1x256x256x1024, .f32⟩
  | .hbm, ⟨74, _⟩ => ⟨S1x256x256x1024, .f32⟩
  | .hbm, ⟨75, _⟩ => ⟨S_, .f32⟩
  | .hbm, ⟨76, _⟩ => ⟨S1x256x256, .f32⟩
  | .hbm, ⟨77, _⟩ => ⟨S1x256x256x1, .f32⟩
  | .hbm, ⟨78, _⟩ => ⟨S1x256x256x1, .f32⟩
  | .hbm, ⟨79, _⟩ => ⟨S1x256x256x1, .f32⟩
  | .hbm, ⟨80, _⟩ => ⟨S1x256x256x1, .f32⟩
  | .hbm, ⟨81, _⟩ => ⟨S1x256x256x1024, .f32⟩
  | .hbm, ⟨82, _⟩ => ⟨S1x256x256x1024, .f32⟩
  | .hbm, ⟨83, _⟩ => ⟨S1x256x256x1024, .f32⟩
  | .hbm, ⟨84, _⟩ => ⟨S1x256x256x1, .f32⟩
  | .hbm, ⟨85, _⟩ => ⟨S_, .f32⟩
  | .hbm, ⟨86, _⟩ => ⟨S1x256x256, .f32⟩
  | .hbm, ⟨87, _⟩ => ⟨S1x256x256x1, .f32⟩
  | .hbm, ⟨88, _⟩ => ⟨S1x256x256x1, .f32⟩
  | .hbm, ⟨89, _⟩ => ⟨S1x256x256x1, .f32⟩
  | .hbm, ⟨90, _⟩ => ⟨S1x256x256x128, .f32⟩
  | .hbm, ⟨91, _⟩ => ⟨S1x256x256x128, .f32⟩
  | .hbm, ⟨92, _⟩ => ⟨S1x256x128x256, .f32⟩
  | .hbm, ⟨93, _⟩ => ⟨S1x256x256x128, .f32⟩
  | .hbm, ⟨94, _⟩ => ⟨S1x256x256x128, .f32⟩
  | .hbm, ⟨95, _⟩ => ⟨S1x1024x256x128, .f32⟩
  | .hbm, ⟨96, _⟩ => ⟨S1x1024x256x128, .f32⟩
  | .hbm, ⟨97, _⟩ => ⟨S1x256x256x1024, .f32⟩
  | .hbm, ⟨98, _⟩ => ⟨S_, .f32⟩
  | .hbm, ⟨99, _⟩ => ⟨S1x256x256x1024, .f32⟩
  | .hbm, ⟨100, _⟩ => ⟨S1x256x256x1024, .f32⟩
  | .hbm, ⟨101, _⟩ => ⟨S_, .f32⟩
  | .hbm, ⟨102, _⟩ => ⟨S1x256x256, .f32⟩
  | .hbm, ⟨103, _⟩ => ⟨S1x256x256x1, .f32⟩
  | .hbm, ⟨104, _⟩ => ⟨S1x256x256x1, .f32⟩
  | .hbm, ⟨105, _⟩ => ⟨S1x256x256x1, .f32⟩
  | .hbm, ⟨106, _⟩ => ⟨S1x256x256x1, .f32⟩
  | .hbm, ⟨107, _⟩ => ⟨S1x256x256x1024, .f32⟩
  | .hbm, ⟨108, _⟩ => ⟨S1x256x256x1024, .f32⟩
  | .hbm, ⟨109, _⟩ => ⟨S1x256x256x1024, .f32⟩
  | .hbm, ⟨110, _⟩ => ⟨S1x256x256x1, .f32⟩
  | .hbm, ⟨111, _⟩ => ⟨S_, .f32⟩
  | .hbm, ⟨112, _⟩ => ⟨S1x256x256, .f32⟩
  | .hbm, ⟨113, _⟩ => ⟨S1x256x256x1, .f32⟩
  | .hbm, ⟨114, _⟩ => ⟨S1x256x256x1, .f32⟩
  | .hbm, ⟨115, _⟩ => ⟨S1x256x256x1, .f32⟩
  | .hbm, ⟨116, _⟩ => ⟨S1x256x256x128, .f32⟩
  | .hbm, ⟨117, _⟩ => ⟨S1x256x256x128, .f32⟩
  | .hbm, ⟨118, _⟩ => ⟨S1x256x128x256, .f32⟩
  | .hbm, ⟨119, _⟩ => ⟨S1x256x256x128, .f32⟩
  | .hbm, ⟨120, _⟩ => ⟨S1x256x256x128, .f32⟩
  | .hbm, ⟨121, _⟩ => ⟨S1x256x256x1, .f32⟩
  | .hbm, ⟨122, _⟩ => ⟨S1x256x256x128, .f32⟩
  | .hbm, ⟨123, _⟩ => ⟨S1x256x256x128, .f32⟩
  | .hbm, ⟨124, _⟩ => ⟨S1x256x32768, .f32⟩
  | .hbm, ⟨125, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Proof.KernelIdeal.Proto.lean ====
/-
The kernel's protocol: its cells, what each landing hands over, and what the buffers hold.

Thirty-two devices. Device `c` computes its heads' share of the projected output (`PS`), cut into 32 chunks of 8 rows;
chunk `k` goes to device `k`, which adds the 32 partial chunks (`RS`), rounds the sum and sends it to everybody (`AG`).

Each device has one barrier cell (31 signals, one from every peer), five cells of local copies (the two heads of K and V,
and Wo), and four families of 32 cells indexed by the step `d`: the sends and receives of the reduce-scatter and of the
all-gather. Everything happens in one round.

* Signal `d` of device `c` raises the barrier of `c + d`. It hands over slot `-d` of `c`'s landing buffer and slot `c + d` of
  `c`'s gather buffer: the two places device `c + d` will write to on `c`.
* A landing of the reduce-scatter hands over the slot it filled, its send cell gives back the slot it read.
* A landing of the all-gather hands over the slot it filled, its send cell gives back one of 31 shares of the slot it read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueLayout

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The buffers -/

abbrev xM : Memref sig .tc .vmem S1x256x1024 .f32 := Memref.whole cc0_stg0_0
abbrev wqM : Memref sig .tc .vmem S1024x1024 .f32 := Memref.whole cc0_stg1_0
abbrev oM : Memref sig .tc .vmem S1x256x1024 .f32 := Memref.whole cc0_stg2_0
abbrev woH : Memref sig .tc .hbm S1024x1024 .f32 := Memref.whole main_arg2
abbrev kH : Memref sig .tc .hbm S1x4096x64x128 .f32 := Memref.whole main_arg3
abbrev vH : Memref sig .tc .hbm S1x4096x64x128 .f32 := Memref.whole main_arg4
abbrev kB : Memref sig .tc .vmem S2x4096x128 .f32 := Memref.whole cc0_scratch0
abbrev vB : Memref sig .tc .vmem S2x4096x128 .f32 := Memref.whole cc0_scratch1
abbrev wB : Memref sig .tc .vmem S1024x1024 .f32 := Memref.whole cc0_scratch2
abbrev aB : Memref sig .tc .vmem S256x1024 .bf16 := Memref.whole cc0_scratch3
abbrev sB : Memref sig .tc .vmem S32x8x1024 .bf16 := Memref.whole cc0_scratch4
abbrev rB : Memref sig .tc .vmem S32x8x1024 .bf16 := Memref.whole cc0_scratch5
abbrev gB : Memref sig .tc .vmem S32x8x1024 .bf16 := Memref.whole cc0_scratch6

/-- The contents of one of the three slotted buffers. -/
abbrev CB (F : FTy → Type) : Type := S32x8x1024.Idx → Elt F .bf16

/-! ## The cells -/

/-- A kernel's own cell: one of the five local copies, or step `d` of one of the four families. -/
abbrev CI : Type := Fin 5 ⊕ Fin 4 × Fin 32

/-- The number of a cell's DMA semaphore. -/
def semNo : CI → ℕ
  | .inl i => 3 + i.val
  | .inr (a, d) => 8 + 32 * a.val + d.val

set_option backward.proofsInPublic true in
theorem semNo_lt (k : CI) : semNo k < 136 := by
  rcases k with i | ⟨a, d⟩
  · have := i.isLt; simp only [semNo]; omega
  · have := a.isLt; have := d.isLt; simp only [semNo]; omega

/-- The semaphore of a kernel's own cell. -/
def dsem (k : CI) : DmaSem sig := ⟨semNo k, semNo_lt k⟩

/-- The cell a DMA semaphore's number belongs to (a staging semaphore's to none; it reads as one of the first). -/
def codeN (n : ℕ) : CI :=
  if n < 8 then .inl ⟨(n - 3) % 5, Nat.mod_lt _ (by decide)⟩
  else .inr (⟨(n - 8) / 32 % 4, Nat.mod_lt _ (by decide)⟩, ⟨(n - 8) % 32, Nat.mod_lt _ (by decide)⟩)
def code (s : DmaSem sig) : CI := codeN s.val

theorem codeN_inl (i : Fin 5) : codeN (3 + i.val) = .inl i := by
  have := i.isLt
  unfold codeN
  rw [if_pos (by omega)]
  exact congrArg Sum.inl (Fin.ext (by show (3 + i.val - 3) % 5 = i.val; omega))

theorem codeN_inr (a : Fin 4) (d : Fin 32) : codeN (8 + 32 * a.val + d.val) = .inr (a, d) := by
  have := a.isLt; have := d.isLt
  unfold codeN
  rw [if_neg (by omega)]
  refine congrArg Sum.inr (Prod.ext (Fin.ext ?_) (Fin.ext ?_))
  · show (8 + 32 * a.val + d.val - 8) / 32 % 4 = a.val; omega
  · show (8 + 32 * a.val + d.val - 8) % 32 = d.val; omega

theorem code_dsem (k : CI) : code (dsem k) = k := by
  rcases k with i | ⟨a, d⟩
  · exact codeN_inl i
  · exact codeN_inr a d

theorem dsem_injective : Function.Injective dsem := fun a b h => by
  rw [← code_dsem a, ← code_dsem b, h]

abbrev osem (k : CI) : SemLoc sig := .dma (dsem k)

/-- The runtime's barrier semaphore. -/
abbrev barS : Sem sig := (SemArray.scalar (sig.barrier 0 rfl) : Sems sig S_).sem

/-- A device's cells: the barrier and its own. -/
abbrev KI : Type := Option CI
def ksem : KI → SemLoc sig
  | none => .reg barS
  | some k => .dma (dsem k)
abbrev kcell (ck : Dev nD × KI) : GSem nD τ sig := ((ck.1 : Thread nD τ), ksem ck.2)

abbrev barC (c : Dev nD) : GSem nD τ sig := ((c : Thread nD τ), .reg barS)
abbrev ownC (c : Dev nD) (k : CI) : GSem nD τ sig := ((c : Thread nD τ), .dma (dsem k))
/-- Step `d` of family `a`: 0 sends and 1 receives of the reduce-scatter, 2 sends and 3 receives of the all-gather. -/
abbrev fam (a : Fin 4) (d : Fin 32) : DmaSem sig := dsem (.inr (a, d))
abbrev loc (i : Fin 5) : DmaSem sig := dsem (.inl i)
abbrev famC (c : Dev nD) (a : Fin 4) (d : Fin 32) : GSem nD τ sig := ((c : Thread nD τ), .dma (fam a d))
abbrev locC (c : Dev nD) (i : Fin 5) : GSem nD τ sig := ((c : Thread nD τ), .dma (loc i))

theorem ksem_injective : Function.Injective ksem := fun a b h => by
  cases a <;> cases b <;> simp only [ksem] at h
  · rfl
  · cases h
  · cases h
  · injection h with h'; exact congrArg some (dsem_injective h')

theorem kcell_injective : Function.Injective kcell := fun a b h => by
  obtain ⟨a1, a2⟩ := a; obtain ⟨b1, b2⟩ := b
  simp only [kcell, Prod.mk.injEq] at h
  obtain ⟨⟨h1, -⟩, h2⟩ := h
  exact Prod.ext h1 (ksem_injective h2)

/-- The printed semaphore at step `off` of a family. -/
theorem fam_sem {base : ℕ} (hb : base + S32.numel ≤ 136) {off : Fin 1 → ℕ} {inb} {sq : S1.Squeezes S_} (a : Fin 4) (d : Fin 32)
    (hbase : base = 8 + 32 * a.val) (h : off = ![d.val]) :
    (((SemArray.consecutive base S32 hb : DmaSems sig S32).slice (Rect.unit (s := S32) off S1.size inb)).squeeze S_ sq).sem = fam a d := by
  subst hbase; subst h
  refine Fin.ext ?_
  show 8 + 32 * a.val + (S32.rowMajor _).val = 8 + 32 * a.val + d.val
  rw [Shape.rowMajor_val_one]
  have h0 : ∀ y : (S1 : Shape).Idx, (y 0).val = 0 := fun y => by have := (y 0).isLt; exact Nat.lt_one_iff.mp this
  rw [Rect.emb_apply, h0]
  show 8 + 32 * a.val + (d.val + 1 * 0) = _
  omega

/-! ## Slots -/

/-- Slot `j` of a slotted buffer. -/
def slot (j : Fin 32) : Finset S32x8x1024.Idx := Finset.univ.filter fun x => (x 0).val = j.val

theorem mem_slot {j : Fin 32} {x : S32x8x1024.Idx} : x ∈ slot j ↔ (x 0).val = j.val := by simp [slot]

theorem slot_disjoint : ∀ b b' : Fin 32, b ≠ b' → Disjoint (slot b) (slot b') := fun b b' h => by
  rw [Finset.disjoint_left]; intro x hx hx'
  exact h (Fin.ext ((mem_slot.mp hx).symm.trans (mem_slot.mp hx')))

theorem slot_cover : (Finset.univ : Finset (Fin 32)).biUnion slot = Finset.univ := by
  ext x; simp only [Finset.mem_biUnion, Finset.mem_univ, true_and, iff_true]
  exact ⟨⟨(x 0).val, (x 0).isLt⟩, mem_slot.mpr rfl⟩

abbrev slotR (off : Fin 3 → ℕ) (inb : ∀ a, off a + S1x8x1024.size a ≤ S32x8x1024.size a) : Rect S32x8x1024 := Rect.unit (s := S32x8x1024) off S1x8x1024.size inb

theorem slotR_set {off : Fin 3 → ℕ} {inb : ∀ a, off a + S1x8x1024.size a ≤ S32x8x1024.size a} (j : Fin 32) (h : off = ![j.val, 0, 0]) : (slotR off inb).set = slot j := by
  subst h
  ext x
  rw [mem_slot, show (slotR ![j.val, 0, 0] inb).set = (slotR ![j.val, 0, 0] inb).toLoadRect.set from rfl, LoadRect.mem_set]
  have h1 := (x 1).isLt; have h2 := (x 2).isLt
  constructor
  · intro hx
    obtain ⟨i, hi, he⟩ := hx 0
    have hi' : i < 1 := hi
    have he' : (x 0).val = j.val + 1 * i := he
    omega
  · intro hx a
    fin_cases a
    · exact ⟨0, Nat.one_pos, by show (x 0).val = j.val + 1 * 0; omega⟩
    · exact ⟨(x 1).val, h1, by show (x 1).val = 0 + 1 * (x 1).val; omega⟩
    · exact ⟨(x 2).val, h2, by show (x 2).val = 0 + 1 * (x 2).val; omega⟩

/-- A slot's coordinates: `slotR j` sends `y` to `(j, y 1, y 2)`. -/
theorem slotR_emb {off : Fin 3 → ℕ} {inb : ∀ a, off a + S1x8x1024.size a ≤ S32x8x1024.size a} (j : Fin 32) (h : off = ![j.val, 0, 0]) (y : (slotR off inb).shape.Idx) :
    (slotR off inb).emb y = ix3 j (⟨(y 1).val, (y 1).isLt⟩ : Fin 8) (⟨(y 2).val, (y 2).isLt⟩ : Fin 1024) := by
  subst h
  funext a
  refine Fin.ext ?_
  rw [Rect.emb_apply]
  have h0 : (y 0).val = 0 := Nat.lt_one_iff.mp (y 0).isLt
  fin_cases a
  · show j.val + 1 * (y 0).val = j.val; omega
  · show 0 + 1 * (y 1).val = (y 1).val; omega
  · show 0 + 1 * (y 2).val = (y 2).val; omega

abbrev srcP (c : Dev nD) (j : Fin 32) (f : CB F) : sProp 𝕄 := ((c : Thread nD τ).loc cc0_scratch4) ↦[slot j]{fullShare} f
abbrev bufP (c : Dev nD) (j : Fin 32) (f : CB F) : sProp 𝕄 := ((c : Thread nD τ).loc cc0_scratch5) ↦[slot j]{fullShare} f
abbrev gatP (c : Dev nD) (j : Fin 32) (q : PosShare TreeShare) (f : CB F) : sProp 𝕄 := ((c : Thread nD τ).loc cc0_scratch6) ↦[slot j]{q} f

/-- The share of its own gather slot a device lends to step `d`. -/
def shr (d : Fin 32) : PosShare TreeShare := Transfers.dealOf fullShare (Finset.univ.erase (0 : Fin 32)) d

end Cert.KernelIdeal.Pf
-- ==== Proof.KernelIdeal.Sched.lean ====
/-
What every buffer holds, and the schedule of the cells' single round: duties, amounts, payloads.
-/
module

public import proofs.«01_k».proof.Proof.KernelIdeal.Proto

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The staged `x` and `Wq` of device `c`. -/
def xstg (c : Dev nD) : S1x256x1024.Idx → Elt F .f32 :=
  (win0_0.blk (0 : Fin 1)).view.read (Elt F) (m ((c : Thread nD τ).loc main_arg0))
def wqstg (c : Dev nD) : S1024x1024.Idx → Elt F .f32 :=
  (win0_1.blk (0 : Fin 1)).view.read (Elt F) (m ((c : Thread nD τ).loc main_arg1))
/-- Device `c`'s block of Wo, and its K and V arrays. -/
def woA (c : Dev nD) : S1024x1024.Idx → Elt F .f32 := m ((c : Thread nD τ).loc main_arg2)
def kA (c : Dev nD) : S1x4096x64x128.Idx → Elt F .f32 := m ((c : Thread nD τ).loc main_arg3)
def vA (c : Dev nD) : S1x4096x64x128.Idx → Elt F .f32 := m ((c : Thread nD τ).loc main_arg4)

set_option backward.proofsInPublic true in
/-- Where element `x` of the two copied heads lies in the whole array: head `2 c + x 0`. -/
def hIdx (c : Fin 32) (x : S2x4096x128.Idx) : S1x4096x64x128.Idx :=
  ix4 (0 : Fin 1) (⟨(x 1).val, (x 1).isLt⟩ : Fin 4096)
    (⟨2 * c.val + (x 0).val, by have h : (x 0).val < 2 := (x 0).isLt; have := c.isLt; omega⟩ : Fin 64)
    (⟨(x 2).val, (x 2).isLt⟩ : Fin 128)

/-- The two heads of K and of V as copied. -/
def KM (c : Dev nD) : S2x4096x128.Idx → Elt F .f32 := fun x => kA m c (hIdx c x)
def VM (c : Dev nD) : S2x4096x128.Idx → Elt F .f32 := fun x => vA m c (hIdx c x)

/-- Head `h` of them, as loaded. -/
def hd1 (h : Fin 2) (f : S2x4096x128.Idx → Elt F .f32) : S1x4096x128.Idx → Elt F .f32 :=
  fun y => f (ix3 h (⟨(y 1).val, (y 1).isLt⟩ : Fin 4096) (⟨(y 2).val, (y 2).isLt⟩ : Fin 128))

/-- The scaled queries. -/
def qv (c : Dev nD) : FVec F S256x1024 .f32 := k0_pay1 (xstg m c) (wqstg m c)

/-- The output of head `h`, in the form the kernel stores it. -/
def HD (c : Dev nD) : ℕ → FVec F S256x128 .bf16
  | 0 => k0_pay7 (qv m c) (k0_pay2 (hd1 0 (KM m c))) (hd1 0 (VM m c))
  | 1 => k0_pay8 (qv m c) (k0_pay2 (hd1 0 (KM m c))) (hd1 0 (VM m c))
  | 2 => k0_pay9 (qv m c) (k0_pay2 (hd1 0 (KM m c))) (k0_pay4 (hd1 0 (VM m c)))
  | 3 => k0_pay10 (qv m c) (k0_pay2 (hd1 0 (KM m c))) (k0_pay4 (hd1 0 (VM m c)))
  | 4 => k0_pay12 (k0_pay11 (qv m c) (k0_pay3 (hd1 1 (KM m c))) (k0_pay5 (hd1 1 (VM m c))))
  | 5 => k0_pay13 (qv m c) (k0_pay3 (hd1 1 (KM m c))) (k0_pay5 (hd1 1 (VM m c)))
  | 6 => k0_pay14 (qv m c) (k0_pay3 (hd1 1 (KM m c))) (k0_pay5 (hd1 1 (VM m c)))
  | _ => k0_pay16 (k0_pay15 (qv m c) (k0_pay3 (hd1 1 (KM m c))) (k0_pay5 (hd1 1 (VM m c))))

set_option backward.proofsInPublic true in
/-- The eight heads' outputs side by side. -/
def AT (c : Dev nD) : FVec F S256x1024 .bf16 := fun x =>
  HD m c ((x 1).val / 128) (ix2 (⟨(x 0).val, (x 0).isLt⟩ : Fin 256) (⟨(x 1).val % 128, Nat.mod_lt _ (by decide)⟩ : Fin 128))

/-- Device `c`'s partial product, in 32 chunks of 8 rows. -/
def PS (c : Dev nD) : CB F := k0_pay17 (k0_pay6 (woA m c)) (AT m c)

/-- What device `c`'s landing buffer holds in the end: slot `d` holds chunk `c` of device `c - d`. -/
def RS (c : Dev nD) : CB F := fun x =>
  PS m ((c : Fin 32) - (⟨(x 0).val, (x 0).isLt⟩ : Fin 32)) (ix3 (c : Fin 32) (⟨(x 1).val, (x 1).isLt⟩ : Fin 8) (⟨(x 2).val, (x 2).isLt⟩ : Fin 1024))

/-- What everybody's gather buffer holds in the end: slot `j` holds device `j`'s rounded sum. -/
def AG : CB F := fun x =>
  k0_pay52 (k0_pay51 (RS m (⟨(x 0).val, (x 0).isLt⟩ : Fin 32))) (ix3 (0 : Fin 1) (⟨(x 1).val, (x 1).isLt⟩ : Fin 8) (⟨(x 2).val, (x 2).isLt⟩ : Fin 1024))

/-- Slot `j` of a slotted buffer, as loaded. -/
def sl1 (j : Fin 32) (f : CB F) : FVec F S1x8x1024 .bf16 :=
  fun y => f (ix3 j (⟨(y 1).val, (y 1).isLt⟩ : Fin 8) (⟨(y 2).val, (y 2).isLt⟩ : Fin 1024))

set_option backward.proofsInPublic true in
/-- Device `c`'s result: its own 8 rows unrounded, everybody else's as gathered. -/
def OUT (c : Dev nD) : FVec F S1x256x1024 .f32 := fun x =>
  let y : S1x8x1024.Idx := ix3 (0 : Fin 1) (⟨(x 1).val % 8, Nat.mod_lt _ (by decide)⟩ : Fin 8) (⟨(x 2).val, (x 2).isLt⟩ : Fin 1024)
  if (x 1).val / 8 = c.val then k0_pay53 (k0_pay50 (RS m c)) y
  else k0_pay54 (sl1 (⟨(x 1).val / 8, by have h : (x 1).val < 256 := (x 1).isLt; omega⟩ : Fin 32) (AG m)) y

/-! ## Amounts -/

abbrev NK : ℕ := ((kB.slice (Rect.unit (s := S2x4096x128) ![0, 0, 0] S1x4096x128.size inb_S2x4096x128_S1x4096x128_0_0_0) (fun _ => rfl)).squeeze S4096x128 squeezes_S1x4096x128_S4096x128).view.dmaCredit
abbrev NW : ℕ := wB.view.dmaCredit
abbrev NC : ℕ := ((rB.slice (Rect.unit (s := S32x8x1024) ![0, 0, 0] S1x8x1024.size inb_S32x8x1024_S1x8x1024_0_0_0) (fun _ => rfl)).squeeze S8x1024 squeezes_S1x8x1024_S8x1024).view.dmaCredit

theorem NK_pos : 0 < NK := View.dmaCredit_pos _ (by decide)
theorem NW_pos : 0 < NW := View.dmaCredit_pos _ (by decide)
theorem NC_pos : 0 < NC := View.dmaCredit_pos _ (by decide)

theorem NV_eq : ((vB.slice (Rect.unit (s := S2x4096x128) ![0, 0, 0] S1x4096x128.size inb_S2x4096x128_S1x4096x128_0_0_0) (fun _ => rfl)).squeeze S4096x128 squeezes_S1x4096x128_S4096x128).view.dmaCredit = NK := rfl
theorem NCs_eq : ((sB.slice (Rect.unit (s := S32x8x1024) ![0, 0, 0] S1x8x1024.size inb_S32x8x1024_S1x8x1024_0_0_0) (fun _ => rfl)).squeeze S8x1024 squeezes_S1x8x1024_S8x1024).view.dmaCredit = NC := rfl
theorem NCg_eq : ((gB.slice (Rect.unit (s := S32x8x1024) ![0, 0, 0] S1x8x1024.size inb_S32x8x1024_S1x8x1024_0_0_0) (fun _ => rfl)).squeeze S8x1024 squeezes_S1x8x1024_S8x1024).view.dmaCredit = NC := rfl

/-- What a whole cell's round is worth. -/
def amt : CI → ℕ
  | .inl i => if i = 4 then NW else NK
  | .inr _ => NC

theorem amt_pos (k : CI) : 0 < amt k := by
  rcases k with i | p
  · show 0 < if i = 4 then NW else NK
    split
    · exact NW_pos
    · exact NK_pos
  · exact NC_pos

/-! ## Payloads -/

/-- One of the two copied heads in its buffer, and the same head in the whole array. -/
def hslot (h : Fin 2) : Finset S2x4096x128.Idx := Finset.univ.filter fun x => (x 0).val = h.val
def hsrc (c : Fin 32) (h : Fin 2) : Finset S1x4096x64x128.Idx := Finset.univ.filter fun x => (x 2).val = 2 * c.val + h.val

abbrev khP (c : Dev nD) (h : Fin 2) (f : S2x4096x128.Idx → Elt F .f32) : sProp 𝕄 := ((c : Thread nD τ).loc cc0_scratch0) ↦[hslot h]{fullShare} f
abbrev vhP (c : Dev nD) (h : Fin 2) (f : S2x4096x128.Idx → Elt F .f32) : sProp 𝕄 := ((c : Thread nD τ).loc cc0_scratch1) ↦[hslot h]{fullShare} f
abbrev ksP (c : Dev nD) (h : Fin 2) : sProp 𝕄 := ((c : Thread nD τ).loc main_arg3) ↦[hsrc c h]{fullShare} kA m c
abbrev vsP (c : Dev nD) (h : Fin 2) : sProp 𝕄 := ((c : Thread nD τ).loc main_arg4) ↦[hsrc c h]{fullShare} vA m c
abbrev wP (c : Dev nD) (f : S1024x1024.Idx → Elt F .f32) : sProp 𝕄 := ((c : Thread nD τ).loc cc0_scratch2) ↦{fullShare} f
abbrev wsP (c : Dev nD) : sProp 𝕄 := ((c : Thread nD τ).loc main_arg2) ↦{fullShare} woA m c

/-- What a local copy's landing hands over: the filled place and the source. -/
def locPay (c : Dev nD) : Fin 5 → sProp 𝕄
  | 0 => iprop(khP c 0 (KM m c) ∗ ksP m c 0)
  | 1 => iprop(vhP c 0 (VM m c) ∗ vsP m c 0)
  | 2 => iprop(khP c 1 (KM m c) ∗ ksP m c 1)
  | 3 => iprop(vhP c 1 (VM m c) ∗ vsP m c 1)
  | 4 => iprop(wP c (woA m c) ∗ wsP m c)

/-- What step `d` of a family hands device `c`. -/
def famPay (c : Dev nD) (d : Fin 32) : Fin 4 → sProp 𝕄
  | 0 => srcP c ((c : Fin 32) + d) (PS m c)
  | 1 => bufP c d (RS m c)
  | 2 => gatP c c (shr d) (AG m)
  | 3 => gatP c ((c : Fin 32) - d) fullShare (AG m)

/-- What the signal from device `q + e` hands device `q`: the places `q` will write to on `q + e`. -/
def barPay (q : Dev nD) (e : Fin 32) : sProp 𝕄 :=
  iprop((∃ f, bufP ((q : Fin 32) + e) e f) ∗ (∃ f, gatP ((q : Fin 32) + e) q fullShare f))

def ownPay (c : Dev nD) : CI → sProp 𝕄
  | .inl i => locPay m c i
  | .inr (a, d) => famPay m c d a

instance barPay_storable (q : Dev nD) (e : Fin 32) : BI.Storable (upEmb : UEmb _ 𝕄) (barPay (F := F) q e) := by unfold barPay; infer_instance

instance locPay_storable (c : Dev nD) (i : Fin 5) : BI.Storable (upEmb : UEmb _ 𝕄) (locPay m c i) := by
  fin_cases i <;> (simp only [locPay]; infer_instance)
instance famPay_storable (c : Dev nD) (d : Fin 32) (a : Fin 4) : BI.Storable (upEmb : UEmb _ 𝕄) (famPay m c d a) := by
  fin_cases a <;> (simp only [famPay]; infer_instance)
instance ownPay_storable (c : Dev nD) (k : CI) : BI.Storable (upEmb : UEmb _ 𝕄) (ownPay m c k) := by
  rcases k with i | ⟨a, d⟩ <;> (simp only [ownPay]; infer_instance)

/-! ## The schedule -/

/-- The steps, without the idle step 0. -/
abbrev St : Finset (Fin 32) := Finset.univ.erase 0

def ownDut : CI → Finset (Fin 32)
  | .inl _ => {0}
  | .inr (_, d) => if d = 0 then ∅ else {0}

def dutOf : SemLoc sig → Finset (Fin 32)
  | .reg _ => St
  | .dma s => ownDut (code s)
def amtOf : SemLoc sig → ℕ
  | .reg _ => 1
  | .dma s => amt (code s)
def payOf (c : Dev nD) (e : Fin 32) : SemLoc sig → sProp 𝕄
  | .reg _ => barPay c e
  | .dma s => ownPay m c (code s)

theorem amtOf_pos (s : SemLoc sig) : 0 < amtOf s := by
  rcases s with s | s
  · exact Nat.one_pos
  · exact amt_pos _

def Rd : Rounds.Schedule (GSem nD τ sig) (Fin 32) 𝕄 where
  duties g r := if r = 0 then dutOf g.2 else ∅
  unitless _ := False
  amount g _ _ := amtOf g.2
  payload g _ e := payOf m g.1.1 e g.2
  amount_pos g _ _ _ := amtOf_pos g.2

instance Rd_payload_storable (g : GSem nD τ sig) (r : ℕ) (d : Fin 32) :
    BI.Storable (upEmb : UEmb _ 𝕄) ((Rd (F := F) m).payload g r d) := by
  show BI.Storable upEmb (payOf m g.1.1 d g.2)
  rcases g with ⟨t, s | s⟩
  · show BI.Storable upEmb (barPay t.1 d); infer_instance
  · show BI.Storable upEmb (ownPay m t.1 (code s)); infer_instance

section Sched
variable (c : Dev nD)

theorem duties_bar : (Rd (F := F) m).duties (barC c) 0 = St := rfl
theorem duties_own (k : CI) : (Rd (F := F) m).duties (ownC c k) 0 = ownDut k := by
  show ownDut (code (dsem k)) = _; rw [code_dsem]
theorem duties_loc (i : Fin 5) : (Rd (F := F) m).duties (locC c i) 0 = {0} := duties_own m c _
theorem duties_fam (a : Fin 4) {d : Fin 32} (hd : d ≠ 0) : (Rd (F := F) m).duties (famC c a d) 0 = {0} :=
  (duties_own m c _).trans (if_neg hd)
theorem duties_idle (a : Fin 4) : ∀ r, 0 ≤ r → (Rd (F := F) m).duties (famC c a 0) r = ∅ := fun r _ => by
  show (if r = 0 then dutOf (.dma (fam a 0)) else ∅) = ∅
  split
  · exact (duties_own m c (.inr (a, 0))).trans (show (if (0 : Fin 32) = 0 then (∅ : Finset (Fin 32)) else {0}) = ∅ from if_pos rfl)
  · rfl
theorem duties_later (g : GSem nD τ sig) : ∀ r, 1 ≤ r → (Rd (F := F) m).duties g r = ∅ :=
  fun r hr => if_neg (by omega)

theorem amount_bar (d : Fin 32) : (Rd (F := F) m).amount (barC c) 0 d = 1 := rfl
theorem amount_own (k : CI) (d : Fin 32) : (Rd (F := F) m).amount (ownC c k) 0 d = amt k := by
  show amt (code (dsem k)) = _; rw [code_dsem]
theorem amount_fam (a : Fin 4) (d e : Fin 32) : (Rd (F := F) m).amount (famC c a d) 0 e = NC := amount_own m c _ e

theorem payload_bar (e : Fin 32) : (Rd (F := F) m).payload (barC c) 0 e = barPay c e := rfl
theorem payload_own (k : CI) (e : Fin 32) : (Rd (F := F) m).payload (ownC c k) 0 e = ownPay m c k := by
  show ownPay m c (code (dsem k)) = _; rw [code_dsem]
theorem payload_loc (i : Fin 5) (e : Fin 32) : (Rd (F := F) m).payload (locC c i) 0 e = locPay m c i := payload_own m c _ e
theorem payload_fam (a : Fin 4) (d e : Fin 32) : (Rd (F := F) m).payload (famC c a d) 0 e = famPay m c d a := payload_own m c _ e

theorem expect_bar : (Rd (F := F) m).expect (barC c) 0 = 31 := by
  unfold Schedule.expect Schedule.amountOf
  rw [duties_bar, Finset.sum_congr rfl fun d _ => amount_bar m c d, Finset.sum_const]
  rfl
theorem expect_loc (i : Fin 5) : (Rd (F := F) m).expect (locC c i) 0 = amt (.inl i) := by
  unfold Schedule.expect Schedule.amountOf; rw [duties_loc, Finset.sum_singleton]; exact amount_own m c _ _
theorem expect_fam (a : Fin 4) {d : Fin 32} (hd : d ≠ 0) : (Rd (F := F) m).expect (famC c a d) 0 = NC := by
  unfold Schedule.expect Schedule.amountOf; rw [duties_fam m c a hd, Finset.sum_singleton, amount_fam]

theorem expect_own (k : CI) (hk : ownDut k = {0}) : (Rd (F := F) m).expect (ownC c k) 0 = amt k := by
  unfold Schedule.expect Schedule.amountOf; rw [duties_own m c k, hk, Finset.sum_singleton]; exact amount_own m c _ _
theorem rest_own (k : CI) (hk : ownDut k = {0}) : bigSep ((Rd (F := F) m).duties (ownC c k) 0 \ ∅) (fun d => (Rd (F := F) m).payload (ownC c k) 0 d) = ownPay m c k := by
  rw [Finset.sdiff_empty, duties_own m c k, hk, bigSep_singleton, payload_own]

theorem rest_bar : bigSep ((Rd (F := F) m).duties (barC c) 0 \ ∅) (fun d => (Rd (F := F) m).payload (barC c) 0 d) = bigSep St (barPay c) := by
  rw [Finset.sdiff_empty, duties_bar]; rfl
theorem rest_loc (i : Fin 5) : bigSep ((Rd (F := F) m).duties (locC c i) 0 \ ∅) (fun d => (Rd (F := F) m).payload (locC c i) 0 d) = locPay m c i := by
  rw [Finset.sdiff_empty, duties_loc, bigSep_singleton, payload_loc]
theorem rest_fam (a : Fin 4) {d : Fin 32} (hd : d ≠ 0) : bigSep ((Rd (F := F) m).duties (famC c a d) 0 \ ∅) (fun e => (Rd (F := F) m).payload (famC c a d) 0 e) = famPay m c d a := by
  rw [Finset.sdiff_empty, duties_fam m c a hd, bigSep_singleton, payload_fam]

end Sched

end Cert.KernelIdeal.Pf
-- ==== Proof.KernelIdeal.Steps.lean ====
/-
The levels, what is owed, the sets of pending and done steps, and the barrier signals.
-/
module

public import proofs.«01_k».proof.Proof.KernelIdeal.Sched

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Local copies, sends and staging at 0, barriers at 1, the reduce-scatter's landings at 2, the all-gather's at 3. -/
def lvK : CI → ℕ
  | .inl _ => 0
  | .inr (a, _) => if a = 1 then 2 else if a = 3 then 3 else 0
def lvOf : SemLoc sig → ℕ
  | .reg _ => 1
  | .dma s => lvK (code s)
def lv (g : GSem nD τ sig) (_ : Unit) : ℕ := lvOf g.2

theorem lvOf_own (k : CI) : lvOf (.dma (dsem k)) = lvK k := by show lvK (code (dsem k)) = _; rw [code_dsem]

/-- Everything owed is a core's, at a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · rw [h0, Nat.zero_add] at hg; exact h' g u hg
  · exact h g u h0
theorem above_tally {n : ℕ} (c : Dev nD) (s : SemLoc sig) (k : ℕ) (h : n < lvOf s) : Above n (tallyAt ((c : Thread nD τ), s) () k) := fun g u hg => by
  rw [tallyAt_apply] at hg
  by_cases h' : g = ((c : Thread nD τ), s) ∧ u = ()
  · rw [h'.1]; exact ⟨rfl, h⟩
  · rw [if_neg h'] at hg; exact absurd hg (Nat.lt_irrefl 0)
theorem above_sum {n : ℕ} (S : Finset (Fin 32)) (f : Fin 32 → CellTallies nD τ sig Unit) (h : ∀ d ∈ S, Above n (f d)) : Above n (∑ d ∈ S, f d) := by
  induction S using Finset.induction_on with
  | empty => rw [Finset.sum_empty]; exact above_zero n
  | insert a S ha ih =>
    rw [Finset.sum_insert ha]
    exact above_add (h a (Finset.mem_insert_self _ _)) (ih fun d hd => h d (Finset.mem_insert_of_mem hd))

theorem mayWait (c : Dev nD) (s : SemLoc sig) (n : ℕ) (hs : lvOf s ≤ n) {O : CellTallies nD τ sig Unit} (hO : Above n O) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => by show u ∈ (if g.1.2 = .tc then {()} else ∅); rw [if_pos (hO g u hg).1]; exact Finset.mem_singleton_self _)
    (fun p hp => by rw [Finset.mem_singleton.mp hp]; exact hs)
    (fun g u hg => (hO g u hg).2)

/-! ## Pending and done steps -/

/-- The steps whose turn `key` is not before `n`, and those whose turn is. -/
def Pn (key : Fin 32 → ℕ) (n : ℕ) : Finset (Fin 32) := St.filter (n ≤ key ·)
def Dn (key : Fin 32 → ℕ) (n : ℕ) : Finset (Fin 32) := St.filter (key · < n)

theorem Pn_insert {key : Fin 32 → ℕ} (hk : Function.Injective key) {i : Fin 32} (hi : i ≠ 0) {n : ℕ} (hn : key i = n) :
    Pn key n = insert i (Pn key (n + 1)) ∧ i ∉ Pn key (n + 1) := by
  constructor
  · ext j
    simp only [Pn, Finset.mem_filter, Finset.mem_insert, Finset.mem_erase, Finset.mem_univ, and_true]
    constructor
    · rintro ⟨h0, h1⟩
      by_cases hji : j = i
      · exact .inl hji
      · have : key j ≠ n := fun h => hji (hk (h.trans hn.symm))
        exact .inr ⟨h0, by omega⟩
    · rintro (rfl | ⟨h0, h1⟩)
      · exact ⟨hi, hn.ge⟩
      · exact ⟨h0, by omega⟩
  · simp only [Pn, Finset.mem_filter, not_and]; intro _; omega

theorem Dn_insert {key : Fin 32 → ℕ} (hk : Function.Injective key) {i : Fin 32} (hi : i ≠ 0) {n : ℕ} (hn : key i = n) :
    Dn key (n + 1) = insert i (Dn key n) ∧ i ∉ Dn key n := by
  constructor
  · ext j
    simp only [Dn, Finset.mem_filter, Finset.mem_insert, Finset.mem_erase, Finset.mem_univ, and_true]
    constructor
    · rintro ⟨h0, h1⟩
      by_cases hji : j = i
      · exact .inl hji
      · have : key j ≠ n := fun h => hji (hk (h.trans hn.symm))
        exact .inr ⟨h0, by omega⟩
    · rintro (rfl | ⟨h0, h1⟩)
      · exact ⟨hi, by omega⟩
      · exact ⟨h0, by omega⟩
  · simp only [Dn, Finset.mem_filter, not_and]; intro _; omega

/-- A turn that is the idle step's changes nothing. -/
theorem Pn_skip {key : Fin 32 → ℕ} (hk : Function.Injective key) {n : ℕ} (hn : key 0 = n) : Pn key n = Pn key (n + 1) := by
  ext j
  simp only [Pn, Finset.mem_filter, Finset.mem_erase, Finset.mem_univ, and_true]
  refine and_congr_right fun h0 => ?_
  have : key j ≠ n := fun h => h0 (hk (h.trans hn.symm))
  omega
theorem Dn_skip {key : Fin 32 → ℕ} (hk : Function.Injective key) {n : ℕ} (hn : key 0 = n) : Dn key (n + 1) = Dn key n := by
  ext j
  simp only [Dn, Finset.mem_filter, Finset.mem_erase, Finset.mem_univ, and_true]
  refine and_congr_right fun h0 => ?_
  have : key j ≠ n := fun h => h0 (hk (h.trans hn.symm))
  omega

theorem Pn_all {key : Fin 32 → ℕ} {n : ℕ} (h : ∀ j, j ≠ 0 → n ≤ key j) : Pn key n = St := by
  ext j; simp only [Pn, Finset.mem_filter, Finset.mem_erase, Finset.mem_univ, and_true]
  exact ⟨fun h' => h'.1, fun h' => ⟨h', h j h'⟩⟩
theorem Dn_none {key : Fin 32 → ℕ} {n : ℕ} (h : ∀ j, j ≠ 0 → n ≤ key j) : Dn key n = ∅ := by
  ext j; simp only [Dn, Finset.mem_filter, Finset.mem_erase, Finset.mem_univ, and_true, Finset.notMem_empty, iff_false, not_and]
  intro h0; have := h j h0; omega
theorem Pn_none {key : Fin 32 → ℕ} {n : ℕ} (h : ∀ j, key j < n) : Pn key n = ∅ := by
  ext j; simp only [Pn, Finset.mem_filter, Finset.mem_erase, Finset.mem_univ, and_true, Finset.notMem_empty, iff_false, not_and]
  intro h0; have := h j; omega
theorem Dn_all {key : Fin 32 → ℕ} {n : ℕ} (h : ∀ j, key j < n) : Dn key n = St := by
  ext j; simp only [Dn, Finset.mem_filter, Finset.mem_erase, Finset.mem_univ, and_true]
  exact ⟨fun h' => h'.1, fun h' => ⟨h', h j⟩⟩

theorem bs_Pn {key : Fin 32 → ℕ} (hk : Function.Injective key) {i : Fin 32} (hi : i ≠ 0) {n : ℕ} (hn : key i = n) (Φ : Fin 32 → sProp 𝕄) :
    bigSep (Pn key n) Φ = iprop(Φ i ∗ bigSep (Pn key (n + 1)) Φ) := by
  rw [(Pn_insert hk hi hn).1]; exact bigSep_insert (Pn_insert hk hi hn).2
theorem bs_Dn {key : Fin 32 → ℕ} (hk : Function.Injective key) {i : Fin 32} (hi : i ≠ 0) {n : ℕ} (hn : key i = n) (Φ : Fin 32 → sProp 𝕄) :
    bigSep (Dn key (n + 1)) Φ = iprop(Φ i ∗ bigSep (Dn key n) Φ) := by
  rw [(Dn_insert hk hi hn).1]; exact bigSep_insert (Dn_insert hk hi hn).2
theorem sum_Pn {key : Fin 32 → ℕ} (hk : Function.Injective key) {i : Fin 32} (hi : i ≠ 0) {n : ℕ} (hn : key i = n) (f : Fin 32 → CellTallies nD τ sig Unit) :
    ∑ d ∈ Pn key n, f d = f i + ∑ d ∈ Pn key (n + 1), f d := by
  rw [(Pn_insert hk hi hn).1, Finset.sum_insert (Pn_insert hk hi hn).2]

/-- The turn of step `d` by number, and by the chunk `c + d` it sends. -/
def kv (d : Fin 32) : ℕ := d.val
def kc (c : Fin 32) (d : Fin 32) : ℕ := (c + d).val
theorem kv_inj : Function.Injective kv := fun a b h => Fin.ext h
theorem fin_add_cancel : ∀ c a b : Fin 32, c + a = c + b → a = b := by decide +kernel
theorem fin_add_neg : ∀ c d : Fin 32, c + d + -d = c := by decide +kernel
theorem fin_neg_ne : ∀ d : Fin 32, d ≠ 0 → -d ≠ 0 := by decide +kernel
theorem kc_inj (c : Fin 32) : Function.Injective (kc c) := fun a b h => fin_add_cancel c a b (Fin.ext h)

/-! ## What is owed -/

def tB (c d : Fin 32) : CellTallies nD τ sig Unit := tallyAt (barC (c + d)) () 1
def tR (c d : Fin 32) : CellTallies nD τ sig Unit := tallyAt (famC (c + d) 1 d) () NC
def tG (c d : Fin 32) : CellTallies nD τ sig Unit := tallyAt (famC (c + d) 3 d) () NC

theorem above_B (c : Fin 32) (S) : Above 0 (∑ d ∈ S, tB c d) := above_sum S _ fun d _ => above_tally _ _ _ (by show 0 < 1; decide)
theorem above_R (c : Fin 32) (S) : Above 1 (∑ d ∈ S, tR c d) := above_sum S _ fun d _ => above_tally _ _ _ (by rw [lvOf_own]; show 1 < 2; decide)
theorem above_G (c : Fin 32) (S) : Above 2 (∑ d ∈ S, tG c d) := above_sum S _ fun d _ => above_tally _ _ _ (by rw [lvOf_own]; show 2 < 3; decide)
theorem above_mono {n n' : ℕ} (h : n' ≤ n) {O} (hO : Above n O) : Above n' O := fun g u hg => ⟨(hO g u hg).1, lt_of_le_of_lt h (hO g u hg).2⟩

/-- What device `c` owes: the signals from step `n` on, the chunks from `k` on, the gathered slots from step `j` on. -/
def O₀ (c : Dev nD) : CellTallies nD τ sig Unit := (∑ d ∈ St, tG c d) + (∑ d ∈ St, tR c d) + ∑ d ∈ St, tB c d

theorem above_O₀ (c : Dev nD) : Above 0 (O₀ c) :=
  above_add (above_add (above_mono (by omega) (above_G c St)) (above_mono (by omega) (above_R c St))) (above_B c St)

/-! ## The environment -/

/-- Every cell's invariant, and that every cell is at its round. -/
def records (K : Dev nD × KI → ℕ) : sProp 𝕄 :=
  bigSep Finset.univ fun ck : Dev nD × KI => iprop(cellInv ER (Rd m) (K ck) (kcell ck) ∗ reached ER (kcell ck) 0)

instance records_persistent (K : Dev nD × KI → ℕ) : BI.Persistent (records m K) := by unfold records; infer_instance

def Env : sProp 𝕄 := iprop((∃ K, records m K) ∗ levAts L lv)
instance Env_persistent : BI.Persistent (Env m) := by unfold Env; infer_instance

theorem records_get (K : Dev nD × KI → ℕ) (ck : Dev nD × KI) :
    records m K ⊢ iprop(cellInv ER (Rd m) (K ck) (kcell ck) ∗ reached ER (kcell ck) 0) :=
  bigSep_elim (Finset.mem_univ ck)

/-- Owing `O`, whatever has been waited for. -/
def Ow (c : Dev nD) (O : CellTallies nD τ sig Unit) : sProp 𝕄 := iprop(∃ W, owes (c : Thread nD τ) O W)

abbrev 𝒱₀ : Variants := Variants.none
@[irreducible] def WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_bind' {c : Dev nD} {α β : Type} {p : Prog (TpuEff nD τ sig (Elt F) Λ₀ .tc) α} {k : α → Prog (TpuEff nD τ sig (Elt F) Λ₀ .tc) β}
    {Q : β → sProp 𝕄} {P : sProp 𝕄} (h : P ⊢ WP c p (fun a => WP c (k a) Q)) : P ⊢ WP c (p >>= k) Q := by
  unfold WP at h ⊢; rw [wp_bind]; exact h

theorem wp_pure' {c : Dev nD} {α : Type} {a : α} {Q : α → sProp 𝕄} {P : sProp 𝕄} (h : P ⊢ Q a) : P ⊢ WP c (pure a : Prog (TpuEff nD τ sig (Elt F) Λ₀ .tc) α) Q := by
  refine h.trans ?_
  unfold WP
  show Q a ⊢ wp frame _ _ (.ret a) Q
  rw [wp_ret]
  iintro H; imodintro; iexact H

theorem wp_pure_bind' {c : Dev nD} {α β : Type} {a : α} {k : α → Prog (TpuEff nD τ sig (Elt F) Λ₀ .tc) β}
    {Q : β → sProp 𝕄} {P : sProp 𝕄} (h : P ⊢ WP c (k a) Q) : P ⊢ WP c ((pure a : Prog (TpuEff nD τ sig (Elt F) Λ₀ .tc) α) >>= k) Q := by
  unfold WP at h ⊢; exact h

/-- A part of the body at the launch's own arrays. -/
abbrev app {β : Type 1} (f : ∀ (arg0 : Memref sig .tc .vmem S1x256x1024 .f32) (harg0 : arg0.IsWhole) (arg1 : Memref sig .tc .vmem S1024x1024 .f32) (harg1 : arg1.IsWhole) (arg2 : Memref sig .tc .hbm S1024x1024 .f32) (harg2 : arg2.IsWhole) (arg3 : Memref sig .tc .hbm S1x4096x64x128 .f32) (harg3 : arg3.IsWhole) (arg4 : Memref sig .tc .hbm S1x4096x64x128 .f32) (harg4 : arg4.IsWhole) (arg5 : Memref sig .tc .vmem S1x256x1024 .f32) (harg5 : arg5.IsWhole) (arg6 : Memref sig .tc .vmem S2x4096x128 .f32) (harg6 : arg6.IsWhole) (arg7 : Memref sig .tc .vmem S2x4096x128 .f32) (harg7 : arg7.IsWhole) (arg8 : Memref sig .tc .vmem S1024x1024 .f32) (harg8 : arg8.IsWhole) (arg9 : Memref sig .tc .vmem S256x1024 .bf16) (harg9 : arg9.IsWhole) (arg10 : Memref sig .tc .vmem S32x8x1024 .bf16) (harg10 : arg10.IsWhole) (arg11 : Memref sig .tc .vmem S32x8x1024 .bf16) (harg11 : arg11.IsWhole) (arg12 : Memref sig .tc .vmem S32x8x1024 .bf16) (harg12 : arg12.IsWhole) (arg13 : DmaSems sig S2x2) (arg14 : DmaSems sig S_) (arg15 : DmaSems sig S32) (arg16 : DmaSems sig S32) (arg17 : DmaSems sig S32) (arg18 : DmaSems sig S32), β) : β :=
  f xM (Memref.isWhole_whole _) wqM (Memref.isWhole_whole _) woH (Memref.isWhole_whole _) kH (Memref.isWhole_whole _) vH (Memref.isWhole_whole _) oM (Memref.isWhole_whole _) kB (Memref.isWhole_whole _) vB (Memref.isWhole_whole _) wB (Memref.isWhole_whole _) aB (Memref.isWhole_whole _) sB (Memref.isWhole_whole _) rB (Memref.isWhole_whole _) gB (Memref.isWhole_whole _) cc0_scratch7 cc0_scratch8 cc0_scratch9 cc0_scratch10 cc0_scratch11 cc0_scratch12

/-! ## The barrier signals -/

/-- Step `d`'s token for the barrier of `c + d`, and what it hands over. -/
def sigPend (c d : Fin 32) : sProp 𝕄 :=
  iprop(dutyTok ER (barC (c + d)) 0 (-d) ∗ (∃ f, bufP c (-d) f) ∗ (∃ f, gatP c (c + d) fullShare f))

/-- Before signal `n`. -/
def SigSt (c : Dev nD) (n : ℕ) : sProp 𝕄 :=
  iprop(Ow c ((∑ d ∈ St, tG c d) + (∑ d ∈ St, tR c d) + ∑ d ∈ Pn kv n, tB c d) ∗ bigSep (Pn kv n) (sigPend c))

theorem barPay_sig (c d : Fin 32) : iprop((∃ f, bufP c (-d) f) ∗ (∃ f, gatP c (c + d) fullShare f)) ⊢ ((Rd m).payload (barC (c + d)) 0 (-d) : sProp 𝕄) := by
  rw [payload_bar]
  unfold barPay
  rw [fin_add_neg]

theorem sig_step {c : Dev nD} (n : ℕ) {dst : Dev nD} {i : Fin 32} (hi : i ≠ 0) (hin : kv i = n) (hd : dst = (c : Fin 32) + i) {α : Type}
    {k : PUnit → Prog (TpuEff nD τ sig (Elt F) Λ₀ .tc) α} {Q : α → sProp 𝕄} {R : sProp 𝕄}
    (h : iprop(Env m ∗ SigSt c (n + 1) ∗ R) ⊢ WP c (k ⟨⟩) Q) :
    iprop(Env m ∗ SigSt c n ∗ R) ⊢ WP c (semSignalWord dst barS 1#32 >>= k) Q := by
  subst hd
  show _ ⊢ WP c (.op (.semSignal (((c : Fin 32) + i : Dev nD), .tc) barS (1#32 : BitVec 32).toInt) k) Q
  unfold WP at h ⊢
  unfold SigSt Ow
  rw [bs_Pn kv_inj hi hin, sum_Pn kv_inj hi hin, add_comm (tB c i), ← add_assoc]
  iintro ⟨#He, ⟨⟨%W, HO⟩, Hp, Hps⟩, HR⟩
  ihave He' := (show Env m ⊢ iprop((∃ K, records m K) ∗ levAts L lv) from by unfold Env; exact .rfl) $$ He
  icases He' with ⟨⟨%K, #HK⟩, #HL⟩
  ihave Hi := (records_get m K ((c : Fin 32) + i, none)) $$ HK
  icases Hi with ⟨#Hinv, #Hr⟩
  unfold sigPend
  icases Hp with ⟨Htok, Hpay⟩
  ihave Hpay' := (barPay_sig m c i) $$ Hpay
  iapply (Rounds.wp_signal 𝒱₀ ER (Rd m) (c : Thread nD τ) none (dst := (((c : Fin 32) + i : Dev nD) : Thread nD τ)) (κ := K ((c : Fin 32) + i, none))
      (d := -i) (by rw [duties_bar]; exact Finset.mem_erase.mpr ⟨fin_neg_ne i hi, Finset.mem_univ _⟩) ((amount_bar m ((c : Fin 32) + i) (-i)).trans (by decide)) ()
      ((∑ d ∈ St, tG c d) + (∑ d ∈ St, tR c d) + ∑ d ∈ Pn kv (n + 1), tB c d)
      rfl)
    $$ [HO Htok Hpay']
  · isplitr; · iexact Hinv
    isplitl [HO]; · iexact HO
    isplitl [Htok]; · iexact Htok
    isplitl [Hpay']; · iexact Hpay'
    iexact Hr
  iintro HO
  iapply h
  unfold SigSt Ow
  isplitr; · iexact He
  isplitr [HR]
  · isplitl [HO]
    · iexists W; iexact HO
    iexact Hps
  iexact HR

end Cert.KernelIdeal.Pf
-- ==== Proof.KernelIdeal.Views.lean ====
/-
What the views of the kernel's slices name, and what a copy or a load through them gives.
-/
module

public import proofs.«01_k».proof.Proof.KernelIdeal.Sched

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## The sets of the views -/

theorem hslot_set {off : Fin 3 → ℕ} {inb : ∀ a, off a + S1x4096x128.size a ≤ S2x4096x128.size a} (h : Fin 2) (ho : off = ![h.val, 0, 0]) :
    (Rect.unit (s := S2x4096x128) off S1x4096x128.size inb).set = hslot h := by
  subst ho
  ext x
  rw [show (Rect.unit (s := S2x4096x128) ![h.val, 0, 0] S1x4096x128.size inb).set = (Rect.unit (s := S2x4096x128) ![h.val, 0, 0] S1x4096x128.size inb).toLoadRect.set from rfl, LoadRect.mem_set]
  unfold hslot
  rw [Finset.mem_filter]
  constructor
  · intro hx
    obtain ⟨j, hj, e⟩ := hx 0
    have hj' : j < 1 := hj
    have e' : (x 0).val = h.val + 1 * j := e
    exact ⟨Finset.mem_univ _, by omega⟩
  · rintro ⟨_, hx⟩ a
    fin_cases a
    · exact ⟨0, Nat.one_pos, by show (x 0).val = h.val + 1 * 0; omega⟩
    · exact ⟨(x 1).val, (x 1).isLt, by show (x 1).val = 0 + 1 * (x 1).val; omega⟩
    · exact ⟨(x 2).val, (x 2).isLt, by show (x 2).val = 0 + 1 * (x 2).val; omega⟩

theorem hsrc_set {off : Fin 4 → ℕ} {inb : ∀ a, off a + S1x4096x1x128.size a ≤ S1x4096x64x128.size a} (c : Fin 32) (h : Fin 2) (ho : off = ![0, 0, 2 * c.val + h.val, 0]) :
    (Rect.unit (s := S1x4096x64x128) off S1x4096x1x128.size inb).set = hsrc c h := by
  subst ho
  ext x
  rw [show (Rect.unit (s := S1x4096x64x128) ![0, 0, 2 * c.val + h.val, 0] S1x4096x1x128.size inb).set = (Rect.unit (s := S1x4096x64x128) ![0, 0, 2 * c.val + h.val, 0] S1x4096x1x128.size inb).toLoadRect.set from rfl, LoadRect.mem_set]
  unfold hsrc
  rw [Finset.mem_filter]
  constructor
  · intro hx
    obtain ⟨j, hj, e⟩ := hx 2
    have hj' : j < 1 := hj
    have e' : (x 2).val = (2 * c.val + h.val) + 1 * j := e
    exact ⟨Finset.mem_univ _, by omega⟩
  · rintro ⟨_, hx⟩ a
    fin_cases a
    · exact ⟨(x 0).val, (x 0).isLt, by show (x 0).val = 0 + 1 * (x 0).val; omega⟩
    · exact ⟨(x 1).val, (x 1).isLt, by show (x 1).val = 0 + 1 * (x 1).val; omega⟩
    · exact ⟨0, Nat.one_pos, by show (x 2).val = (2 * c.val + h.val) + 1 * 0; omega⟩
    · exact ⟨(x 3).val, (x 3).isLt, by show (x 3).val = 0 + 1 * (x 3).val; omega⟩

/-! ## One head, copied -/

/-- A two-axis position in a head's one-by-rows-by-columns rectangle. -/
theorem emb_head {off : Fin 3 → ℕ} {inb : ∀ a, off a + S1x4096x128.size a ≤ S2x4096x128.size a} (h : Fin 2) (ho : off = ![h.val, 0, 0])
    (hn : S4096x128.numel = S1x4096x128.numel) (a : Fin 4096) (b : Fin 128) :
    (Rect.unit (s := S2x4096x128) off S1x4096x128.size inb).emb (Shape.reshapeEquiv hn (ix2 a b : S4096x128.Idx)) = (ix3 h a b : S2x4096x128.Idx) := by
  subst ho
  have e : Shape.reshapeEquiv hn (ix2 a b : S4096x128.Idx) = (ix3 (⟨0, Nat.one_pos⟩ : Fin 1) a b : S1x4096x128.Idx) := ValueIdx.reshapeEquiv_ix2_1ab hn a b
  funext ax
  apply Fin.ext
  show ![h.val, 0, 0] ax + 1 * (Shape.reshapeEquiv hn (ix2 a b : S4096x128.Idx) ax).val = _
  rw [e]
  fin_cases ax
  · show h.val + 1 * 0 = h.val; omega
  · show 0 + 1 * a.val = a.val; omega
  · show 0 + 1 * b.val = b.val; omega

theorem reshape_1a1b (hn : S4096x128.numel = S1x4096x1x128.numel) (a : Fin 4096) (b : Fin 128) :
    Shape.reshapeEquiv hn (ix2 a b : S4096x128.Idx) = (ix4 (⟨0, Nat.one_pos⟩ : Fin 1) a (⟨0, Nat.one_pos⟩ : Fin 1) b : S1x4096x1x128.Idx) :=
  Shape.reshapeEquiv_eq_of_rowMajor hn (by
    rw [Shape.rowMajor_val_four, Shape.rowMajor_val_two]
    show (((0 * 4096 + a.val) * 1 + 0) * 128 + b.val) = a.val * 128 + b.val
    omega)

theorem emb_src {off : Fin 4 → ℕ} {inb : ∀ a, off a + S1x4096x1x128.size a ≤ S1x4096x64x128.size a} (c : Fin 32) (h : Fin 2) (ho : off = ![0, 0, 2 * c.val + h.val, 0])
    (hn : S4096x128.numel = S1x4096x1x128.numel) (a : Fin 4096) (b : Fin 128) :
    (Rect.unit (s := S1x4096x64x128) off S1x4096x1x128.size inb).emb (Shape.reshapeEquiv hn (ix2 a b : S4096x128.Idx)) = hIdx c (ix3 h a b) := by
  subst ho
  funext ax
  apply Fin.ext
  show ![0, 0, 2 * c.val + h.val, 0] ax + 1 * (Shape.reshapeEquiv hn (ix2 a b : S4096x128.Idx) ax).val = _
  rw [reshape_1a1b]
  fin_cases ax
  · show 0 + 1 * 0 = 0; omega
  · show 0 + 1 * a.val = a.val; omega
  · show 2 * c.val + h.val + 1 * 0 = 2 * c.val + h.val; omega
  · show 0 + 1 * b.val = b.val; omega

theorem ix3_eta {a b d : ℕ} (x : (⟨3, ![a, b, d]⟩ : Shape).Idx) (i : Fin a) (h : (x 0).val = i.val) :
    x = ix3 i (⟨(x 1).val, (x 1).isLt⟩ : Fin b) (⟨(x 2).val, (x 2).isLt⟩ : Fin d) := by
  funext ax
  apply Fin.ext
  fin_cases ax
  · exact h
  · rfl
  · rfl

/-- What a view's write leaves at the place of one of its positions. -/
theorem write_at {κ : Kind} {sp : Space} {s : Shape} {e : EltTy} (v : View sig κ sp s e) (fd : v.ty.Contents (Elt F)) (w : s.Idx → Elt F e)
    (y : s.Idx) {x : v.ty.shape.Idx} (hy : v.emb y = x) :
    v.write (Elt F) fd w Finset.univ x = _root_.cast (congrArg (Elt F) v.elt_eq.symm) (w y) := by
  rw [← hy]; exact View.write_emb_of_mem (v := v) (Val := Elt F) fd w (Finset.mem_univ y)

section Heads
variable {off1 : Fin 3 → ℕ} {inb1 : ∀ a, off1 a + S1x4096x128.size a ≤ S2x4096x128.size a}
  {off2 : Fin 4 → ℕ} {inb2 : ∀ a, off2 a + S1x4096x1x128.size a ≤ S1x4096x64x128.size a}
  (c : Fin 32) (h : Fin 2) (ho1 : off1 = ![h.val, 0, 0]) (ho2 : off2 = ![0, 0, 2 * c.val + h.val, 0])

abbrev kD (off1 : Fin 3 → ℕ) (inb1 : ∀ a, off1 a + S1x4096x128.size a ≤ S2x4096x128.size a) : Memref sig .tc .vmem S4096x128 .f32 :=
  (kB.slice (Rect.unit (s := S2x4096x128) off1 S1x4096x128.size inb1) (fun _ => rfl)).squeeze S4096x128 squeezes_S1x4096x128_S4096x128
abbrev vD (off1 : Fin 3 → ℕ) (inb1 : ∀ a, off1 a + S1x4096x128.size a ≤ S2x4096x128.size a) : Memref sig .tc .vmem S4096x128 .f32 :=
  (vB.slice (Rect.unit (s := S2x4096x128) off1 S1x4096x128.size inb1) (fun _ => rfl)).squeeze S4096x128 squeezes_S1x4096x128_S4096x128
abbrev kS (off2 : Fin 4 → ℕ) (inb2 : ∀ a, off2 a + S1x4096x1x128.size a ≤ S1x4096x64x128.size a) : Memref sig .tc .hbm S4096x128 .f32 :=
  (kH.slice (Rect.unit (s := S1x4096x64x128) off2 S1x4096x1x128.size inb2) (fun _ => rfl)).squeeze S4096x128 squeezes_S1x4096x1x128_S4096x128
abbrev vS (off2 : Fin 4 → ℕ) (inb2 : ∀ a, off2 a + S1x4096x1x128.size a ≤ S1x4096x64x128.size a) : Memref sig .tc .hbm S4096x128 .f32 :=
  (vH.slice (Rect.unit (s := S1x4096x64x128) off2 S1x4096x1x128.size inb2) (fun _ => rfl)).squeeze S4096x128 squeezes_S1x4096x1x128_S4096x128

include ho1 in
theorem kD_set : (kD off1 inb1).view.set = hslot h :=
  ((View.set_reshape _ _).trans (View.set_slice_whole _ _)).trans (hslot_set h ho1)
include ho1 in
theorem vD_set : (vD off1 inb1).view.set = hslot h :=
  ((View.set_reshape _ _).trans (View.set_slice_whole _ _)).trans (hslot_set h ho1)
include ho2 in
theorem kS_set : (kS off2 inb2).view.set = hsrc c h :=
  ((View.set_reshape _ _).trans (View.set_slice_whole _ _)).trans (hsrc_set c h ho2)
include ho2 in
theorem vS_set : (vS off2 inb2).view.set = hsrc c h :=
  ((View.set_reshape _ _).trans (View.set_slice_whole _ _)).trans (hsrc_set c h ho2)

include ho1 ho2 in
theorem kD_write (fd : S2x4096x128.Idx → Elt F .f32) (fs : S1x4096x64x128.Idx → Elt F .f32) (x : S2x4096x128.Idx) (hx : x ∈ hslot h) :
    (kD off1 inb1).view.write (Elt F) fd ((kS off2 inb2).view.read (Elt F) fs) Finset.univ x = fs (hIdx c x) := by
  have hx0 : (x 0).val = h.val := (Finset.mem_filter.mp hx).2
  refine (write_at (kD off1 inb1).view fd _ (ix2 (⟨(x 1).val, (x 1).isLt⟩ : Fin 4096) (⟨(x 2).val, (x 2).isLt⟩ : Fin 128) : S4096x128.Idx)
    ((emb_head h ho1 _ _ _).trans (ix3_eta x h hx0).symm)).trans (congrArg fs ?_)
  exact (emb_src c h ho2 _ _ _).trans (congrArg (hIdx c) (ix3_eta x h hx0).symm)
include ho1 ho2 in
theorem vD_write (fd : S2x4096x128.Idx → Elt F .f32) (fs : S1x4096x64x128.Idx → Elt F .f32) (x : S2x4096x128.Idx) (hx : x ∈ hslot h) :
    (vD off1 inb1).view.write (Elt F) fd ((vS off2 inb2).view.read (Elt F) fs) Finset.univ x = fs (hIdx c x) := by
  have hx0 : (x 0).val = h.val := (Finset.mem_filter.mp hx).2
  refine (write_at (vD off1 inb1).view fd _ (ix2 (⟨(x 1).val, (x 1).isLt⟩ : Fin 4096) (⟨(x 2).val, (x 2).isLt⟩ : Fin 128) : S4096x128.Idx)
    ((emb_head h ho1 _ _ _).trans (ix3_eta x h hx0).symm)).trans (congrArg fs ?_)
  exact (emb_src c h ho2 _ _ _).trans (congrArg (hIdx c) (ix3_eta x h hx0).symm)
end Heads

/-! ## One slot, copied -/

abbrev sSl (off : Fin 3 → ℕ) (inb : ∀ a, off a + S1x8x1024.size a ≤ S32x8x1024.size a) : Memref sig .tc .vmem S8x1024 .bf16 :=
  (sB.slice (Rect.unit (s := S32x8x1024) off S1x8x1024.size inb) (fun _ => rfl)).squeeze S8x1024 squeezes_S1x8x1024_S8x1024
abbrev rS (off : Fin 3 → ℕ) (inb : ∀ a, off a + S1x8x1024.size a ≤ S32x8x1024.size a) : Memref sig .tc .vmem S8x1024 .bf16 :=
  (rB.slice (Rect.unit (s := S32x8x1024) off S1x8x1024.size inb) (fun _ => rfl)).squeeze S8x1024 squeezes_S1x8x1024_S8x1024
abbrev gS (off : Fin 3 → ℕ) (inb : ∀ a, off a + S1x8x1024.size a ≤ S32x8x1024.size a) : Memref sig .tc .vmem S8x1024 .bf16 :=
  (gB.slice (Rect.unit (s := S32x8x1024) off S1x8x1024.size inb) (fun _ => rfl)).squeeze S8x1024 squeezes_S1x8x1024_S8x1024

section Slots
variable {off : Fin 3 → ℕ} {inb : ∀ a, off a + S1x8x1024.size a ≤ S32x8x1024.size a} (j : Fin 32) (ho : off = ![j.val, 0, 0])
include ho
theorem sS_set : (sSl off inb).view.set = slot j := ((View.set_reshape _ _).trans (View.set_slice_whole _ _)).trans (slotR_set j ho)
theorem rS_set : (rS off inb).view.set = slot j := ((View.set_reshape _ _).trans (View.set_slice_whole _ _)).trans (slotR_set j ho)
theorem gS_set : (gS off inb).view.set = slot j := ((View.set_reshape _ _).trans (View.set_slice_whole _ _)).trans (slotR_set j ho)

/-- An element of slot `j` and its partner in slot `i` have the same position. -/
theorem slot_pair {off' : Fin 3 → ℕ} {inb' : ∀ a, off' a + S1x8x1024.size a ≤ S32x8x1024.size a} (i : Fin 32) (ho' : off' = ![i.val, 0, 0])
    (x : S32x8x1024.Idx) (hx : x ∈ slot j) : ∃ y : S8x1024.Idx,
      (slotR off inb).emb (Shape.reshapeEquiv squeezes_S1x8x1024_S8x1024.numel_eq y) = x ∧
      (slotR off' inb').emb (Shape.reshapeEquiv squeezes_S1x8x1024_S8x1024.numel_eq y)
        = (ix3 i (⟨(x 1).val, (x 1).isLt⟩ : Fin 8) (⟨(x 2).val, (x 2).isLt⟩ : Fin 1024) : S32x8x1024.Idx) := by
  have hx' : x ∈ (rS off inb).view.set := by rw [rS_set j ho]; exact hx
  obtain ⟨y, -, hy⟩ := Finset.mem_map.mp hx'
  refine ⟨y, hy, ?_⟩
  have e1 : x = (slotR off inb).emb (Shape.reshapeEquiv squeezes_S1x8x1024_S8x1024.numel_eq y) := hy.symm
  rw [slotR_emb j ho] at e1
  rw [slotR_emb i ho', e1]
/-- A slot written from another slot holds that one's elements. -/
theorem rS_write {off' : Fin 3 → ℕ} {inb' : ∀ a, off' a + S1x8x1024.size a ≤ S32x8x1024.size a} (i : Fin 32) (ho' : off' = ![i.val, 0, 0])
    (fd fs : CB F) (x : S32x8x1024.Idx) (hx : x ∈ slot j) :
    (rS off inb).view.write (Elt F) fd ((sSl off' inb').view.read (Elt F) fs) Finset.univ x
      = fs (ix3 i (⟨(x 1).val, (x 1).isLt⟩ : Fin 8) (⟨(x 2).val, (x 2).isLt⟩ : Fin 1024)) := by
  obtain ⟨y, h1, h2⟩ := slot_pair (inb := inb) (inb' := inb') j ho i ho' x hx
  exact (write_at (rS off inb).view fd _ y h1).trans (congrArg fs h2)
theorem gS_write {off' : Fin 3 → ℕ} {inb' : ∀ a, off' a + S1x8x1024.size a ≤ S32x8x1024.size a} (i : Fin 32) (ho' : off' = ![i.val, 0, 0])
    (fd fs : CB F) (x : S32x8x1024.Idx) (hx : x ∈ slot j) :
    (gS off inb).view.write (Elt F) fd ((gS off' inb').view.read (Elt F) fs) Finset.univ x
      = fs (ix3 i (⟨(x 1).val, (x 1).isLt⟩ : Fin 8) (⟨(x 2).val, (x 2).isLt⟩ : Fin 1024)) := by
  obtain ⟨y, h1, h2⟩ := slot_pair (inb := inb) (inb' := inb') j ho i ho' x hx
  exact (write_at (gS off inb).view fd _ y h1).trans (congrArg fs h2)
/-- A slot loaded. -/
theorem slot_load (f : CB F) : rB.view.readAt (Elt F) (slotR off inb).toLoadRect f = sl1 j f := by
  funext y
  show f ((slotR off inb).emb y) = _
  rw [slotR_emb j ho]
  rfl
end Slots

theorem head_load {off1 : Fin 3 → ℕ} {inb1 : ∀ a, off1 a + S1x4096x128.size a ≤ S2x4096x128.size a} (h : Fin 2) (ho1 : off1 = ![h.val, 0, 0])
    (f : S2x4096x128.Idx → Elt F .f32) : kB.view.readAt (Elt F) (Rect.unit (s := S2x4096x128) off1 S1x4096x128.size inb1).toLoadRect f = hd1 h f := by
  subst ho1
  funext y
  show f ((Rect.unit (s := S2x4096x128) ![h.val, 0, 0] S1x4096x128.size inb1).emb y) = _
  unfold hd1
  congr 1
  funext ax
  apply Fin.ext
  fin_cases ax
  · show h.val + 1 * (y 0).val = h.val
    have : (y 0).val < 1 := (y 0).isLt
    omega
  · show 0 + 1 * (y 1).val = (y 1).val; omega
  · show 0 + 1 * (y 2).val = (y 2).val; omega

end Cert.KernelIdeal.Pf
-- ==== Proof.KernelIdeal.Ops.lean ====
/-
Rules for the local copies and the waits, in the terms of the protocol.
-/
module

public import proofs.«01_k».proof.Proof.KernelIdeal.Steps
public import proofs.«01_k».proof.Proof.KernelIdeal.Views

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## The environment, read -/

theorem Env_cell (ck : Dev nD × KI) : Env m ⊢ iprop(∃ κ, cellInv ER (Rd m) κ (kcell ck) ∗ reached ER (kcell ck) 0) := by
  unfold Env
  iintro ⟨⟨%K, #HK⟩, #HL⟩
  iexists K ck
  iapply (records_get m K ck)
  iexact HK

theorem Env_lev : Env m ⊢ (levAts L lv : sProp 𝕄) := by
  unfold Env
  iintro ⟨#HK, #HL⟩
  iexact HL

theorem Env_may (c : Dev nD) (s : SemLoc sig) (n : ℕ) (hs : lvOf s ≤ n) {O : CellTallies nD τ sig Unit} (hO : Above n O) :
    Env m ⊢ (MayWait (c : Thread nD τ) s () O : sProp 𝕄) := by
  unfold Env
  iintro ⟨#HK, #HL⟩
  iapply (mayWait c s n hs hO)
  iexact HL

/-! ## Steps in a state -/

/-- The first pending thing is turned into its result, laid with the done ones. -/
theorem pop {E X X' W W' P A : sProp 𝕄} (hE : BI.Persistent E) (hw : iprop(E ∗ X) ⊢ iprop((X' -∗ W') -∗ W)) (H : iprop(E ∗ P ∗ (X' ∗ A)) ⊢ W') :
    iprop(E ∗ (X ∗ P) ∗ A) ⊢ W := by
  iintro ⟨#HE, ⟨HX, HP⟩, HA⟩
  iapply hw $$ [HX]
  · isplitr; · iexact HE
    iexact HX
  iintro HX'
  iapply H
  isplitr; · iexact HE
  isplitl [HP]; · iexact HP
  isplitl [HX']; · iexact HX'
  iexact HA

theorem inPlace {E X X' W W' A : sProp 𝕄} (hE : BI.Persistent E) (hw : iprop(E ∗ X) ⊢ iprop((X' -∗ W') -∗ W)) (H : iprop(E ∗ X' ∗ A) ⊢ W') :
    iprop(E ∗ X ∗ A) ⊢ W := by
  iintro ⟨#HE, HX, HA⟩
  iapply hw $$ [HX]
  · isplitr; · iexact HE
    iexact HX
  iintro HX'
  iapply H
  isplitr; · iexact HE
  isplitl [HX']; · iexact HX'
  iexact HA

theorem lift_bind {α β : Type} (e : TpuEff nD τ sig (Elt F) Λ₀ .tc β) (k : β → Prog (TpuEff nD τ sig (Elt F) Λ₀ .tc) α) : Prog.lift e >>= k = .op e k := rfl

/-! ## Local copies -/

section

/-- Head `h` of K, started on its way. -/
theorem copyK {c : Dev nD} {α : Type} {k : PUnit → Prog (TpuEff nD τ sig (Elt F) Λ₀ .tc) α} {Q : α → sProp 𝕄} (h : Fin 2) (i : Fin 5) (hi : locPay m c i = iprop(khP c h (KM m c) ∗ ksP m c h)) (hi4 : i ≠ 4)
    {off1 : Fin 3 → ℕ} {inb1 : ∀ a, off1 a + S1x4096x128.size a ≤ S2x4096x128.size a}
    {off2 : Fin 4 → ℕ} {inb2 : ∀ a, off2 a + S1x4096x1x128.size a ≤ S1x4096x64x128.size a}
    (ho1 : off1 = ![h.val, 0, 0]) (ho2 : off2 = ![0, 0, 2 * c.val + h.val, 0]) {sem : DmaSem sig} (hsem : sem = loc i)
    {w1 : (kS off2 inb2).view.WordExact} {w2 : (kD off1 inb1).view.WordExact} {w3 : DmaTarget.Typed (nD := nD) (τ := τ) (p := .tc) .hbm (.dma sem) (.here (kD off1 inb1))} :
    iprop(Env m ∗ ((∃ f, khP c h f) ∗ ksP m c h ∗ dutyTok ER (locC c i) 0 0))
      ⊢ iprop((cred (tallyAt (locC c i) () NK) -∗ WP c (k ⟨⟩) Q)
          -∗ WP c (Prog.lift (.enqueueDma (kS off2 inb2) (.here (kD off1 inb1)) (.dma sem) w1 w2 w3) >>= k) Q) := by
  rw [lift_bind]
  unfold WP
  subst hsem
  iintro ⟨#He, ⟨%f, Hd⟩, Hs, Ht⟩
  ihave Hi := (Env_cell m (c, some (.inl i))) $$ He
  icases Hi with ⟨%κ, #Hinv, #Hr⟩
  iapply (Rounds.wp_copy_pointsTo 𝒱₀ ER (Rd m) (c : Thread nD τ) none (src := kS off2 inb2) (dst := kD off1 inb1) (q := fullShare) (fs := kA m c) (fd := f) (r := 0) (d := 0) (κ := κ)
      (by rw [duties_loc]; exact Finset.mem_singleton_self _) () NK rfl
      ((amount_own m c (.inl i) 0).trans (if_neg hi4))
      (by
        rw [payload_loc, hi, kD_set h ho1, kS_set c h ho2]
        exact sep_mono_left (Entails.of_eq (pointsTo_congr fun x hx => kD_write c h ho1 ho2 f (kA m c) x hx))))
  isplitr; · iexact Hinv
  isplitl [Hs]; · rw [kS_set c h ho2]; iexact Hs
  isplitl [Hd]; · rw [kD_set h ho1]; iexact Hd
  isplitl [Ht]; · iexact Ht
  iexact Hr

/-- Head `h` of V, started on its way. -/
theorem copyV {c : Dev nD} {α : Type} {k : PUnit → Prog (TpuEff nD τ sig (Elt F) Λ₀ .tc) α} {Q : α → sProp 𝕄} (h : Fin 2) (i : Fin 5) (hi : locPay m c i = iprop(vhP c h (VM m c) ∗ vsP m c h)) (hi4 : i ≠ 4)
    {off1 : Fin 3 → ℕ} {inb1 : ∀ a, off1 a + S1x4096x128.size a ≤ S2x4096x128.size a}
    {off2 : Fin 4 → ℕ} {inb2 : ∀ a, off2 a + S1x4096x1x128.size a ≤ S1x4096x64x128.size a}
    (ho1 : off1 = ![h.val, 0, 0]) (ho2 : off2 = ![0, 0, 2 * c.val + h.val, 0]) {sem : DmaSem sig} (hsem : sem = loc i)
    {w1 : (vS off2 inb2).view.WordExact} {w2 : (vD off1 inb1).view.WordExact} {w3 : DmaTarget.Typed (nD := nD) (τ := τ) (p := .tc) .hbm (.dma sem) (.here (vD off1 inb1))} :
    iprop(Env m ∗ ((∃ f, vhP c h f) ∗ vsP m c h ∗ dutyTok ER (locC c i) 0 0))
      ⊢ iprop((cred (tallyAt (locC c i) () NK) -∗ WP c (k ⟨⟩) Q)
          -∗ WP c (Prog.lift (.enqueueDma (vS off2 inb2) (.here (vD off1 inb1)) (.dma sem) w1 w2 w3) >>= k) Q) := by
  rw [lift_bind]
  unfold WP
  subst hsem
  iintro ⟨#He, ⟨%f, Hd⟩, Hs, Ht⟩
  ihave Hi := (Env_cell m (c, some (.inl i))) $$ He
  icases Hi with ⟨%κ, #Hinv, #Hr⟩
  iapply (Rounds.wp_copy_pointsTo 𝒱₀ ER (Rd m) (c : Thread nD τ) none (src := vS off2 inb2) (dst := vD off1 inb1) (q := fullShare) (fs := vA m c) (fd := f) (r := 0) (d := 0) (κ := κ)
      (by rw [duties_loc]; exact Finset.mem_singleton_self _) () NK rfl
      ((amount_own m c (.inl i) 0).trans (if_neg hi4))
      (by
        rw [payload_loc, hi, vD_set h ho1, vS_set c h ho2]
        exact sep_mono_left (Entails.of_eq (pointsTo_congr fun x hx => vD_write c h ho1 ho2 f (vA m c) x hx))))
  isplitr; · iexact Hinv
  isplitl [Hs]; · rw [vS_set c h ho2]; iexact Hs
  isplitl [Hd]; · rw [vD_set h ho1]; iexact Hd
  isplitl [Ht]; · iexact Ht
  iexact Hr

abbrev woS (inb : ∀ a, ![0, 0] a + S1024x1024.size a ≤ S1024x1024.size a) : Memref sig .tc .hbm S1024x1024 .f32 :=
  woH.slice (Rect.unit (s := S1024x1024) ![0, 0] S1024x1024.size inb) (fun _ => rfl)

theorem woS_set (inb) : (woS inb).view.set = Finset.univ := by
  refine (View.set_slice_whole _ _).trans ?_
  ext x
  rw [show (Rect.unit (s := S1024x1024) ![0, 0] S1024x1024.size inb).set = (Rect.unit (s := S1024x1024) ![0, 0] S1024x1024.size inb).toLoadRect.set from rfl, LoadRect.mem_set]
  refine ⟨fun _ => Finset.mem_univ _, fun _ a => ⟨(x a).val, (x a).isLt, ?_⟩⟩
  show (x a).val = ![0, 0] a + 1 * (x a).val
  fin_cases a
  · show (x 0).val = 0 + 1 * (x 0).val; omega
  · show (x 1).val = 0 + 1 * (x 1).val; omega

/-- Wo, started on its way. -/
theorem copyW {c : Dev nD} {α : Type} {k : PUnit → Prog (TpuEff nD τ sig (Elt F) Λ₀ .tc) α} {Q : α → sProp 𝕄} {inb : ∀ a, ![0, 0] a + S1024x1024.size a ≤ S1024x1024.size a} {sem : DmaSem sig} (hsem : sem = loc 4)
    {w1 : (woS inb).view.WordExact} {w2 : wB.view.WordExact} {w3 : DmaTarget.Typed (nD := nD) (τ := τ) (p := .tc) .hbm (.dma sem) (.here wB)} :
    iprop(Env m ∗ ((∃ f, wP c f) ∗ wsP m c ∗ dutyTok ER (locC c 4) 0 0))
      ⊢ iprop((cred (tallyAt (locC c 4) () NW) -∗ WP c (k ⟨⟩) Q)
          -∗ WP c (Prog.lift (.enqueueDma (woS inb) (.here wB) (.dma sem) w1 w2 w3) >>= k) Q) := by
  rw [lift_bind]
  unfold WP
  subst hsem
  iintro ⟨#He, ⟨%f, Hd⟩, Hs, Ht⟩
  ihave Hi := (Env_cell m (c, some (.inl 4))) $$ He
  icases Hi with ⟨%κ, #Hinv, #Hr⟩
  iapply (Rounds.wp_copy_pointsTo 𝒱₀ ER (Rd m) (c : Thread nD τ) none (src := woS inb) (dst := wB) (q := fullShare) (fs := woA m c) (fd := f) (r := 0) (d := 0) (κ := κ)
      (by rw [duties_loc]; exact Finset.mem_singleton_self _) () NW rfl
      ((amount_own m c (.inl 4) 0).trans (by show (if (4 : Fin 5) = 4 then NW else NK) = NW; exact if_pos rfl))
      (by
        rw [payload_loc, woS_set, View.set_whole]
        refine sep_mono_left (Entails.of_eq (pointsTo_congr fun x _ => ?_))
        refine (write_at wB.view f _ x rfl).trans (congrArg (woA m c) ?_)
        funext ax
        apply Fin.ext
        show ![0, 0] ax + 1 * (x ax).val = (x ax).val
        fin_cases ax
        · show 0 + 1 * (x 0).val = (x 0).val; omega
        · show 0 + 1 * (x 1).val = (x 1).val; omega))
  isplitr; · iexact Hinv
  isplitl [Hs]; · rw [woS_set]; iexact Hs
  isplitl [Hd]; · rw [View.set_whole]; iexact Hd
  isplitl [Ht]; · iexact Ht
  iexact Hr

/-! ## Waits -/

/-- A wait on an own cell. -/
theorem waitOwn {c : Dev nD} {α : Type} {k : PUnit → Prog (TpuEff nD τ sig (Elt F) Λ₀ .tc) α} {Q : α → sProp 𝕄} (i : CI) (hd : ownDut i = {0}) {O : CellTallies nD τ sig Unit} (n : ℕ) (hn : lvK i ≤ n) (hO : Above n O)
    {sp sp' : Space} {s s' : Shape} {e e' : EltTy} {κ' : Kind} {sem : DmaSem sig} (hsem : sem = dsem i) {src : Memref sig .tc sp' s' e'} {dst : Memref sig κ' sp s e}
    {w1 : src.view.WordExact} {w2 : dst.view.WordExact} (hN : dst.view.dmaCredit = amt i) :
    iprop(Env m ∗ (Ow c O ∗ cred (tallyAt (ownC c i) () (amt i)) ∗ atPos ER (ownC c i) 0 ∅ 0))
      ⊢ iprop(((Ow c O ∗ atPos ER (ownC c i) 1 ∅ 0 ∗ ownPay m c i) -∗ WP c (k ⟨⟩) Q)
          -∗ WP c (Prog.lift (.waitDma2 sem src dst w1 w2) >>= k) Q) := by
  rw [lift_bind]
  unfold WP
  subst hsem
  unfold Ow
  iintro ⟨#He, ⟨%W, HO⟩, Hc, Hat⟩ Hk
  ihave Hi := (Env_cell m (c, some i)) $$ He
  icases Hi with ⟨%κ, #Hinv, -⟩
  ihave HL := (Env_may m c (.dma (dsem i)) n ((lvOf_own i).le.trans hn) hO) $$ He
  have hw : ∀ K : PUnit → sProp 𝕄, wpE (defs₀ (F := F)) 𝒱₀ (c : Thread nD τ) none Set.univ (.waitDma2 (dsem i) src dst w1 w2) K
      = waitSpec (c : Thread nD τ) Set.univ (.dma (dsem i)) (amt i) K := fun K => by rw [← hN]; rfl
  iapply (Rounds.wp_wait_rest_token 𝒱₀ ER (Rd m) (c : Thread nD τ) none (sm := .dma (dsem i)) (k' := amt i) (κ := κ)
      hw (Set.mem_univ _) () (O := O) (W := W) (R := 0) (m := 0) (T := ∅)
      (by rw [Nat.zero_add]; exact (expect_own m c i hd).symm)) $$ [Hc HO Hat HL]
  · isplitr; · iexact Hinv
    isplitl [Hc]; · iexact Hc
    isplitl [HO]; · iexact HO
    isplitl [HL]; · iexact HL
    iexact Hat
  iintro ⟨HO, Hat, -, Hp⟩
  ihave Hp' := (Entails.of_eq (rest_own m c i hd)) $$ Hp
  iapply Hk
  isplitl [HO]; · iexists _; iexact HO
  isplitl [Hat]; · iexact Hat
  iexact Hp'
end

end Cert.KernelIdeal.Pf
-- ==== Proof.KernelIdeal.Chunk.lean ====
/-
Sends, the barrier, and the chunks of the reduce-scatter.
-/
module

public import proofs.«01_k».proof.Proof.KernelIdeal.Ops

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## Sends -/

/-- A send paying step `d` of family `a₁` here and of family `a₂` on `c'`. -/
theorem sendAt {c c' : Dev nD} {α : Type} {k : PUnit → Prog (TpuEff nD τ sig (Elt F) Λ₀ .tc) α} {Q : α → sProp 𝕄}
    (a₁ a₂ : Fin 4) {d : Fin 32} (hd : d ≠ 0) (O : CellTallies nD τ sig Unit)
    {src dst : Memref sig .tc .vmem S8x1024 .bf16} {hsc : dst.view.ref.isScScratch = false}
    {w1 : src.view.WordExact} {w2 : dst.view.WordExact} {w3 : DmaTarget.Typed (nD := nD) (τ := τ) (p := .tc) .vmem (.dma (fam a₂ d)) (.remote (Dev.tc c') dst (.dma (fam a₁ d)) hsc)}
    {q : PosShare TreeShare} {fs : Buf (Elt F) (src.view.loc (c : Thread nD τ))} {fd : Buf (Elt F) (dst.view.loc (c' : Thread nD τ))}
    (hN : dst.view.amount (.dma (fam a₂ d)) = NC)
    (hpay₁ : (src.view.loc (c : Thread nD τ) ↦[src.view.set]{q} fs) ⊢ (famPay m c d a₁ : sProp 𝕄))
    (hpay₂ : (dst.view.loc (c' : Thread nD τ) ↦[dst.view.set]{fullShare} (dst.view.write (Elt F) fd (src.view.read (Elt F) fs) Finset.univ)) ⊢ (famPay m c' d a₂ : sProp 𝕄)) :
    iprop(Env m ∗ (Ow c (O + tallyAt (famC c' a₂ d) () NC) ∗ (src.view.loc (c : Thread nD τ) ↦[src.view.set]{q} fs) ∗ (dst.view.loc (c' : Thread nD τ) ↦[dst.view.set]{fullShare} fd)
        ∗ dutyTok ER (famC c a₁ d) 0 0 ∗ dutyTok ER (famC c' a₂ d) 0 0))
      ⊢ iprop(((Ow c O ∗ cred (tallyAt (famC c a₁ d) () NC)) -∗ WP c (k ⟨⟩) Q)
          -∗ WP c (Prog.lift (.enqueueDma src (.remote (Dev.tc c') dst (.dma (fam a₁ d)) hsc) (.dma (fam a₂ d)) w1 w2 w3) >>= k) Q) := by
  rw [lift_bind]
  unfold WP Ow
  iintro ⟨#He, ⟨%W, HO⟩, Hs, Hd, Ht1, Ht2⟩ Hk
  ihave Hi := (Env_cell m (c, some (.inr (a₁, d)))) $$ He
  icases Hi with ⟨%κ₁, #Hinv1, #Hr1⟩
  ihave Hi := (Env_cell m (c', some (.inr (a₂, d)))) $$ He
  icases Hi with ⟨%κ₂, #Hinv2, #Hr2⟩
  iapply (Rounds.wp_send_pointsTo 𝒱₀ ER (Rd m) (c : Thread nD τ) none (c' := (c' : Thread nD τ)) (src := src) (dst := dst) (sS := .dma (fam a₁ d)) (sem := .dma (fam a₂ d))
      (q := q) (fs := fs) (fd := fd) (r₁ := 0) (r₂ := 0) (d₁ := 0) (d₂ := 0) (κ₁ := κ₁) (κ₂ := κ₂)
      (by rw [duties_fam m c a₁ hd]; exact Finset.mem_singleton_self _) (by rw [duties_fam m c' a₂ hd]; exact Finset.mem_singleton_self _)
      () () NC hN (amount_fam m c a₁ d 0) (amount_fam m c' a₂ d 0) O rfl (W := W)
      (by rw [payload_fam]; exact hpay₁) (by rw [payload_fam]; exact hpay₂)) $$ [HO Hs Hd Ht1 Ht2]
  · isplitr; · iexact Hinv1
    isplitr; · iexact Hinv2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-! ## The barrier -/

theorem fin_add_sub : ∀ c k : Fin 32, c + (k - c) = k := by decide +kernel
theorem fin_sub_ne : ∀ c k : Fin 32, c ≠ k → k - c ≠ 0 := by decide +kernel
theorem fin_add_sub' : ∀ c d : Fin 32, c + d - d = c := by decide +kernel
theorem fin_sub_self : ∀ c : Fin 32, c - c = 0 := by decide +kernel
theorem fin_sub_sub : ∀ c k : Fin 32, k - (k - c) = c := by decide +kernel
theorem kc_zero : ∀ c : Fin 32, (c + 0).val = c.val := by decide +kernel
theorem fin_sub_zero : ∀ c : Fin 32, c - 0 = c := by decide +kernel

/-- The wait for the other 31: their slots come with it. -/
theorem barWait {c : Dev nD} {α : Type} {k : PUnit → Prog (TpuEff nD τ sig (Elt F) Λ₀ .tc) α} {Q : α → sProp 𝕄} (O : CellTallies nD τ sig Unit) (hO : Above 1 O) :
    iprop(Env m ∗ (Ow c O ∗ cred (tallyAt (barC c) () 31) ∗ atPos ER (barC c) 0 ∅ 0))
      ⊢ iprop(((Ow c O ∗ atPos ER (barC c) 1 ∅ 0 ∗ bigSep St (barPay c)) -∗ WP c (k ⟨⟩) Q)
          -∗ WP c (semWaitWord barS 31#32 >>= k) Q) := by
  show _ ⊢ iprop(((Ow c O ∗ atPos ER (barC c) 1 ∅ 0 ∗ bigSep St (barPay c)) -∗ WP c (k ⟨⟩) Q) -∗ WP c (.op (.semWait barS (31#32 : BitVec 32).toInt) k) Q)
  unfold WP Ow
  iintro ⟨#He, ⟨%W, HO⟩, Hc, Hat⟩ Hk
  ihave Hi := (Env_cell m (c, none)) $$ He
  icases Hi with ⟨%κ, #Hinv, -⟩
  ihave HL := (Env_may m c (.reg barS) 1 (le_refl 1) hO) $$ He
  have hw : ∀ K : PUnit → sProp 𝕄, wpE (defs₀ (F := F)) 𝒱₀ (c : Thread nD τ) none Set.univ (.semWait barS (31#32 : BitVec 32).toInt) K
      = waitSpec (c : Thread nD τ) Set.univ (.reg barS) 31 K := fun K => rfl
  iapply (Rounds.wp_wait_rest_token 𝒱₀ ER (Rd m) (c : Thread nD τ) none (sm := .reg barS) (k' := 31) (κ := κ)
      hw (Set.mem_univ _) () (O := O) (W := W) (R := 0) (m := 0) (T := ∅)
      (by rw [Nat.zero_add]; exact (expect_bar m c).symm)) $$ [Hc HO Hat HL]
  · isplitr; · iexact Hinv
    isplitl [Hc]; · iexact Hc
    isplitl [HO]; · iexact HO
    isplitl [HL]; · iexact HL
    iexact Hat
  iintro ⟨HO, Hat, -, Hp⟩
  ihave Hp' := (Entails.of_eq (rest_bar m c)) $$ Hp
  iapply Hk
  isplitl [HO]; · iexists _; iexact HO
  isplitl [Hat]; · iexact Hat
  iexact Hp'

/-! ## The chunks -/

/-- What step `d`, the sending of chunk `c + d`, needs. -/
def chPend (c d : Fin 32) : sProp 𝕄 :=
  iprop(srcP c (c + d) (PS m c) ∗ (∃ f, bufP (c + d) d f) ∗ dutyTok ER (famC c 0 d) 0 0 ∗ dutyTok ER (famC (c + d) 1 d) 0 0)

/-- Before chunk `k`; `k'` chunks have been looked at for being this device's own. -/
def ChSt (c : Dev nD) (k k' : ℕ) : sProp 𝕄 :=
  iprop(Ow c ((∑ d ∈ St, tG c d) + ∑ d ∈ Pn (kc c) k, tR c d)
    ∗ bigSep (Pn (kc c) k) (chPend m c)
    ∗ bigSep (Dn (kc c) k) (fun d => cred (tallyAt (famC c 0 d) () NC))
    ∗ srcP c c (PS m c)
    ∗ (∃ f, bufP c 0 f ∗ ⌜c.val < k' → ∀ x ∈ slot 0, f x = RS m c x⌝))

theorem pay_id (v : FVec F S1x8x1024 .bf16) : k0_pay18 v = v := by
  unfold k0_pay18
  funext y
  show v (Shape.reshapeEquiv _ (Shape.reshapeEquiv _ y)) = v y
  rw [Shape.reshapeEquiv_reshapeEquiv, Shape.reshapeEquiv_self]

theorem kc_sub : ∀ c k : Fin 32, (c + (k - c)).val = k.val := by decide +kernel

/-- A slot stored. -/
theorem slot_store {off : Fin 3 → ℕ} {inb : ∀ a, off a + S1x8x1024.size a ≤ S32x8x1024.size a} (j : Fin 32) (ho : off = ![j.val, 0, 0])
    (f : CB F) (g : CB F) (w : FVec F S1x8x1024 .bf16)
    (hg : ∀ (a : Fin 8) (b : Fin 1024), w (ix3 (0 : Fin 1) a b) = g (ix3 j a b)) (x : S32x8x1024.Idx) (hx : x ∈ slot j) :
    (rB.access (slotR off inb)).write (Elt F) f w Finset.univ x = g x := by
  have hx0 : (x 0).val = j.val := mem_slot.mp hx
  have e := ix3_eta x j hx0
  refine (write_at (rB.access (slotR off inb)) f w (ix3 (0 : Fin 1) (⟨(x 1).val, (x 1).isLt⟩ : Fin 8) (⟨(x 2).val, (x 2).isLt⟩ : Fin 1024) : S1x8x1024.Idx) (x := x)
    ((slotR_emb j ho _).trans e.symm)).trans ?_
  exact (hg _ _).trans (congrArg g e.symm)

theorem own_skip {c : Dev nD} {k : ℕ} (h : c.val ≠ k) {n : ℕ} {R : sProp 𝕄} : iprop(Env m ∗ ChSt m c n k ∗ R) ⊢ iprop(Env m ∗ ChSt m c n (k + 1) ∗ R) := by
  unfold ChSt
  iintro ⟨He, ⟨HO, HP, HD, HS, ⟨%f, HB, %hf⟩⟩, HR⟩
  isplitl [He]; · iexact He
  isplitr [HR]
  · isplitl [HO]; · iexact HO
    isplitl [HP]; · iexact HP
    isplitl [HD]; · iexact HD
    isplitl [HS]; · iexact HS
    iexists f
    isplitl [HB]; · iexact HB
    ipureintro
    exact fun hc => hf (by omega)
  · iexact HR

/-- This device's own chunk goes to slot 0 of its buffer. -/
theorem own_pos {c : Dev nD} (k : ℕ) (hck : c.val = k)
    {offk : Fin 3 → ℕ} {inbk : ∀ a, offk a + S1x8x1024.size a ≤ S32x8x1024.size a} (hk : offk = ![k, 0, 0])
    {off0 : Fin 3 → ℕ} {inb0 : ∀ a, off0 a + S1x8x1024.size a ≤ S32x8x1024.size a} (h0 : off0 = ![0, 0, 0])
    {hl1 : sB.view.LoadsAt (slotR offk inbk).toLoadRect} {hl2 : rB.view.LoadsAt (slotR off0 inb0).toLoadRect}
    {pay : FVec F S1x8x1024 .bf16 → FVec F S1x8x1024 .bf16} (hpay : ∀ w, pay w = w)
    {hst : (rB.access (slotR off0 inb0)).Stores Finset.univ} {hmk : (Finset.univ : Finset (slotR off0 inb0).shape.Idx) = Finset.univ ∨ ∀ a, (slotR off0 inb0).stride a = 1}
    {α : Type} {K : PUnit → Prog (TpuEff nD τ sig (Elt F) Λ₀ .tc) α} {Q : α → sProp 𝕄} {R : sProp 𝕄} {n n1 : ℕ}
    (H : iprop(Env m ∗ ChSt m c n (k + 1) ∗ R) ⊢ WP c (K ⟨⟩) Q) :
    iprop(Env m ∗ ChSt m c n n1 ∗ R) ⊢ WP c
        (Prog.lift (.load sB (slotR offk inbk).toLoadRect hl1) >>= fun (w : Vec F S1x8x1024 .bf16) =>
          Prog.lift (.load rB (slotR off0 inb0).toLoadRect hl2) >>= fun _ =>
          Prog.lift (.store rB (slotR off0 inb0) (pay w) Finset.univ hst hmk) >>= K) Q := by
  subst hck
  simp only [hpay]
  unfold WP at H ⊢
  rw [lift_bind]
  unfold ChSt
  iintro ⟨He, ⟨HO, HP, HD, HS, ⟨%f, HB, %hf⟩⟩, HR⟩
  unfold srcP bufP
  iapply (wp_load_rect 𝒱₀ (c : Thread nD τ) none Set.univ (m := sB) (r := slotR offk inbk) (q := fullShare) (f := PS m c) (S := slot c)
    ((View.set_slice_whole _ _).trans (slotR_set c hk)).subset) $$ [HS]
  · iexact HS
  iintro HS
  rw [lift_bind]
  iapply (wp_load_rect 𝒱₀ (c : Thread nD τ) none Set.univ (m := rB) (r := slotR off0 inb0) (q := fullShare) (f := f) (S := slot 0)
    ((View.set_slice_whole _ _).trans (slotR_set 0 h0)).subset) $$ [HB]
  · iexact HB
  iintro HB
  rw [lift_bind]
  iapply (wp_store 𝒱₀ (c : Thread nD τ) none Set.univ (m := rB) (r := slotR off0 inb0) (Mk := Finset.univ) (f := f) (S := slot 0)
    ((View.set_slice_whole _ _).trans (slotR_set 0 h0)).subset) $$ [HB]
  · iexact HB
  iintro HB
  iapply H
  unfold ChSt srcP bufP
  isplitl [He]; · iexact He
  isplitr [HR]
  · isplitl [HO]; · iexact HO
    isplitl [HP]; · iexact HP
    isplitl [HD]; · iexact HD
    isplitl [HS]; · iexact HS
    iexists _
    isplitl [HB]; · iexact HB
    ipureintro
    intro _ x hx
    refine slot_store 0 h0 f (RS m c) _ (fun a b => ?_) x hx
    show PS m c ((slotR offk inbk).emb (ix3 (0 : Fin 1) a b : S1x8x1024.Idx)) = PS m ((c : Fin 32) - 0) (ix3 c a b)
    rw [slotR_emb c hk, fin_sub_zero]
    rfl
  · iexact HR

/-- Slot `k - c` of device `k` is what device `c` sends. -/
theorem RS_at (c k : Fin 32) (x : S32x8x1024.Idx) (hx : x ∈ slot (k - c)) :
    RS m k x = PS m c (ix3 k (⟨(x 1).val, (x 1).isLt⟩ : Fin 8) (⟨(x 2).val, (x 2).isLt⟩ : Fin 1024)) := by
  have e : (⟨(x 0).val, (x 0).isLt⟩ : Fin 32) = k - c := Fin.ext (mem_slot.mp hx)
  exact congrArg (fun j : Fin 32 => PS m j (ix3 k (⟨(x 1).val, (x 1).isLt⟩ : Fin 8) (⟨(x 2).val, (x 2).isLt⟩ : Fin 1024))) ((congrArg (k - ·) e).trans (fin_sub_sub c k))

theorem send_skip {c : Dev nD} {k : ℕ} (h : c.val = k) {n' : ℕ} {R : sProp 𝕄} : iprop(Env m ∗ ChSt m c k n' ∗ R) ⊢ iprop(Env m ∗ ChSt m c (k + 1) n' ∗ R) := by
  have h0 : kc c 0 = k := by subst h; exact kc_zero c
  unfold ChSt
  rw [← Pn_skip (kc_inj c) h0, Dn_skip (kc_inj c) h0]

theorem off_lit (c : Dev nD) (k : Fin 32) {off : Fin 3 → ℕ} (h : off = ![(32 + k.val - c.val) % 32, 0, 0]) :
    off = ![((k - (c : Fin 32) : Fin 32)).val, 0, 0] := by
  rw [h, Fin.sub_def]
  show _ = ![(32 - c.val + k.val) % 32, 0, 0]
  have hc : c.val < 32 := c.isLt
  rw [show 32 + k.val - c.val = 32 - c.val + k.val from by omega]
theorem off_lit1 (c : Dev nD) (k : Fin 32) {off : Fin 1 → ℕ} (h : off = ![(32 + k.val - c.val) % 32]) :
    off = ![((k - (c : Fin 32) : Fin 32)).val] := by
  rw [h, Fin.sub_def]
  show _ = ![(32 - c.val + k.val) % 32]
  have hc : c.val < 32 := c.isLt
  rw [show 32 + k.val - c.val = 32 - c.val + k.val from by omega]

/-- Another device's chunk is sent to it. -/
theorem send_pos {c : Dev nD} (k : Fin 32) (hck' : c.val ≠ k.val)
    {offk : Fin 3 → ℕ} {inbk : ∀ a, offk a + S1x8x1024.size a ≤ S32x8x1024.size a} (hk : offk = ![k.val, 0, 0])
    {offD : Fin 3 → ℕ} {inbD : ∀ a, offD a + S1x8x1024.size a ≤ S32x8x1024.size a} (hD' : offD = ![(32 + k.val - c.val) % 32, 0, 0])
    {off1 : Fin 1 → ℕ} {inb1 inb1' : ∀ a, off1 a + S1.size a ≤ S32.size a} (ho1 : off1 = ![(32 + k.val - c.val) % 32])
    {b1 b2 : ℕ} {hb1 : b1 + S32.numel ≤ 136} {hb2 : b2 + S32.numel ≤ 136} (he1 : b1 = 8) (he2 : b2 = 40) {sq : S1.Squeezes S_}
    {dev : ℕ} {hdev : dev < nD} (hdk : dev = k.val)
    {x1 : (sSl offk inbk).view.WordExact} {x2 : (rS offD inbD).view.WordExact} {hsc : (rS offD inbD).view.ref.isScScratch = false}
    {x3 : DmaTarget.Typed (nD := nD) (τ := τ) (p := .tc) .vmem (.dma (((SemArray.consecutive b2 S32 hb2 : DmaSems sig S32).slice (Rect.unit (s := S32) off1 S1.size inb1')).squeeze S_ sq).sem)
      (.remote (Dev.tc (⟨dev, hdev⟩ : Dev nD)) (rS offD inbD) (.dma (((SemArray.consecutive b1 S32 hb1 : DmaSems sig S32).slice (Rect.unit (s := S32) off1 S1.size inb1)).squeeze S_ sq).sem) hsc)}
    {α : Type} {K : PUnit → Prog (TpuEff nD τ sig (Elt F) Λ₀ .tc) α} {Q : α → sProp 𝕄} {R : sProp 𝕄} {n n' : ℕ} (hn : n = k.val)
    (H : iprop(Env m ∗ ChSt m c (n + 1) n' ∗ R) ⊢ WP c (K ⟨⟩) Q) :
    iprop(Env m ∗ ChSt m c n n' ∗ R) ⊢ WP c
      (Prog.lift (.enqueueDma (sSl offk inbk) (.remote (Dev.tc (⟨dev, hdev⟩ : Dev nD)) (rS offD inbD) (.dma (((SemArray.consecutive b1 S32 hb1 : DmaSems sig S32).slice (Rect.unit (s := S32) off1 S1.size inb1)).squeeze S_ sq).sem) hsc)
        (.dma (((SemArray.consecutive b2 S32 hb2 : DmaSems sig S32).slice (Rect.unit (s := S32) off1 S1.size inb1')).squeeze S_ sq).sem) x1 x2 x3) >>= K) Q := by
  have hkey : kc c (k - c) = n := by rw [hn]; exact kc_sub c k
  have hck : (c : Fin 32) ≠ k := fun e => hck' (congrArg Fin.val e)
  have hd := fin_sub_ne c k hck
  have hD := off_lit c k hD'
  subst hdk
  have e1 := fam_sem hb1 (inb := inb1) (sq := sq) 0 (k - c) he1 (off_lit1 c k ho1)
  have e2 := fam_sem hb2 (inb := inb1') (sq := sq) 1 (k - c) he2 (off_lit1 c k ho1)
  revert x3
  rw [e1, e2]
  intro y3
  unfold ChSt
  rw [bs_Pn (kc_inj c) hd hkey, sum_Pn (kc_inj c) hd hkey, add_comm (tR c (k - c)), ← add_assoc]
  unfold chPend tR
  rw [fin_add_sub]
  iintro ⟨#He, ⟨HO, ⟨⟨HS, ⟨%f, HB⟩, Ht1, Ht2⟩, HP⟩, HD, HS0, HB0⟩, HR⟩
  iapply (sendAt m (c := c) (c' := k) 0 1 hd ((∑ d ∈ St, tG c d) + ∑ d ∈ Pn (kc c) (n + 1), tR c d) (src := sSl offk inbk) (dst := rS offD inbD) (q := fullShare) (fs := PS m c) (fd := f)
    rfl (by rw [sS_set k hk]; show _ ⊢ srcP c ((c : Fin 32) + (k - c)) (PS m c); rw [fin_add_sub]) ?_) $$ [HO HS HB Ht1 Ht2]
  · rw [rS_set (k - c) hD]
    show _ ⊢ bufP k (k - c) (RS m k)
    refine Entails.of_eq (pointsTo_congr fun x hx => ?_)
    refine (rS_write (k - c) hD k hk f (PS m c) x hx).trans ?_
    exact (RS_at m c k x hx).symm
  · isplitr; · iexact He
    isplitl [HO]; · iexact HO
    isplitl [HS]; · rw [sS_set k hk]; iexact HS
    isplitl [HB]; · rw [rS_set (k - c) hD]; iexact HB
    isplitl [Ht1]; · iexact Ht1
    iexact Ht2
  iintro ⟨HO, Hc⟩
  iapply H
  unfold ChSt
  rw [bs_Dn (kc_inj c) hd hkey]
  isplitr; · iexact He
  isplitr [HR]
  · isplitl [HO]; · iexact HO
    isplitl [HP]; · iexact HP
    isplitl [Hc HD]
    · isplitl [Hc]; · iexact Hc
      iexact HD
    isplitl [HS0]; · iexact HS0
    iexact HB0
  · iexact HR

/-! ## Parts, in a row -/

/-- A part, then the rest: what the part is known to return is at hand there. -/
theorem then_part {c : Dev nD} {α β : Type} {p : Prog (TpuEff nD τ sig (Elt F) Λ₀ .tc) β} {k : β → Prog (TpuEff nD τ sig (Elt F) Λ₀ .tc) α} {Q : α → sProp 𝕄} {P Y : sProp 𝕄}
    (φ : β → Prop) (h1 : P ⊢ WP c p (fun r => iprop(⌜φ r⌝ ∗ Y))) (h2 : ∀ r, φ r → Y ⊢ WP c (k r) Q) : P ⊢ WP c (p >>= k) Q := by
  have h3 : ∀ r, iprop(⌜φ r⌝ ∗ Y) ⊢ WP c (k r) Q := fun r => by
    iintro ⟨%h, HY⟩
    iapply (h2 r h)
    iexact HY
  refine wp_bind' (h1.trans ?_)
  unfold WP at h3 ⊢
  exact (wp frame (wpE (defs₀ (F := F)) 𝒱₀ (c : Thread nD τ) none) Set.univ p).mono h3

/-- The end of a part, where what it returns is known. -/
theorem ret_pure {c : Dev nD} {α : Type} {a : α} {φ : α → Prop} {Y : sProp 𝕄} (h : φ a) : Y ⊢ WP c (pure a : Prog (TpuEff nD τ sig (Elt F) Λ₀ .tc) α) (fun r => iprop(⌜φ r⌝ ∗ Y)) :=
  wp_pure' (by
    iintro HY
    isplitr
    · ipureintro; exact h
    · iexact HY)

/-- The number of the step that sends chunk `k`, as the program reckons it. -/
abbrev v2of (c : Dev nD) : BitVec 32 := Scalar.remsi (Scalar.divsi (Dev.word c) 1#32) 32#32
abbrev ckw (k : BitVec 32) (c : Dev nD) : BitVec 32 := Scalar.remsi (Scalar.addi (Scalar.subi k (v2of c)) 32#32) 32#32

theorem own_iff : ∀ k c : Fin 32, Scalar.cmpi .ne (Scalar.extui (Scalar.cmpi .eq (ckw (BitVec.ofNat 32 k.val) c) 0#32) : BitVec 32) 0#32 = 1#1 ↔ c.val = k.val := by decide +kernel

theorem ne_iff : ∀ k c : Fin 32, Scalar.cmpi .ne (Scalar.extui (Scalar.cmpi .ne (ckw (BitVec.ofNat 32 k.val) c) 0#32) : BitVec 32) 0#32 = 1#1 ↔ c.val ≠ k.val := by decide +kernel

theorem send_iff {c : Dev nD} {w : BitVec 1} {k : ℕ} (h : w = 1#1 ↔ c.val ≠ k) : w ≠ 1#1 → c.val = k := fun hw => by
  by_contra e; exact hw (h.mpr e)

/-- A branch that sends chunk `k` if it is another device's. -/
theorem send_jp {c : Dev nD} (k : ℕ) {α : Type} {v : BitVec 1} {inst : Decidable (v = 1#1)} {E : v = 1#1 → TpuEff nD τ sig (Elt F) Λ₀ .tc PUnit} {K : Prog (TpuEff nD τ sig (Elt F) Λ₀ .tc) α} {Q : α → sProp 𝕄} {R : sProp 𝕄} {n' : ℕ} (hc : v = 1#1 ↔ c.val ≠ k)
    (hA : c.val ≠ k → ∀ h, ∀ J : Prog (TpuEff nD τ sig (Elt F) Λ₀ .tc) α, (iprop(Env m ∗ ChSt m c (k + 1) n' ∗ R) ⊢ WP c J Q) → iprop(Env m ∗ ChSt m c k n' ∗ R) ⊢ WP c (Prog.lift (E h) >>= fun _ => J) Q) (hK : iprop(Env m ∗ ChSt m c (k + 1) n' ∗ R) ⊢ WP c K Q) :
    iprop(Env m ∗ ChSt m c k n' ∗ R) ⊢ WP c (dite (v = 1#1) (fun h => Prog.lift (E h) >>= fun _ => K) (fun _ => K)) Q := by
  by_cases h : v = 1#1
  · rw [dif_pos h]; exact hA (hc.mp h) h K hK
  · rw [dif_neg h]; exact (send_skip m (send_iff hc h)).trans hK
/-- A branch that keeps chunk `k` if it is this device's own. -/
theorem own_jp {c : Dev nD} (k : ℕ) {α β : Type} {v : BitVec 1} {inst : Decidable (v = 1#1)} {E1 : TpuEff nD τ sig (Elt F) Λ₀ .tc β} {E2 : TpuEff nD τ sig (Elt F) Λ₀ .tc β} {E3 : β → TpuEff nD τ sig (Elt F) Λ₀ .tc PUnit}
    {K : Prog (TpuEff nD τ sig (Elt F) Λ₀ .tc) α} {Q : α → sProp 𝕄} {R : sProp 𝕄} {n : ℕ}
    (hc : v = 1#1 ↔ c.val = k) (hA : c.val = k → ∀ J : Prog (TpuEff nD τ sig (Elt F) Λ₀ .tc) α, (iprop(Env m ∗ ChSt m c n (k + 1) ∗ R) ⊢ WP c J Q) → iprop(Env m ∗ ChSt m c n k ∗ R) ⊢ WP c (Prog.lift E1 >>= fun w => Prog.lift E2 >>= fun _ => Prog.lift (E3 w) >>= fun _ => J) Q) (hK : iprop(Env m ∗ ChSt m c n (k + 1) ∗ R) ⊢ WP c K Q) :
    iprop(Env m ∗ ChSt m c n k ∗ R) ⊢ WP c (dite (v = 1#1) (fun h => Prog.lift E1 >>= fun w => Prog.lift E2 >>= fun _ => Prog.lift (E3 w) >>= fun _ => K) (fun _ => K)) Q := by
  by_cases h : v = 1#1
  · rw [dif_pos h]; exact hA (hc.mp h) K hK
  · rw [dif_neg h]; exact (own_skip m fun e => h (hc.mpr e)).trans hK

end Cert.KernelIdeal.Pf
-- ==== Proof.KernelIdeal.PartsA.lean ====
/-
The start of a run, part by part: the local copies, the barrier signals, the staged loads.
-/
module

public import proofs.«01_k».proof.Proof.KernelIdeal.Chunk

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.remsi Scalar.divsi Scalar.subi Scalar.addi Scalar.muli Scalar.cmpi Scalar.extui

theorem dev_lit (c : Dev nD) (n : ℕ) (h : n < 32) {k : ℕ} (hk : k < 32) (he : k = (c.val + n) % 32) : (⟨k, hk⟩ : Dev nD) = (c : Fin 32) + (⟨n, h⟩ : Fin 32) := by
  apply Fin.ext; rw [Fin.val_add]; exact he

/-- The credit of local copy `i`. -/
def crd (c : Dev nD) (i : Fin 5) : sProp 𝕄 := cred (tallyAt (locC c i) () (amt (.inl i)))

/-- What the copy of head `h` of K needs, and of V, and of Wo. -/
def cpK (c : Dev nD) (h : Fin 2) (i : Fin 5) : sProp 𝕄 := iprop((∃ f, khP c h f) ∗ ksP m c h ∗ dutyTok ER (locC c i) 0 0)
def cpV (c : Dev nD) (h : Fin 2) (i : Fin 5) : sProp 𝕄 := iprop((∃ f, vhP c h f) ∗ vsP m c h ∗ dutyTok ER (locC c i) 0 0)
def cpW (c : Dev nD) : sProp 𝕄 := iprop((∃ f, wP c f) ∗ wsP m c ∗ dutyTok ER (locC c 4) 0 0)

theorem loc_sem {r s : ℕ} {inb : ∀ a, ![r, s] a + S1x1.size a ≤ S2x2.size a} {sq : S1x1.Squeezes S_} (i : Fin 5) (hi : i.val = 2 * r + s) :
    (((cc0_scratch7 : DmaSems sig S2x2).slice (Rect.unit (s := S2x2) ![r, s] S1x1.size inb)).squeeze S_ sq).sem = loc i := by
  refine Fin.ext ?_
  show 3 + (S2x2.rowMajor _).val = 3 + i.val
  rw [Shape.rowMajor_val_two]
  have h0 : ∀ (y : (S1x1 : Shape).Idx) a, (y a).val = 0 := fun y a => by
    have := (y a).isLt
    fin_cases a <;> exact Nat.lt_one_iff.mp this
  rw [Rect.emb_apply, Rect.emb_apply, h0, h0, hi]
  show 3 + ((r + 1 * 0) * 2 + (s + 1 * 0)) = _
  omega

theorem ck {c : Dev nD} {α : Type} {k : PUnit → Prog (TpuEff nD τ sig (Elt F) Λ₀ .tc) α} {Q : α → sProp 𝕄} (h : Fin 2) (i : Fin 5) (hi : locPay m c i = iprop(khP c h (KM m c) ∗ ksP m c h)) (hi4 : i ≠ 4)
    {off1 : Fin 3 → ℕ} {inb1 : ∀ a, off1 a + S1x4096x128.size a ≤ S2x4096x128.size a}
    {off2 : Fin 4 → ℕ} {inb2 : ∀ a, off2 a + S1x4096x1x128.size a ≤ S1x4096x64x128.size a}
    (ho1 : off1 = ![h.val, 0, 0]) (ho2 : off2 = ![0, 0, 2 * c.val + h.val, 0]) {sem : DmaSem sig} (hsem : sem = loc i)
    {w1 : (kS off2 inb2).view.WordExact} {w2 : (kD off1 inb1).view.WordExact} {w3 : DmaTarget.Typed (nD := nD) (τ := τ) (p := .tc) .hbm (.dma sem) (.here (kD off1 inb1))} :
    iprop(Env m ∗ cpK m c h i) ⊢ iprop((crd c i -∗ WP c (k ⟨⟩) Q) -∗ WP c (Prog.lift (.enqueueDma (kS off2 inb2) (.here (kD off1 inb1)) (.dma sem) w1 w2 w3) >>= k) Q) := by
  unfold cpK crd
  rw [show amt (.inl i) = NK from if_neg hi4]
  exact copyK m h i hi hi4 ho1 ho2 hsem

theorem cv {c : Dev nD} {α : Type} {k : PUnit → Prog (TpuEff nD τ sig (Elt F) Λ₀ .tc) α} {Q : α → sProp 𝕄} (h : Fin 2) (i : Fin 5) (hi : locPay m c i = iprop(vhP c h (VM m c) ∗ vsP m c h)) (hi4 : i ≠ 4)
    {off1 : Fin 3 → ℕ} {inb1 : ∀ a, off1 a + S1x4096x128.size a ≤ S2x4096x128.size a}
    {off2 : Fin 4 → ℕ} {inb2 : ∀ a, off2 a + S1x4096x1x128.size a ≤ S1x4096x64x128.size a}
    (ho1 : off1 = ![h.val, 0, 0]) (ho2 : off2 = ![0, 0, 2 * c.val + h.val, 0]) {sem : DmaSem sig} (hsem : sem = loc i)
    {w1 : (vS off2 inb2).view.WordExact} {w2 : (vD off1 inb1).view.WordExact} {w3 : DmaTarget.Typed (nD := nD) (τ := τ) (p := .tc) .hbm (.dma sem) (.here (vD off1 inb1))} :
    iprop(Env m ∗ cpV m c h i) ⊢ iprop((crd c i -∗ WP c (k ⟨⟩) Q) -∗ WP c (Prog.lift (.enqueueDma (vS off2 inb2) (.here (vD off1 inb1)) (.dma sem) w1 w2 w3) >>= k) Q) := by
  unfold cpV crd
  rw [show amt (.inl i) = NK from if_neg hi4]
  exact copyV m h i hi hi4 ho1 ho2 hsem

theorem cw {c : Dev nD} {α : Type} {k : PUnit → Prog (TpuEff nD τ sig (Elt F) Λ₀ .tc) α} {Q : α → sProp 𝕄} {inb : ∀ a, ![0, 0] a + S1024x1024.size a ≤ S1024x1024.size a} {sem : DmaSem sig} (hsem : sem = loc 4)
    {w1 : (woS inb).view.WordExact} {w2 : wB.view.WordExact} {w3 : DmaTarget.Typed (nD := nD) (τ := τ) (p := .tc) .hbm (.dma sem) (.here wB)} :
    iprop(Env m ∗ cpW m c) ⊢ iprop((crd c 4 -∗ WP c (k ⟨⟩) Q) -∗ WP c (Prog.lift (.enqueueDma (woS inb) (.here wB) (.dma sem) w1 w2 w3) >>= k) Q) := by
  unfold cpW crd
  rw [show amt (.inl 4) = NW from by show (if (4 : Fin 5) = 4 then NW else NK) = NW; exact if_pos rfl]
  exact copyW m hsem

theorem dev_bind {c : Dev nD} {α : Type} {k : Dev nD → Prog (TpuEff nD τ sig (Elt F) Λ₀ .tc) α} {Q : α → sProp 𝕄} {P : sProp 𝕄} (H : P ⊢ WP c (k c) Q) :
    P ⊢ WP c (Prog.lift .deviceId >>= k) Q := by
  rw [lift_bind]
  unfold WP at H ⊢
  rw [wp_deviceId]
  exact H

/-- A load of a buffer held whole. -/
theorem ld {c : Dev nD} {cs : CoreSpace} {s : Shape} {e : EltTy} {mm : Memref sig .tc cs s e} {r : LoadRect s} {hl : mm.view.LoadsAt r} {α : Type}
    {K : (r.shape.Idx → Elt F e) → Prog (TpuEff nD τ sig (Elt F) Λ₀ .tc) α} {Q : α → sProp 𝕄} {q : PosShare TreeShare} {f : Buf (Elt F) (mm.view.loc (c : Thread nD τ))}
    (S : Finset (Idx (mm.view.loc (c : Thread nD τ)))) (hS : mm.view.setOn r.set ⊆ S)
    (w : r.shape.Idx → Elt F e) (hw : mm.view.readAt (Elt F) r f = w) :
    (mm.view.loc (c : Thread nD τ) ↦[S]{q} f) ⊢ iprop(((mm.view.loc (c : Thread nD τ) ↦[S]{q} f) -∗ WP c (K w) Q) -∗ WP c (Prog.lift (.load mm r hl) >>= K) Q) := by
  rw [lift_bind, ← hw]
  unfold WP
  exact wp_load 𝒱₀ (c : Thread nD τ) none Set.univ hS

theorem part1 (c : Dev nD) {R : sProp 𝕄} : iprop(Env m ∗ (cpK m c 0 0 ∗ cpV m c 0 1) ∗ R) ⊢ WP c (app (k0_part1 (F := F))) (fun r => iprop(⌜r = ⟨c, v2of c⟩⌝ ∗ Env m ∗ (crd c 0 ∗ crd c 1) ∗ R)) := by
  rw [k0_part1_eq_skeleton]; unfold k0_part1_skel app; beta_reduce
  refine dev_bind ?_
  iintro ⟨#HE, ⟨H0, H1⟩, HR⟩
  iapply (ck m 0 0 rfl (by decide) rfl (k0_off1_eq c 0) (loc_sem 0 rfl)) $$ [H0]
  · isplitr; · iexact HE
    iexact H0
  iintro H0
  iapply (cv m 0 1 rfl (by decide) rfl (k0_off1_eq c 0) (loc_sem 1 rfl)) $$ [H1]
  · isplitr; · iexact HE
    iexact H1
  iintro H1
  iapply (ret_pure (φ := fun r => r = ⟨c, v2of c⟩) rfl)
  isplitr; · iexact HE
  isplitl [H0 H1]
  · isplitl [H0]; · iexact H0
    iexact H1
  iexact HR

theorem part2 (c : Dev nD) (v2 : BitVec 32) {R : sProp 𝕄} : iprop(Env m ∗ SigSt c 1 ∗ ((cpK m c 1 2 ∗ cpV m c 1 3 ∗ cpW m c) ∗ R)) ⊢ WP c ((app (k0_part2 (F := F))) c v2) (fun r => iprop(⌜r = SemArray.scalar (sig.barrier 0 rfl)⌝ ∗ Env m ∗ SigSt c 4 ∗ ((crd c 2 ∗ crd c 3 ∗ crd c 4) ∗ R))) := by
  rw [k0_part2_eq_skeleton]; unfold k0_part2_skel app; beta_reduce
  iintro ⟨#HE, HS, ⟨H0, H1, H2⟩, HR⟩
  iapply (ck m 1 2 rfl (by decide) rfl (k0_off1_eq c 1) (loc_sem 2 rfl)) $$ [H0]
  · isplitr; · iexact HE
    iexact H0
  iintro H0
  iapply (cv m 1 3 rfl (by decide) rfl (k0_off1_eq c 1) (loc_sem 3 rfl)) $$ [H1]
  · isplitr; · iexact HE
    iexact H1
  iintro H1
  iapply (cw m rfl) $$ [H2]
  · isplitr; · iexact HE
    iexact H2
  iintro H2
  iapply (sig_step m 1 (i := 1) (by decide) rfl (dev_lit c 1 (by decide) _ (k0_dev1_eq c)) (sig_step m 2 (i := 2) (by decide) rfl (dev_lit c 2 (by decide) _ (k0_dev2_eq c))
    (sig_step m 3 (i := 3) (by decide) rfl (dev_lit c 3 (by decide) _ (k0_dev3_eq c)) (ret_pure (φ := fun r => r = SemArray.scalar (sig.barrier 0 rfl)) rfl))))
  isplitr; · iexact HE
  isplitl [HS]; · iexact HS
  isplitr [HR]
  · isplitl [H0]; · iexact H0
    isplitl [H1]; · iexact H1
    iexact H2
  iexact HR

theorem part3 (c : Dev nD) (v2 : BitVec 32) {R : sProp 𝕄} : iprop(Env m ∗ SigSt c 4 ∗ R) ⊢ WP c ((app (k0_part3 (F := F))) c v2 (SemArray.scalar (sig.barrier 0 rfl))) (fun r => iprop(⌜True⌝ ∗ Env m ∗ SigSt c 10 ∗ R)) := by
  rw [k0_part3_eq_skeleton]; unfold k0_part3_skel app; beta_reduce
  refine sig_step m 4 (i := 4) (by decide) rfl (dev_lit c 4 (by decide) _ (k0_dev4_eq c)) ?_
  refine sig_step m 5 (i := 5) (by decide) rfl (dev_lit c 5 (by decide) _ (k0_dev5_eq c)) ?_
  refine sig_step m 6 (i := 6) (by decide) rfl (dev_lit c 6 (by decide) _ (k0_dev6_eq c)) ?_
  refine sig_step m 7 (i := 7) (by decide) rfl (dev_lit c 7 (by decide) _ (k0_dev7_eq c)) ?_
  refine sig_step m 8 (i := 8) (by decide) rfl (dev_lit c 8 (by decide) _ (k0_dev8_eq c)) ?_
  refine sig_step m 9 (i := 9) (by decide) rfl (dev_lit c 9 (by decide) _ (k0_dev9_eq c)) ?_
  exact ret_pure trivial

theorem part4 (c : Dev nD) (v2 : BitVec 32) {R : sProp 𝕄} : iprop(Env m ∗ SigSt c 10 ∗ R) ⊢ WP c ((app (k0_part4 (F := F))) c v2 (SemArray.scalar (sig.barrier 0 rfl))) (fun r => iprop(⌜True⌝ ∗ Env m ∗ SigSt c 16 ∗ R)) := by
  rw [k0_part4_eq_skeleton]; unfold k0_part4_skel app; beta_reduce
  refine sig_step m 10 (i := 10) (by decide) rfl (dev_lit c 10 (by decide) _ (k0_dev10_eq c)) ?_
  refine sig_step m 11 (i := 11) (by decide) rfl (dev_lit c 11 (by decide) _ (k0_dev11_eq c)) ?_
  refine sig_step m 12 (i := 12) (by decide) rfl (dev_lit c 12 (by decide) _ (k0_dev12_eq c)) ?_
  refine sig_step m 13 (i := 13) (by decide) rfl (dev_lit c 13 (by decide) _ (k0_dev13_eq c)) ?_
  refine sig_step m 14 (i := 14) (by decide) rfl (dev_lit c 14 (by decide) _ (k0_dev14_eq c)) ?_
  refine sig_step m 15 (i := 15) (by decide) rfl (dev_lit c 15 (by decide) _ (k0_dev15_eq c)) ?_
  exact ret_pure trivial

theorem part5 (c : Dev nD) (v2 : BitVec 32) {R : sProp 𝕄} : iprop(Env m ∗ SigSt c 16 ∗ R) ⊢ WP c ((app (k0_part5 (F := F))) c v2 (SemArray.scalar (sig.barrier 0 rfl))) (fun r => iprop(⌜True⌝ ∗ Env m ∗ SigSt c 22 ∗ R)) := by
  rw [k0_part5_eq_skeleton]; unfold k0_part5_skel app; beta_reduce
  refine sig_step m 16 (i := 16) (by decide) rfl (dev_lit c 16 (by decide) _ (k0_dev16_eq c)) ?_
  refine sig_step m 17 (i := 17) (by decide) rfl (dev_lit c 17 (by decide) _ (k0_dev17_eq c)) ?_
  refine sig_step m 18 (i := 18) (by decide) rfl (dev_lit c 18 (by decide) _ (k0_dev18_eq c)) ?_
  refine sig_step m 19 (i := 19) (by decide) rfl (dev_lit c 19 (by decide) _ (k0_dev19_eq c)) ?_
  refine sig_step m 20 (i := 20) (by decide) rfl (dev_lit c 20 (by decide) _ (k0_dev20_eq c)) ?_
  refine sig_step m 21 (i := 21) (by decide) rfl (dev_lit c 21 (by decide) _ (k0_dev21_eq c)) ?_
  exact ret_pure trivial

theorem part6 (c : Dev nD) (v2 : BitVec 32) {R : sProp 𝕄} : iprop(Env m ∗ SigSt c 22 ∗ R) ⊢ WP c ((app (k0_part6 (F := F))) c v2 (SemArray.scalar (sig.barrier 0 rfl))) (fun r => iprop(⌜True⌝ ∗ Env m ∗ SigSt c 28 ∗ R)) := by
  rw [k0_part6_eq_skeleton]; unfold k0_part6_skel app; beta_reduce
  refine sig_step m 22 (i := 22) (by decide) rfl (dev_lit c 22 (by decide) _ (k0_dev22_eq c)) ?_
  refine sig_step m 23 (i := 23) (by decide) rfl (dev_lit c 23 (by decide) _ (k0_dev23_eq c)) ?_
  refine sig_step m 24 (i := 24) (by decide) rfl (dev_lit c 24 (by decide) _ (k0_dev24_eq c)) ?_
  refine sig_step m 25 (i := 25) (by decide) rfl (dev_lit c 25 (by decide) _ (k0_dev25_eq c)) ?_
  refine sig_step m 26 (i := 26) (by decide) rfl (dev_lit c 26 (by decide) _ (k0_dev26_eq c)) ?_
  refine sig_step m 27 (i := 27) (by decide) rfl (dev_lit c 27 (by decide) _ (k0_dev27_eq c)) ?_
  exact ret_pure trivial

/-- The staged arguments. -/
def xP (c : Dev nD) : sProp 𝕄 := ((c : Thread nD τ).loc cc0_stg0_0) ↦{fullShare} (xstg m c)
def wqP (c : Dev nD) : sProp 𝕄 := ((c : Thread nD τ).loc cc0_stg1_0) ↦{fullShare} (wqstg m c)

theorem part7 (c : Dev nD) (v2 : BitVec 32) {R : sProp 𝕄} : iprop(Env m ∗ SigSt c 28 ∗ ((xP m c ∗ wqP m c) ∗ R)) ⊢ WP c ((app (k0_part7 (F := F))) c v2 (SemArray.scalar (sig.barrier 0 rfl))) (fun r => iprop(⌜r = qv m c⌝ ∗ Env m ∗ SigSt c 32 ∗ ((xP m c ∗ wqP m c) ∗ R))) := by
  rw [k0_part7_eq_skeleton]; unfold k0_part7_skel app; beta_reduce
  refine sig_step m 28 (i := 28) (by decide) rfl (dev_lit c 28 (by decide) _ (k0_dev28_eq c)) ?_
  refine sig_step m 29 (i := 29) (by decide) rfl (dev_lit c 29 (by decide) _ (k0_dev29_eq c)) ?_
  refine sig_step m 30 (i := 30) (by decide) rfl (dev_lit c 30 (by decide) _ (k0_dev30_eq c)) ?_
  refine sig_step m 31 (i := 31) (by decide) rfl (dev_lit c 31 (by decide) _ (k0_dev31_eq c)) ?_
  unfold xP wqP
  iintro ⟨HE, HS, ⟨Hx, Hw⟩, HR⟩
  iapply (ld (mm := xM) Finset.univ (Finset.subset_univ _) (xstg m c) (Memref.readAt_unit_zero (Elt F) cc0_stg0_0 (funext fun a => by fin_cases a <;> rfl) _ _)) $$ [Hx]
  · iexact Hx
  iintro Hx
  iapply (ld (mm := wqM) Finset.univ (Finset.subset_univ _) (wqstg m c) (Memref.readAt_unit_zero (Elt F) cc0_stg1_0 (funext fun a => by fin_cases a <;> rfl) _ _)) $$ [Hw]
  · iexact Hw
  iintro Hw
  iapply (ret_pure (φ := fun r => r = qv m c) rfl)
  isplitl [HE]; · iexact HE
  isplitl [HS]; · iexact HS
  isplitr [HR]
  · isplitl [Hx]; · iexact Hx
    iexact Hw
  iexact HR

end Cert.KernelIdeal.Pf
-- ==== Proof.KernelIdeal.Waits.lean ====
/-
Waits for a family of transfers, the sends of the all-gather, and the rows of the result.
-/
module

public import proofs.«01_k».proof.Proof.KernelIdeal.Chunk
public import Idealize.ShloMosaic.Lib.Ring

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## Waits, in order of their numbers -/

/-- Steps below `n` of family `a` have been waited for. -/
def WtF (c : Dev nD) (a : Fin 4) (n : ℕ) : sProp 𝕄 :=
  iprop(bigSep (Pn kv n) (fun d => iprop(cred (tallyAt (famC c a d) () NC) ∗ atPos ER (famC c a d) 0 ∅ 0))
    ∗ bigSep (Dn kv n) (fun d => iprop(atPos ER (famC c a d) 1 ∅ 0 ∗ famPay m c d a)))

theorem wait_step {c : Dev nD} {a : Fin 4} (l : ℕ) (hl : lvK (.inr (a, 0)) ≤ l) {O : CellTallies nD τ sig Unit} (hO : Above l O) {n : ℕ} (d : Fin 32) (hd : d ≠ 0) (hdn : kv d = n)
    {sp sp' : Space} {s s' : Shape} {e e' : EltTy} {κ' : Kind} {sem : DmaSem sig} (hsem : sem = fam a d) {src : Memref sig .tc sp' s' e'} {dst : Memref sig κ' sp s e}
    {w1 : src.view.WordExact} {w2 : dst.view.WordExact} (hN : dst.view.dmaCredit = NC)
    {α : Type} {k : PUnit → Prog (TpuEff nD τ sig (Elt F) Λ₀ .tc) α} {Q : α → sProp 𝕄} {R : sProp 𝕄}
    (H : iprop(Env m ∗ Ow c O ∗ WtF m c a (n + 1) ∗ R) ⊢ WP c (k ⟨⟩) Q) :
    iprop(Env m ∗ Ow c O ∗ WtF m c a n ∗ R) ⊢ WP c (Prog.lift (.waitDma2 sem src dst w1 w2) >>= k) Q := by
  unfold WtF at H ⊢
  rw [bs_Pn kv_inj hd hdn]
  rw [bs_Dn kv_inj hd hdn] at H
  iintro ⟨#He, HO, ⟨⟨⟨Hc, Hat⟩, HP⟩, HD⟩, HR⟩
  iapply (waitOwn m (c := c) (.inr (a, d)) (show (if d = 0 then (∅ : Finset (Fin 32)) else {0}) = {0} from if_neg hd) l hl hO hsem (src := src) (dst := dst) hN) $$ [HO Hc Hat]
  · isplitr; · iexact He
    isplitl [HO]; · iexact HO
    isplitl [Hc]; · iexact Hc
    iexact Hat
  iintro ⟨HO, Hat, Hp⟩
  ihave Hp := (Entails.of_eq (show ownPay m c (.inr (a, d)) = famPay m c d a from rfl)) $$ Hp
  iapply H
  isplitr; · iexact He
  isplitl [HO]; · iexact HO
  isplitr [HR]
  · isplitl [HP]; · iexact HP
    isplitl [Hat Hp]
    · isplitl [Hat]; · iexact Hat
      iexact Hp
    iexact HD
  iexact HR

/-- The same two places further on. -/
theorem wait_step' {c : Dev nD} {a : Fin 4} (l : ℕ) (hl : lvK (.inr (a, 0)) ≤ l) {O : CellTallies nD τ sig Unit} (hO : Above l O) {n : ℕ} (d : Fin 32) (hd : d ≠ 0) (hdn : kv d = n)
    {sp sp' : Space} {s s' : Shape} {e e' : EltTy} {κ' : Kind} {sem : DmaSem sig} (hsem : sem = fam a d) {src : Memref sig .tc sp' s' e'} {dst : Memref sig κ' sp s e}
    {w1 : src.view.WordExact} {w2 : dst.view.WordExact} (hN : dst.view.dmaCredit = NC)
    {α : Type} {k : PUnit → Prog (TpuEff nD τ sig (Elt F) Λ₀ .tc) α} {Q : α → sProp 𝕄} {P P' R : sProp 𝕄}
    (H : iprop(Env m ∗ Ow c O ∗ P ∗ P' ∗ WtF m c a (n + 1) ∗ R) ⊢ WP c (k ⟨⟩) Q) :
    iprop(Env m ∗ Ow c O ∗ P ∗ P' ∗ WtF m c a n ∗ R) ⊢ WP c (Prog.lift (.waitDma2 sem src dst w1 w2) >>= k) Q := by
  have hs : ∀ A B C D E G : sProp 𝕄, iprop(A ∗ B ∗ C ∗ D ∗ E ∗ G) ⊢ iprop(A ∗ B ∗ E ∗ (C ∗ D ∗ G)) := fun A B C D E G => by
    iintro ⟨HA, HB, HC, HD, HE, HG⟩
    isplitl [HA]; · iexact HA
    isplitl [HB]; · iexact HB
    isplitl [HE]; · iexact HE
    isplitl [HC]; · iexact HC
    isplitl [HD]; · iexact HD
    iexact HG
  have hs' : ∀ A B C D E G : sProp 𝕄, iprop(A ∗ B ∗ E ∗ (C ∗ D ∗ G)) ⊢ iprop(A ∗ B ∗ C ∗ D ∗ E ∗ G) := fun A B C D E G => by
    iintro ⟨HA, HB, HE, HC, HD, HG⟩
    isplitl [HA]; · iexact HA
    isplitl [HB]; · iexact HB
    isplitl [HC]; · iexact HC
    isplitl [HD]; · iexact HD
    isplitl [HE]; · iexact HE
    iexact HG
  exact (hs _ _ _ _ _ _).trans (wait_step m l hl hO d hd hdn hsem (src := src) (dst := dst) hN ((hs' _ _ _ _ _ _).trans H))

/-! ## The all-gather's sends -/

/-- What step `d`, the sending to device `c + d`, needs. -/
def agPend (c d : Fin 32) : sProp 𝕄 :=
  iprop(gatP c c (shr d) (AG m) ∗ (∃ f, gatP (c + d) c fullShare f) ∗ dutyTok ER (famC c 2 d) 0 0 ∗ dutyTok ER (famC (c + d) 3 d) 0 0)

def AgSt (c : Dev nD) (n : ℕ) : sProp 𝕄 :=
  iprop(Ow c (∑ d ∈ Pn kv n, tG c d) ∗ bigSep (Pn kv n) (agPend m c) ∗ bigSep (Dn kv n) (fun d => cred (tallyAt (famC c 2 d) () NC)))

theorem fin_add_sub_self : ∀ c d : Fin 32, c + d - d = c := by decide +kernel

/-- The sum's own slot, copied to the peer. -/
theorem AG_write {offD : Fin 3 → ℕ} {inbD : ∀ a, offD a + S1x8x1024.size a ≤ S32x8x1024.size a} (c : Fin 32) (hD : offD = ![c.val, 0, 0]) {inbE : ∀ a, offD a + S1x8x1024.size a ≤ S32x8x1024.size a}
    (fd : CB F) (x : S32x8x1024.Idx) (hx : x ∈ slot c) :
    (gS offD inbD).view.write (Elt F) fd ((gS offD inbE).view.read (Elt F) (AG m)) Finset.univ x = AG m x := by
  refine (gS_write c hD c hD fd (AG m) x hx).trans (congrArg (AG m) ?_)
  exact (ix3_eta x c (mem_slot.mp hx)).symm

theorem ag_step {c : Dev nD} {n : ℕ} (d : Fin 32) (hd : d ≠ 0) (hdn : kv d = n)
    {offD : Fin 3 → ℕ} {inbD inbE : ∀ a, offD a + S1x8x1024.size a ≤ S32x8x1024.size a} (hD : offD = ![c.val, 0, 0])
    {off1 : Fin 1 → ℕ} {inb1 inb1' : ∀ a, off1 a + S1.size a ≤ S32.size a} (ho1 : off1 = ![d.val])
    {b1 b2 : ℕ} {hb1 : b1 + S32.numel ≤ 136} {hb2 : b2 + S32.numel ≤ 136} (he1 : b1 = 72) (he2 : b2 = 104) {sq : S1.Squeezes S_}
    {dev : ℕ} {hdev : dev < nD} (hdk : dev = (c.val + d.val) % 32)
    {x1 : (gS offD inbE).view.WordExact} {x2 : (gS offD inbD).view.WordExact} {hsc : (gS offD inbD).view.ref.isScScratch = false}
    {x3 : DmaTarget.Typed (nD := nD) (τ := τ) (p := .tc) .vmem (.dma (((SemArray.consecutive b2 S32 hb2 : DmaSems sig S32).slice (Rect.unit (s := S32) off1 S1.size inb1')).squeeze S_ sq).sem)
      (.remote (Dev.tc (⟨dev, hdev⟩ : Dev nD)) (gS offD inbD) (.dma (((SemArray.consecutive b1 S32 hb1 : DmaSems sig S32).slice (Rect.unit (s := S32) off1 S1.size inb1)).squeeze S_ sq).sem) hsc)}
    {α : Type} {K : PUnit → Prog (TpuEff nD τ sig (Elt F) Λ₀ .tc) α} {Q : α → sProp 𝕄} {R : sProp 𝕄}
    (H : iprop(Env m ∗ AgSt m c (n + 1) ∗ R) ⊢ WP c (K ⟨⟩) Q) :
    iprop(Env m ∗ AgSt m c n ∗ R) ⊢ WP c
      (Prog.lift (.enqueueDma (gS offD inbE) (.remote (Dev.tc (⟨dev, hdev⟩ : Dev nD)) (gS offD inbD) (.dma (((SemArray.consecutive b1 S32 hb1 : DmaSems sig S32).slice (Rect.unit (s := S32) off1 S1.size inb1)).squeeze S_ sq).sem) hsc)
        (.dma (((SemArray.consecutive b2 S32 hb2 : DmaSems sig S32).slice (Rect.unit (s := S32) off1 S1.size inb1')).squeeze S_ sq).sem) x1 x2 x3) >>= K) Q := by
  have hdst : (⟨dev, hdev⟩ : Dev nD) = (c : Fin 32) + d := Fin.ext (by rw [Fin.val_add]; exact hdk)
  have e1 := fam_sem hb1 (inb := inb1) (sq := sq) 2 d he1 ho1
  have e2 := fam_sem hb2 (inb := inb1') (sq := sq) 3 d he2 ho1
  revert x3
  rw [hdst, e1, e2]
  intro y3
  unfold AgSt
  rw [bs_Pn kv_inj hd hdn, sum_Pn kv_inj hd hdn, add_comm (tG c d)]
  unfold agPend tG
  iintro ⟨#He, ⟨HO, ⟨⟨HS, ⟨%f, HB⟩, Ht1, Ht2⟩, HP⟩, HD⟩, HR⟩
  iapply (sendAt m (c := c) (c' := (c : Fin 32) + d) 2 3 hd (∑ d ∈ Pn kv (n + 1), tG c d) (src := gS offD inbE) (dst := gS offD inbD) (q := shr d) (fs := AG m) (fd := f)
    rfl (by rw [gS_set c hD]; exact .rfl) ?_) $$ [HO HS HB Ht1 Ht2]
  · rw [gS_set c hD]
    show _ ⊢ gatP ((c : Fin 32) + d) ((c : Fin 32) + d - d) fullShare (AG m)
    rw [fin_add_sub_self]
    exact Entails.of_eq (pointsTo_congr fun x hx => AG_write m c hD f x hx)
  · isplitr; · iexact He
    isplitl [HO]; · iexact HO
    isplitl [HS]; · rw [gS_set c hD]; iexact HS
    isplitl [HB]; · rw [gS_set c hD]; iexact HB
    isplitl [Ht1]; · iexact Ht1
    iexact Ht2
  iintro ⟨HO, Hc⟩
  iapply H
  unfold AgSt
  rw [bs_Dn kv_inj hd hdn]
  isplitr; · iexact He
  isplitr [HR]
  · isplitl [HO]; · iexact HO
    isplitl [HP]; · iexact HP
    isplitl [Hc]; · iexact Hc
    iexact HD
  · iexact HR

/-! ## The rows of the result -/

/-- Block `j` of 8 rows of the result has been stored once `n` stores are done, own block first. -/
def stored (c : Fin 32) (n : ℕ) (x : S1x256x1024.Idx) : Prop :=
  ((c : Fin 32) - (⟨(x 1).val / 8, by have h : (x 1).val < 256 := (x 1).isLt; omega⟩ : Fin 32)).val < n

def OutSt (c : Dev nD) (n : ℕ) : sProp 𝕄 :=
  iprop(∃ f : S1x256x1024.Idx → Elt F .f32, (((c : Thread nD τ).loc cc0_stg2_0) ↦{fullShare} f) ∗ ⌜∀ x, stored c n x → f x = OUT m c x⌝)

abbrev rowR (off : Fin 3 → ℕ) (inb : ∀ a, off a + S1x8x1024.size a ≤ S1x256x1024.size a) : Rect S1x256x1024 := Rect.unit (s := S1x256x1024) off S1x8x1024.size inb

theorem rowR_emb {off : Fin 3 → ℕ} {inb : ∀ a, off a + S1x8x1024.size a ≤ S1x256x1024.size a} (j : Fin 32) (ho : off = ![0, 8 * j.val, 0]) (y : S1x8x1024.Idx) :
    (rowR off inb).emb y = (ix3 (0 : Fin 1) (⟨8 * j.val + (y 1).val, by have h : (y 1).val < 8 := (y 1).isLt; have := j.isLt; omega⟩ : Fin 256) (⟨(y 2).val, (y 2).isLt⟩ : Fin 1024) : S1x256x1024.Idx) := by
  subst ho
  funext a; apply Fin.ext
  have h0 : (y 0).val < 1 := (y 0).isLt
  fin_cases a
  · show 0 + 1 * (y 0).val = 0; omega
  · show 8 * j.val + 1 * (y 1).val = 8 * j.val + (y 1).val; omega
  · show 0 + 1 * (y 2).val = (y 2).val; omega

/-- The 8 rows of block `j`, stored. -/
theorem row_store {off : Fin 3 → ℕ} {inb : ∀ a, off a + S1x8x1024.size a ≤ S1x256x1024.size a} (j : Fin 32) (ho : off = ![0, 8 * j.val, 0])
    (f : S1x256x1024.Idx → Elt F .f32) (w : FVec F S1x8x1024 .f32) (x : S1x256x1024.Idx) :
    (oM.access (rowR off inb)).write (Elt F) f w Finset.univ x
      = if (x 1).val / 8 = j.val then w (ix3 (0 : Fin 1) (⟨(x 1).val % 8, Nat.mod_lt _ (by decide)⟩ : Fin 8) (⟨(x 2).val, (x 2).isLt⟩ : Fin 1024)) else f x := by
  have h0 : (x 0).val < 1 := (x 0).isLt
  split
  next h =>
    refine write_at (oM.access (rowR off inb)) f w (ix3 (0 : Fin 1) (⟨(x 1).val % 8, Nat.mod_lt _ (by decide)⟩ : Fin 8) (⟨(x 2).val, (x 2).isLt⟩ : Fin 1024) : S1x8x1024.Idx) ?_
    refine (rowR_emb j ho _).trans ?_
    funext a; apply Fin.ext
    fin_cases a
    · show 0 = (x 0).val; omega
    · show 8 * j.val + (x 1).val % 8 = (x 1).val; omega
    · rfl
  next h =>
    refine View.write_of_not_mem (v := oM.access (rowR off inb)) f w Finset.univ fun hx => ?_
    have hx' : x ∈ (rowR off inb).toLoadRect.set := by
      rw [← show (oM.access (rowR off inb)).set = (rowR off inb).toLoadRect.set from View.set_slice_whole _ _]; exact hx
    rw [LoadRect.mem_set] at hx'
    subst ho
    obtain ⟨k, hk, e⟩ := hx' 1
    have hk' : k < 8 := hk
    have e' : (x 1).val = 8 * j.val + 1 * k := e
    exact h (by omega)

theorem out_load {c : Dev nD} {n : ℕ} {off : Fin 3 → ℕ} {inb : ∀ a, off a + S1x8x1024.size a ≤ S1x256x1024.size a} {hl : oM.view.LoadsAt (rowR off inb).toLoadRect}
    {α : Type} {K : (S1x8x1024.Idx → Elt F .f32) → Prog (TpuEff nD τ sig (Elt F) Λ₀ .tc) α} {Q : α → sProp 𝕄} {P P' P'' R : sProp 𝕄}
    (H : ∀ v, iprop(P ∗ P' ∗ P'' ∗ OutSt m c n ∗ R) ⊢ WP c (K v) Q) :
    iprop(P ∗ P' ∗ P'' ∗ OutSt m c n ∗ R) ⊢ WP c (Prog.lift (.load oM (rowR off inb).toLoadRect hl) >>= K) Q := by
  rw [lift_bind]
  unfold WP at H ⊢
  unfold OutSt at H ⊢
  iintro ⟨HP, HP', HP'', ⟨%f, Hf, %hf⟩, HR⟩
  iapply (wp_load_rect 𝒱₀ (c : Thread nD τ) none Set.univ (m := oM) (r := rowR off inb) (q := fullShare) (f := f) (S := Finset.univ) (Finset.subset_univ _)) $$ [Hf]
  · iexact Hf
  iintro Hf
  iapply H
  isplitl [HP]; · iexact HP
  isplitl [HP']; · iexact HP'
  isplitl [HP'']; · iexact HP''
  isplitl [Hf]
  · iexists f
    isplitl [Hf]; · iexact Hf
    ipureintro; exact hf
  iexact HR

theorem stored_succ {c : Fin 32} {d : Fin 32} {n : ℕ} (hdn : kv d = n) (x : S1x256x1024.Idx) (h : stored c (n + 1) x) (hx : (x 1).val / 8 ≠ (c - d).val) : stored c n x := by
  unfold stored at *
  rcases Nat.lt_succ_iff_lt_or_eq.mp h with h' | h'
  · exact h'
  · exfalso; apply hx
    have e : c - (⟨(x 1).val / 8, by have h : (x 1).val < 256 := (x 1).isLt; omega⟩ : Fin 32) = d := Fin.ext (h'.trans hdn.symm)
    rw [← e, fin_sub_sub]

theorem out_store {c : Dev nD} {n : ℕ} (d : Fin 32) (hdn : kv d = n) {off : Fin 3 → ℕ} {inb : ∀ a, off a + S1x8x1024.size a ≤ S1x256x1024.size a} (ho : off = ![0, 8 * ((c : Fin 32) - d).val, 0])
    {w : FVec F S1x8x1024 .f32} {hst : (oM.access (rowR off inb)).Stores Finset.univ} {hmk : (Finset.univ : Finset (rowR off inb).shape.Idx) = Finset.univ ∨ ∀ a, (rowR off inb).stride a = 1}
    (hw : ∀ x : S1x256x1024.Idx, (x 1).val / 8 = ((c : Fin 32) - d).val → w (ix3 (0 : Fin 1) (⟨(x 1).val % 8, Nat.mod_lt _ (by decide)⟩ : Fin 8) (⟨(x 2).val, (x 2).isLt⟩ : Fin 1024)) = OUT m c x)
    {α : Type} {K : PUnit → Prog (TpuEff nD τ sig (Elt F) Λ₀ .tc) α} {Q : α → sProp 𝕄} {P P' P'' R : sProp 𝕄}
    (H : iprop(P ∗ P' ∗ P'' ∗ OutSt m c (n + 1) ∗ R) ⊢ WP c (K ⟨⟩) Q) :
    iprop(P ∗ P' ∗ P'' ∗ OutSt m c n ∗ R) ⊢ WP c (Prog.lift (.store oM (rowR off inb) w Finset.univ hst hmk) >>= K) Q := by
  rw [lift_bind]
  unfold WP at H ⊢
  unfold OutSt at H ⊢
  iintro ⟨HP, HP', HP'', ⟨%f, Hf, %hf⟩, HR⟩
  iapply (wp_store 𝒱₀ (c : Thread nD τ) none Set.univ (m := oM) (r := rowR off inb) (Mk := Finset.univ) (f := f) (S := Finset.univ) (Finset.subset_univ _)) $$ [Hf]
  · iexact Hf
  iintro Hf
  iapply H
  isplitl [HP]; · iexact HP
  isplitl [HP']; · iexact HP'
  isplitl [HP'']; · iexact HP''
  isplitl [Hf]
  · iexists _
    isplitl [Hf]; · iexact Hf
    ipureintro
    intro x hx
    refine (row_store ((c : Fin 32) - d) ho f w x).trans ?_
    split
    next h => exact hw x h
    next h => exact hf x (stored_succ hdn x hx h)
  iexact HR

/-- Own rows. -/
theorem OUT_own (c : Dev nD) (x : S1x256x1024.Idx) (h : (x 1).val / 8 = ((c : Fin 32) - 0).val) :
    k0_pay53 (k0_pay50 (RS m c)) (ix3 (0 : Fin 1) (⟨(x 1).val % 8, Nat.mod_lt _ (by decide)⟩ : Fin 8) (⟨(x 2).val, (x 2).isLt⟩ : Fin 1024)) = OUT m c x := by
  rw [fin_sub_zero] at h
  unfold OUT
  exact (if_pos h).symm

theorem fin_sub_neq : ∀ c d : Fin 32, d ≠ 0 → (c - d).val ≠ c.val := by decide +kernel

/-- The rows of the device `d` before. -/
theorem OUT_peer (c : Dev nD) (d : Fin 32) (hd : d ≠ 0) (x : S1x256x1024.Idx) (h : (x 1).val / 8 = ((c : Fin 32) - d).val) :
    k0_pay54 (sl1 ((c : Fin 32) - d) (AG m)) (ix3 (0 : Fin 1) (⟨(x 1).val % 8, Nat.mod_lt _ (by decide)⟩ : Fin 8) (⟨(x 2).val, (x 2).isLt⟩ : Fin 1024)) = OUT m c x := by
  unfold OUT
  have hne : ¬ (x 1).val / 8 = c.val := fun e => fin_sub_neq c d hd (h.symm.trans e)
  refine Eq.trans ?_ (if_neg hne).symm
  have e : (c : Fin 32) - d = (⟨(x 1).val / 8, by have h : (x 1).val < 256 := (x 1).isLt; omega⟩ : Fin 32) := Fin.ext h.symm
  rw [e]

/-- A gathered slot that has been waited for is loaded. -/
theorem gat_load {c : Dev nD} {n : ℕ} (d : Fin 32) (hd : d ≠ 0) (hdn : kv d + 1 = n) {off : Fin 3 → ℕ} {inb : ∀ a, off a + S1x8x1024.size a ≤ S32x8x1024.size a} (ho : off = ![((c : Fin 32) - d).val, 0, 0])
    {hl : gB.view.LoadsAt (slotR off inb).toLoadRect}
    {α : Type} {K : (S1x8x1024.Idx → Elt F .bf16) → Prog (TpuEff nD τ sig (Elt F) Λ₀ .tc) α} {Q : α → sProp 𝕄} {P P' R : sProp 𝕄}
    (H : iprop(P ∗ P' ∗ WtF m c 3 n ∗ R) ⊢ WP c (K (sl1 ((c : Fin 32) - d) (AG m))) Q) :
    iprop(P ∗ P' ∗ WtF m c 3 n ∗ R) ⊢ WP c (Prog.lift (.load gB (slotR off inb).toLoadRect hl) >>= K) Q := by
  subst hdn
  rw [lift_bind]
  unfold WP at H ⊢
  unfold WtF at H ⊢
  rw [bs_Dn kv_inj hd rfl] at H ⊢
  have hv : (gB.access (slotR off inb)).read (Elt F) (AG m) = sl1 ((c : Fin 32) - d) (AG m) := by
    funext y
    show AG m ((slotR off inb).emb y) = _
    rw [slotR_emb _ ho]
    rfl
  rw [← hv] at H
  have hpay : famPay m c d 3 = (gatP c ((c : Fin 32) - d) fullShare (AG m) : sProp 𝕄) := rfl
  rw [hpay] at H ⊢
  iintro ⟨HP, HP', ⟨HW, ⟨Hat, Hg⟩, HD⟩, HR⟩
  iapply (wp_load_rect 𝒱₀ (c : Thread nD τ) none Set.univ (m := gB) (r := slotR off inb) (q := fullShare) (f := AG m) (S := slot ((c : Fin 32) - d))
    ((View.set_slice_whole _ _).trans (slotR_set _ ho)).subset) $$ [Hg]
  · iexact Hg
  iintro Hg
  iapply H
  isplitl [HP]; · iexact HP
  isplitl [HP']; · iexact HP'
  isplitr [HR]
  · isplitl [HW]; · iexact HW
    isplitl [Hat Hg]
    · isplitl [Hat]; · iexact Hat
      iexact Hg
    iexact HD
  iexact HR

/-- All landings of the reduce-scatter in one buffer. -/
def RsDone (c : Dev nD) : sProp 𝕄 :=
  iprop(bigSep St (fun d => atPos ER (famC c 1 d) 1 ∅ 0) ∗ (((c : Thread nD τ).loc cc0_scratch5) ↦{fullShare} RS m c))

theorem Pn_end : Pn kv 32 = ∅ := Pn_none fun j => j.isLt
theorem Dn_end : Dn kv 32 = St := Dn_all fun j => j.isLt
theorem Pn_begin : Pn kv 1 = St := Pn_all fun j hj => Nat.one_le_iff_ne_zero.mpr fun h => hj (Fin.ext h)
theorem Dn_begin : Dn kv 1 = ∅ := Dn_none fun j hj => Nat.one_le_iff_ne_zero.mpr fun h => hj (Fin.ext h)

theorem bs_sep (S : Finset (Fin 32)) (Φ Ψ : Fin 32 → sProp 𝕄) : bigSep S (fun d => iprop(Φ d ∗ Ψ d)) = iprop(bigSep S Φ ∗ bigSep S Ψ) := bigSep_sep S Φ Ψ

theorem WtF_end (c : Dev nD) (a : Fin 4) : WtF m c a 32 ⊢ iprop(bigSep St (fun d => atPos ER (famC c a d) 1 ∅ 0) ∗ bigSep St (fun d => famPay m c d a)) := by
  unfold WtF
  rw [Pn_end, Dn_end, bigSep_empty, bs_sep]
  iintro ⟨-, H⟩
  iexact H

theorem rs_join (c : Dev nD) : iprop(WtF m c 1 32 ∗ bufP c 0 (RS m c)) ⊢ RsDone m c := by
  unfold RsDone
  rw [show (((c : Thread nD τ).loc cc0_scratch5) ↦{fullShare} RS m c : sProp 𝕄) = iprop(bufP c 0 (RS m c) ∗ bigSep St (fun d => bufP c d (RS m c))) from
    (Ring.pointsTo_blocks (ℓ := (c : Thread nD τ).loc cc0_scratch5) slot slot_disjoint slot_cover (RS m c)).trans (bigSep_erase (Finset.mem_univ (0 : Fin 32)))]
  refine (sep_mono_left (WtF_end m c 1)).trans ?_
  iintro ⟨⟨HA, HB⟩, H0⟩
  isplitl [HA]; · iexact HA
  isplitl [H0]; · iexact H0
  iexact HB

theorem rs_load {c : Dev nD} {off : Fin 3 → ℕ} (h0 : off = fun _ => 0) {inb : ∀ a, off a + S32x8x1024.size a ≤ S32x8x1024.size a} {hl : rB.view.LoadsAt (Rect.unit (s := S32x8x1024) off S32x8x1024.size inb).toLoadRect}
    {α : Type} {K : (S32x8x1024.Idx → Elt F .bf16) → Prog (TpuEff nD τ sig (Elt F) Λ₀ .tc) α} {Q : α → sProp 𝕄} {P P' R : sProp 𝕄}
    (H : iprop(P ∗ P' ∗ RsDone m c ∗ R) ⊢ WP c (K (RS m c)) Q) :
    iprop(P ∗ P' ∗ WtF m c 1 32 ∗ (bufP c 0 (RS m c) ∗ R)) ⊢ WP c (Prog.lift (.load rB (Rect.unit (s := S32x8x1024) off S32x8x1024.size inb).toLoadRect hl) >>= K) Q := by
  have hj : iprop(P ∗ P' ∗ WtF m c 1 32 ∗ (bufP c 0 (RS m c) ∗ R)) ⊢ iprop(P ∗ P' ∗ RsDone m c ∗ R) := by
    iintro ⟨HP, HP', HW, HB, HR⟩
    isplitl [HP]; · iexact HP
    isplitl [HP']; · iexact HP'
    isplitr [HR]
    · iapply (rs_join m c)
      isplitl [HW]; · iexact HW
      iexact HB
    iexact HR
  refine hj.trans ?_
  rw [lift_bind]
  unfold WP at H ⊢
  unfold RsDone at H ⊢
  have hv : rB.view.readAt (Elt F) (Rect.unit (s := S32x8x1024) off S32x8x1024.size inb).toLoadRect (RS m c) = RS m c := Memref.readAt_unit_zero (Elt F) cc0_scratch5 h0 _ _
  rw [← hv] at H
  iintro ⟨HP, HP', ⟨HA, HB⟩, HR⟩
  iapply (wp_load 𝒱₀ (c : Thread nD τ) none Set.univ (m := rB) (r := (Rect.unit (s := S32x8x1024) off S32x8x1024.size inb).toLoadRect) (q := fullShare) (f := RS m c) (S := Finset.univ) (Finset.subset_univ _)) $$ [HB]
  · iexact HB
  iintro HB
  rw [hv] at H
  rw [hv]
  iapply H
  isplitl [HP]; · iexact HP
  isplitl [HP']; · iexact HP'
  isplitr [HR]
  · isplitl [HA]; · iexact HA
    iexact HB
  iexact HR

/-- Before the all-gather: the own slot, and everybody's slot for this device. -/
def AgPre (c : Dev nD) : sProp 𝕄 :=
  iprop(Ow c (∑ d ∈ St, tG c d) ∗ (∃ f, gatP c c fullShare f)
    ∗ bigSep St (fun d => iprop((∃ f, gatP (c + d) c fullShare f) ∗ dutyTok ER (famC c 2 d) 0 0 ∗ dutyTok ER (famC (c + d) 3 d) 0 0)))

/-- The rounded sum goes to the own slot, which is then lent to the sends. -/
theorem ag_begin {c : Dev nD} {off : Fin 3 → ℕ} {inb : ∀ a, off a + S1x8x1024.size a ≤ S32x8x1024.size a} (ho : off = ![c.val, 0, 0])
    {hl : gB.view.LoadsAt (slotR off inb).toLoadRect} {hst : (gB.access (slotR off inb)).Stores Finset.univ} {hmk : (Finset.univ : Finset (slotR off inb).shape.Idx) = Finset.univ ∨ ∀ a, (slotR off inb).stride a = 1}
    {α : Type} {K : PUnit → Prog (TpuEff nD τ sig (Elt F) Λ₀ .tc) α} {Q : α → sProp 𝕄} {R : sProp 𝕄}
    (H : iprop(Env m ∗ AgSt m c 1 ∗ R) ⊢ WP c (K ⟨⟩) Q) :
    iprop(Env m ∗ AgPre c ∗ R) ⊢ WP c (Prog.lift (.load gB (slotR off inb).toLoadRect hl) >>= fun (_ : Vec F S1x8x1024 .bf16) =>
      Prog.lift (.store gB (slotR off inb) (k0_pay52 (k0_pay51 (RS m c))) Finset.univ hst hmk) >>= K) Q := by
  rw [lift_bind]
  unfold WP at H ⊢
  unfold AgPre
  unfold AgSt at H
  rw [Pn_begin, Dn_begin, bigSep_empty] at H
  iintro ⟨HE, ⟨HO, ⟨%f, Hg⟩, HP⟩, HR⟩
  iapply (wp_load_rect 𝒱₀ (c : Thread nD τ) none Set.univ (m := gB) (r := slotR off inb) (q := fullShare) (f := f) (S := slot c)
    ((View.set_slice_whole _ _).trans (slotR_set c ho)).subset) $$ [Hg]
  · iexact Hg
  iintro Hg
  rw [lift_bind]
  iapply (wp_store 𝒱₀ (c : Thread nD τ) none Set.univ (m := gB) (r := slotR off inb) (Mk := Finset.univ) (f := f) (S := slot c)
    ((View.set_slice_whole _ _).trans (slotR_set c ho)).subset) $$ [Hg]
  · iexact Hg
  iintro Hg
  ihave Hg := (show _ ⊢ gatP c c fullShare (AG m) from Entails.of_eq (pointsTo_congr fun x hx => by
    have e := ix3_eta x c (mem_slot.mp hx)
    refine (write_at (gB.access (slotR off inb)) f _ (ix3 (0 : Fin 1) (⟨(x 1).val, (x 1).isLt⟩ : Fin 8) (⟨(x 2).val, (x 2).isLt⟩ : Fin 1024) : S1x8x1024.Idx) (x := x)
      ((slotR_emb c ho _).trans e.symm)).trans ?_
    show _ = k0_pay52 (k0_pay51 (RS m (⟨(x 0).val, (x 0).isLt⟩ : Fin 32))) _
    rw [show (⟨(x 0).val, (x 0).isLt⟩ : Fin 32) = c from Fin.ext (mem_slot.mp hx)]
    rfl)) $$ Hg
  ihave Hg := (show gatP c c fullShare (AG m) ⊢ bigSep St (fun d => gatP c c (shr d) (AG m)) from
    Entails.of_eq (Transfers.pointsTo_deal St ⟨1, by decide⟩ fullShare)) $$ Hg
  iapply H
  isplitl [HE]; · iexact HE
  isplitr [HR]
  · isplitl [HO]; · iexact HO
    isplitl [Hg HP]
    · rw [show bigSep St (agPend m c) = iprop(bigSep St (fun d => gatP c c (shr d) (AG m)) ∗ bigSep St (fun d => iprop((∃ f, gatP (c + d) c fullShare f) ∗ dutyTok ER (famC c 2 d) 0 0 ∗ dutyTok ER (famC (c + d) 3 d) 0 0))) from bs_sep St _ _]
      isplitl [Hg]; · iexact Hg
      iexact HP
    iempintro
  iexact HR

theorem off69 : ∀ c d : Fin 32, k0_off69 c (BitVec.ofNat 32 d.val) = ![(c - d).val, 0, 0] := by decide +kernel
theorem off70 : ∀ c d : Fin 32, k0_off70 c (BitVec.ofNat 32 d.val) = ![0, 8 * (c - d).val, 0] := by decide +kernel

end Cert.KernelIdeal.Pf
-- ==== Proof.KernelIdeal.PartsB.lean ====
/-
The heads, the partial product, the barrier and the first two chunks, part by part.
-/
module

public import Idealize.ShloMosaic.Lib.Ring
public import proofs.«01_k».proof.Proof.KernelIdeal.PartsA
public import proofs.«01_k».proof.Proof.KernelIdeal.Waits

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.remsi Scalar.divsi Scalar.subi Scalar.addi Scalar.muli Scalar.cmpi Scalar.extui

/-! ## The local copies' waits and what they brought -/

def at0 (c : Dev nD) (i : CI) : sProp 𝕄 := atPos ER (ownC c i) 0 ∅ 0
def at1 (c : Dev nD) (i : CI) : sProp 𝕄 := atPos ER (ownC c i) 1 ∅ 0

theorem wl {c : Dev nD} {α : Type} {k : PUnit → Prog (TpuEff nD τ sig (Elt F) Λ₀ .tc) α} {Q : α → sProp 𝕄} (i : Fin 5) {O : CellTallies nD τ sig Unit} (hO : Above 0 O)
    {sp sp' : Space} {s s' : Shape} {e e' : EltTy} {κ' : Kind} {sem : DmaSem sig} (hsem : sem = loc i) {src : Memref sig .tc sp' s' e'} {dst : Memref sig κ' sp s e}
    {w1 : src.view.WordExact} {w2 : dst.view.WordExact} (hN : dst.view.dmaCredit = amt (.inl i)) :
    iprop(Env m ∗ (Ow c O ∗ crd c i ∗ at0 c (.inl i)))
      ⊢ iprop(((Ow c O ∗ at1 c (.inl i) ∗ locPay m c i) -∗ WP c (k ⟨⟩) Q)
          -∗ WP c (Prog.lift (.waitDma2 sem src dst w1 w2) >>= k) Q) :=
  waitOwn m (.inl i) rfl 0 (le_refl 0) hO hsem hN

theorem headK {off : Fin 3 → ℕ} {inb : ∀ a, off a + S1x4096x128.size a ≤ S2x4096x128.size a} (h : Fin 2) (ho : off = ![h.val, 0, 0])
    {hl : kB.view.LoadsAt (Rect.unit (s := S2x4096x128) off S1x4096x128.size inb).toLoadRect} {c : Dev nD} {α : Type}
    {K : (S1x4096x128.Idx → Elt F .f32) → Prog (TpuEff nD τ sig (Elt F) Λ₀ .tc) α} {Q : α → sProp 𝕄} (f : S2x4096x128.Idx → Elt F .f32) :
    khP c h f ⊢ iprop((khP c h f -∗ WP c (K (hd1 h f)) Q) -∗ WP c (Prog.lift (.load kB (Rect.unit (s := S2x4096x128) off S1x4096x128.size inb).toLoadRect hl) >>= K) Q) :=
  ld (mm := kB) (r := (Rect.unit (s := S2x4096x128) off S1x4096x128.size inb).toLoadRect) (hslot h) (by
    have e := hslot_set (inb := inb) h ho
    have e2 : (kB.access (Rect.unit (s := S2x4096x128) off S1x4096x128.size inb)).set ⊆ hslot h := ((View.set_slice_whole _ _).trans e).subset
    rwa [View.set_slice] at e2) (hd1 h f) (head_load h ho f)

theorem headV {off : Fin 3 → ℕ} {inb : ∀ a, off a + S1x4096x128.size a ≤ S2x4096x128.size a} (h : Fin 2) (ho : off = ![h.val, 0, 0])
    {hl : vB.view.LoadsAt (Rect.unit (s := S2x4096x128) off S1x4096x128.size inb).toLoadRect} {c : Dev nD} {α : Type}
    {K : (S1x4096x128.Idx → Elt F .f32) → Prog (TpuEff nD τ sig (Elt F) Λ₀ .tc) α} {Q : α → sProp 𝕄} (f : S2x4096x128.Idx → Elt F .f32) :
    vhP c h f ⊢ iprop((vhP c h f -∗ WP c (K (hd1 h f)) Q) -∗ WP c (Prog.lift (.load vB (Rect.unit (s := S2x4096x128) off S1x4096x128.size inb).toLoadRect hl) >>= K) Q) :=
  ld (mm := vB) (r := (Rect.unit (s := S2x4096x128) off S1x4096x128.size inb).toLoadRect) (hslot h) (by
    have e := hslot_set (inb := inb) h ho
    have e2 : (vB.access (Rect.unit (s := S2x4096x128) off S1x4096x128.size inb)).set ⊆ hslot h := ((View.set_slice_whole _ _).trans e).subset
    rwa [View.set_slice] at e2) (hd1 h f) (head_load h ho f)

/-! ## The columns of the heads' outputs -/

/-- The first `n` of the eight outputs have been stored. -/
def Col (c : Dev nD) (n : ℕ) : sProp 𝕄 :=
  iprop(∃ f : S256x1024.Idx → Elt F .bf16, (((c : Thread nD τ).loc cc0_scratch3) ↦{fullShare} f) ∗ ⌜∀ x, (x 1).val < 128 * n → f x = AT m c x⌝)

abbrev colR (off : Fin 2 → ℕ) (inb : ∀ a, off a + S256x128.size a ≤ S256x1024.size a) : Rect S256x1024 := Rect.unit (s := S256x1024) off S256x128.size inb

theorem col_write {off : Fin 2 → ℕ} {inb : ∀ a, off a + S256x128.size a ≤ S256x1024.size a} (n : ℕ) (ho : off = ![0, 128 * n])
    (f : S256x1024.Idx → Elt F .bf16) (w : FVec F S256x128 .bf16) (x : S256x1024.Idx) :
    (aB.access (colR off inb)).write (Elt F) f w Finset.univ x
      = if (x 1).val / 128 = n then w (ix2 (⟨(x 0).val, (x 0).isLt⟩ : Fin 256) (⟨(x 1).val % 128, Nat.mod_lt _ (by decide)⟩ : Fin 128)) else f x := by
  subst ho
  split
  next h =>
    refine write_at (aB.access (colR ![0, 128 * n] inb)) f w (ix2 (⟨(x 0).val, (x 0).isLt⟩ : Fin 256) (⟨(x 1).val % 128, Nat.mod_lt _ (by decide)⟩ : Fin 128) : S256x128.Idx) ?_
    funext a; apply Fin.ext
    fin_cases a
    · show 0 + 1 * (x 0).val = (x 0).val; omega
    · show 128 * n + 1 * ((x 1).val % 128) = (x 1).val; omega
  next h =>
    refine View.write_of_not_mem (v := aB.access (colR ![0, 128 * n] inb)) f w Finset.univ fun hx => ?_
    have hx' : x ∈ (colR ![0, 128 * n] inb).toLoadRect.set := by
      rw [← show (aB.access (colR ![0, 128 * n] inb)).set = (colR ![0, 128 * n] inb).toLoadRect.set from View.set_slice_whole _ _]; exact hx
    rw [LoadRect.mem_set] at hx'
    obtain ⟨k, hk, e⟩ := hx' 1
    have hk' : k < 128 := hk
    have e' : (x 1).val = 128 * n + 1 * k := e
    exact h (by omega)

theorem col_load {c : Dev nD} {n : ℕ} {off : Fin 2 → ℕ} {inb : ∀ a, off a + S256x128.size a ≤ S256x1024.size a} {hl : aB.view.LoadsAt (colR off inb).toLoadRect}
    {α : Type} {K : (S256x128.Idx → Elt F .bf16) → Prog (TpuEff nD τ sig (Elt F) Λ₀ .tc) α} {Q : α → sProp 𝕄} {P R : sProp 𝕄}
    (H : ∀ v, iprop(P ∗ Col m c n ∗ R) ⊢ WP c (K v) Q) :
    iprop(P ∗ Col m c n ∗ R) ⊢ WP c (Prog.lift (.load aB (colR off inb).toLoadRect hl) >>= K) Q := by
  unfold Col at H ⊢
  iintro ⟨HP, ⟨%f, Hf, %hf⟩, HR⟩
  iapply (ld (mm := aB) Finset.univ (Finset.subset_univ _) _ rfl) $$ [Hf]
  · iexact Hf
  iintro Hf
  iapply H
  isplitl [HP]; · iexact HP
  isplitl [Hf]
  · iexists f
    isplitl [Hf]; · iexact Hf
    ipureintro; exact hf
  iexact HR

theorem col_store {c : Dev nD} (n : ℕ) {off : Fin 2 → ℕ} {inb : ∀ a, off a + S256x128.size a ≤ S256x1024.size a} (ho : off = ![0, 128 * n])
    {w : FVec F S256x128 .bf16} {hst : (aB.access (colR off inb)).Stores Finset.univ} {hmk : (Finset.univ : Finset (colR off inb).shape.Idx) = Finset.univ ∨ ∀ a, (colR off inb).stride a = 1}
    (hw : w = HD m c n)
    {α : Type} {K : PUnit → Prog (TpuEff nD τ sig (Elt F) Λ₀ .tc) α} {Q : α → sProp 𝕄} {P R : sProp 𝕄}
    (H : iprop(P ∗ Col m c (n + 1) ∗ R) ⊢ WP c (K ⟨⟩) Q) :
    iprop(P ∗ Col m c n ∗ R) ⊢ WP c (Prog.lift (.store aB (colR off inb) w Finset.univ hst hmk) >>= K) Q := by
  subst hw
  rw [lift_bind]
  unfold WP at H ⊢
  unfold Col at H ⊢
  iintro ⟨HP, ⟨%f, Hf, %hf⟩, HR⟩
  iapply (wp_store 𝒱₀ (c : Thread nD τ) none Set.univ (m := aB) (r := colR off inb) (Mk := Finset.univ) (f := f) (S := Finset.univ) (Finset.subset_univ _)) $$ [Hf]
  · iexact Hf
  iintro Hf
  iapply H
  isplitl [HP]; · iexact HP
  isplitl [Hf]
  · iexists _
    isplitl [Hf]; · iexact Hf
    ipureintro
    intro x hx
    refine (col_write n ho f _ x).trans ?_
    split
    next h => subst h; rfl
    next h => exact hf x (by omega)
  iexact HR

/-! ## The parts -/

theorem part8 (c : Dev nD) {O : CellTallies nD τ sig Unit} (hO : Above 0 O) {R : sProp 𝕄} : iprop(Env m ∗ (Ow c O ∗ crd c 0 ∗ at0 c (.inl 0) ∗ crd c 1 ∗ at0 c (.inl 1) ∗ crd c 2 ∗ at0 c (.inl 2) ∗ crd c 3 ∗ at0 c (.inl 3)) ∗ R)
    ⊢ WP c ((app (k0_part8 (F := F))) c) (fun r => iprop(⌜r = ⟨k0_pay2 (hd1 0 (KM m c)), k0_pay3 (hd1 1 (KM m c))⟩⌝ ∗ Env m ∗ (Ow c O ∗ at1 c (.inl 0) ∗ locPay m c 0 ∗ at1 c (.inl 1) ∗ locPay m c 1 ∗ at1 c (.inl 2) ∗ locPay m c 2 ∗ at1 c (.inl 3) ∗ locPay m c 3) ∗ R)) := by
  rw [k0_part8_eq_skeleton]; unfold k0_part8_skel app; beta_reduce
  iintro ⟨#HE, ⟨HO, Hc0, Ha0, Hc1, Ha1, Hc2, Ha2, Hc3, Ha3⟩, HR⟩
  iapply (wl m 0 hO (loc_sem 0 rfl) (by rfl)) $$ [HO Hc0 Ha0]
  · isplitr; · iexact HE
    isplitl [HO]; · iexact HO
    isplitl [Hc0]; · iexact Hc0
    iexact Ha0
  iintro ⟨HO, Ha0, Hp0⟩
  iapply (wl m 1 hO (loc_sem 1 rfl) (by rfl)) $$ [HO Hc1 Ha1]
  · isplitr; · iexact HE
    isplitl [HO]; · iexact HO
    isplitl [Hc1]; · iexact Hc1
    iexact Ha1
  iintro ⟨HO, Ha1, Hp1⟩
  iapply (wl m 2 hO (loc_sem 2 rfl) (by rfl)) $$ [HO Hc2 Ha2]
  · isplitr; · iexact HE
    isplitl [HO]; · iexact HO
    isplitl [Hc2]; · iexact Hc2
    iexact Ha2
  iintro ⟨HO, Ha2, Hp2⟩
  iapply (wl m 3 hO (loc_sem 3 rfl) (by rfl)) $$ [HO Hc3 Ha3]
  · isplitr; · iexact HE
    isplitl [HO]; · iexact HO
    isplitl [Hc3]; · iexact Hc3
    iexact Ha3
  iintro ⟨HO, Ha3, Hp3⟩
  ihave Hp0 := (Entails.of_eq (show locPay m c 0 = iprop(khP c 0 (KM m c) ∗ ksP m c 0) from rfl)) $$ Hp0
  ihave Hp2 := (Entails.of_eq (show locPay m c 2 = iprop(khP c 1 (KM m c) ∗ ksP m c 1) from rfl)) $$ Hp2
  icases Hp0 with ⟨Hk0, Hs0⟩
  icases Hp2 with ⟨Hk1, Hs1⟩
  iapply (headK 0 rfl (KM m c)) $$ [Hk0]
  · iexact Hk0
  iintro Hk0
  iapply (headK 1 rfl (KM m c)) $$ [Hk1]
  · iexact Hk1
  iintro Hk1
  iapply (ret_pure (φ := fun r => r = ⟨k0_pay2 (hd1 0 (KM m c)), k0_pay3 (hd1 1 (KM m c))⟩) rfl)
  isplitr; · iexact HE
  isplitr [HR]
  · isplitl [HO]; · iexact HO
    isplitl [Ha0]; · iexact Ha0
    isplitl [Hk0 Hs0]
    · iapply (Entails.of_eq (show iprop(khP c 0 (KM m c) ∗ ksP m c 0) = locPay m c 0 from rfl))
      isplitl [Hk0]; · iexact Hk0
      iexact Hs0
    isplitl [Ha1]; · iexact Ha1
    isplitl [Hp1]; · iexact Hp1
    isplitl [Ha2]; · iexact Ha2
    isplitl [Hk1 Hs1]
    · iapply (Entails.of_eq (show iprop(khP c 1 (KM m c) ∗ ksP m c 1) = locPay m c 2 from rfl))
      isplitl [Hk1]; · iexact Hk1
      iexact Hs1
    isplitl [Ha3]; · iexact Ha3
    iexact Hp3
  iexact HR

/-- The heads' operands, as the parts hand them on. -/
abbrev k0v (c : Dev nD) := k0_pay2 (hd1 0 (KM m c))
abbrev k1v (c : Dev nD) := k0_pay3 (hd1 1 (KM m c))
abbrev v0v (c : Dev nD) := k0_pay4 (hd1 0 (VM m c))
abbrev v1v (c : Dev nD) := k0_pay5 (hd1 1 (VM m c))
abbrev wov (c : Dev nD) := k0_pay6 (woA m c)

theorem part9 (c : Dev nD) {O : CellTallies nD τ sig Unit} (hO : Above 0 O) {R : sProp 𝕄} : iprop((Env m ∗ Ow c O ∗ locPay m c 1 ∗ locPay m c 3 ∗ crd c 4 ∗ at0 c (.inl 4)) ∗ Col m c 0 ∗ R)
    ⊢ WP c ((app (k0_part9 (F := F))) (qv m c) (k0v m c)) (fun r => iprop(⌜r = ⟨v0v m c, v1v m c, wov m c, HD m c 1⟩⌝ ∗ (Env m ∗ Ow c O ∗ locPay m c 1 ∗ locPay m c 3 ∗ locPay m c 4 ∗ at1 c (.inl 4)) ∗ Col m c 1 ∗ R)) := by
  rw [k0_part9_eq_skeleton]; unfold k0_part9_skel app; beta_reduce
  iintro ⟨⟨#HE, HO, Hp1, Hp3, Hc, Ha⟩, HC, HR⟩
  ihave Hp1 := (Entails.of_eq (show locPay m c 1 = iprop(vhP c 0 (VM m c) ∗ vsP m c 0) from rfl)) $$ Hp1
  ihave Hp3 := (Entails.of_eq (show locPay m c 3 = iprop(vhP c 1 (VM m c) ∗ vsP m c 1) from rfl)) $$ Hp3
  icases Hp1 with ⟨Hk0, Hs0⟩
  icases Hp3 with ⟨Hk1, Hs1⟩
  iapply (headV 0 rfl (VM m c)) $$ [Hk0]
  · iexact Hk0
  iintro Hk0
  iapply (headV 1 rfl (VM m c)) $$ [Hk1]
  · iexact Hk1
  iintro Hk1
  iapply (wl m 4 hO rfl (by rfl)) $$ [HO Hc Ha]
  · isplitr; · iexact HE
    isplitl [HO]; · iexact HO
    isplitl [Hc]; · iexact Hc
    iexact Ha
  iintro ⟨HO, Ha, Hp⟩
  ihave Hp := (Entails.of_eq (show locPay m c 4 = iprop(wP c (woA m c) ∗ wsP m c) from rfl)) $$ Hp
  icases Hp with ⟨Hw, Hws⟩
  iapply (ld (mm := wB) Finset.univ (Finset.subset_univ _) (woA m c) (Memref.readAt_unit_zero (Elt F) cc0_scratch2 (funext fun a => by fin_cases a <;> rfl) _ _)) $$ [Hw]
  · iexact Hw
  iintro Hw
  iapply (col_load (n := 0) m fun _ => col_store m 0 rfl rfl (col_load (n := 1) m fun _ => ret_pure (φ := fun r : (Σ' (_ : FVec F S4096x128 .bf16) (_ : FVec F S4096x128 .bf16) (_ : FVec F S1024x1024 .bf16), FVec F S256x128 .bf16) => r = ⟨v0v m c, v1v m c, wov m c, HD m c 1⟩) rfl))
  isplitr [HC HR]
  · isplitr; · iexact HE
    isplitl [HO]; · iexact HO
    isplitl [Hk0 Hs0]
    · iapply (Entails.of_eq (show iprop(vhP c 0 (VM m c) ∗ vsP m c 0) = locPay m c 1 from rfl))
      isplitl [Hk0]; · iexact Hk0
      iexact Hs0
    isplitl [Hk1 Hs1]
    · iapply (Entails.of_eq (show iprop(vhP c 1 (VM m c) ∗ vsP m c 1) = locPay m c 3 from rfl))
      isplitl [Hk1]; · iexact Hk1
      iexact Hs1
    isplitl [Hw Hws]
    · iapply (Entails.of_eq (show iprop(wP c (woA m c) ∗ wsP m c) = locPay m c 4 from rfl))
      isplitl [Hw]; · iexact Hw
      iexact Hws
    iexact Ha
  isplitl [HC]; · iexact HC
  iexact HR

theorem part10 (c : Dev nD) {R : sProp 𝕄} : iprop(Env m ∗ Col m c 1 ∗ R)
    ⊢ WP c ((app (k0_part10 (F := F))) (qv m c) (k0v m c) (k1v m c) (v0v m c) (v1v m c) (HD m c 1)) (fun r => iprop(⌜r = k0_pay11 (qv m c) (k1v m c) (v1v m c)⌝ ∗ Env m ∗ Col m c 4 ∗ R)) := by
  rw [k0_part10_eq_skeleton]; unfold k0_part10_skel app; beta_reduce
  refine col_store m 1 rfl rfl ?_
  refine col_load m fun _ => ?_
  refine col_store m 2 rfl rfl ?_
  refine col_load m fun _ => ?_
  refine col_store m 3 rfl rfl ?_
  exact ret_pure rfl

theorem part11 (c : Dev nD) {R : sProp 𝕄} : iprop(Env m ∗ Col m c 4 ∗ R)
    ⊢ WP c ((app (k0_part11 (F := F))) (qv m c) (k1v m c) (v1v m c) (k0_pay11 (qv m c) (k1v m c) (v1v m c))) (fun r => iprop(⌜r = k0_pay15 (qv m c) (k1v m c) (v1v m c)⌝ ∗ Env m ∗ Col m c 7 ∗ R)) := by
  rw [k0_part11_eq_skeleton]; unfold k0_part11_skel app; beta_reduce
  refine col_load m fun _ => ?_
  refine col_store m 4 rfl rfl ?_
  refine col_load m fun _ => ?_
  refine col_store m 5 rfl rfl ?_
  refine col_load m fun _ => ?_
  refine col_store m 6 rfl rfl ?_
  exact ret_pure rfl

/-! ## From the partial product to the first chunk -/

theorem univ_St (Φ : Fin 32 → sProp 𝕄) : bigSep Finset.univ Φ = iprop(Φ 0 ∗ bigSep St Φ) := bigSep_erase (Finset.mem_univ 0)

/-- The chunks in the order of the steps. -/
def addE (c : Fin 32) : Fin 32 ≃ Fin 32 where
  toFun d := c + d
  invFun j := j - c
  left_inv := (by decide +kernel : ∀ c d : Fin 32, c + d - c = d) c
  right_inv := (by decide +kernel : ∀ c d : Fin 32, c + (d - c) = d) c

theorem src_split (c : Dev nD) (f : CB F) : (((c : Thread nD τ).loc cc0_scratch4) ↦{fullShare} f : sProp 𝕄) = iprop(srcP c c f ∗ bigSep St (fun d => srcP c ((c : Fin 32) + d) f)) := by
  rw [Ring.pointsTo_blocks (ℓ := (c : Thread nD τ).loc cc0_scratch4) slot slot_disjoint slot_cover f,
    bigSep_univ_equiv (addE c) _, univ_St]
  show iprop(srcP c ((c : Fin 32) + 0) f ∗ bigSep St (fun d => srcP c ((c : Fin 32) + d) f)) = _
  rw [(by decide +kernel : ∀ c : Fin 32, c + 0 = c) c]

/-- The two tokens of each step of the reduce-scatter. -/
def rsTok (c : Dev nD) : sProp 𝕄 := bigSep St (fun d => iprop(dutyTok ER (famC c 0 d) 0 0 ∗ dutyTok ER (famC ((c : Fin 32) + d) 1 d) 0 0))

theorem ch_start (c : Dev nD) : iprop(Ow c ((∑ d ∈ St, tG c d) + ∑ d ∈ St, tR c d) ∗ (((c : Thread nD τ).loc cc0_scratch4) ↦{fullShare} PS m c)
      ∗ bigSep St (barPay c) ∗ (∃ f, bufP c 0 f) ∗ rsTok c)
    ⊢ iprop(ChSt m c 0 0 ∗ bigSep St (fun d => iprop(∃ f, gatP ((c : Fin 32) + d) c fullShare f))) := by
  unfold ChSt rsTok
  rw [src_split, Pn_all (key := kc c) (n := 0) (fun _ _ => Nat.zero_le _), Dn_none (key := kc c) (n := 0) (fun _ _ => Nat.zero_le _), bigSep_empty]
  rw [show bigSep St (barPay (F := F) c) = iprop(bigSep St (fun d => iprop(∃ f, bufP ((c : Fin 32) + d) d f)) ∗ bigSep St (fun d => iprop(∃ f, gatP ((c : Fin 32) + d) c fullShare f))) from bs_sep St _ _]
  rw [bs_sep St (fun d => dutyTok ER (famC c 0 d) 0 0) (fun d => dutyTok ER (famC ((c : Fin 32) + d) 1 d) 0 0)]
  rw [show bigSep St (chPend m c) = iprop(bigSep St (fun d => srcP c ((c : Fin 32) + d) (PS m c)) ∗ bigSep St (fun d => iprop(∃ f, bufP ((c : Fin 32) + d) d f))
      ∗ bigSep St (fun d => dutyTok ER (famC c 0 d) 0 0) ∗ bigSep St (fun d => dutyTok ER (famC ((c : Fin 32) + d) 1 d) 0 0)) from by
    rw [← bs_sep, ← bs_sep, ← bs_sep]; rfl]
  iintro ⟨HO, ⟨Hc, Hs⟩, ⟨Hb, Hg⟩, ⟨%f, H0⟩, H1, H2⟩
  isplitr [Hg]
  · isplitl [HO]; · iexact HO
    isplitl [Hs Hb H1 H2]
    · isplitl [Hs]; · iexact Hs
      isplitl [Hb]; · iexact Hb
      isplitl [H1]; · iexact H1
      iexact H2
    isplitr [Hc H0]; · iempintro
    isplitl [Hc]; · iexact Hc
    iexists f
    isplitl [H0]; · iexact H0
    ipureintro
    exact fun h => absurd h (Nat.not_lt_zero _)
  iexact Hg

/-- The store of the whole partial product. -/
theorem st_whole (c : Dev nD) (f w : CB F) {off : Fin 3 → ℕ} (h0 : off = fun _ => 0) {inb : ∀ a, off a + S32x8x1024.size a ≤ S32x8x1024.size a}
    {hst : (sB.access (Rect.unit (s := S32x8x1024) off S32x8x1024.size inb)).Stores Finset.univ} {hmk}
    {α : Type} {K : PUnit → Prog (TpuEff nD τ sig (Elt F) Λ₀ .tc) α} {Q : α → sProp 𝕄} :
    (((c : Thread nD τ).loc cc0_scratch4) ↦{fullShare} f) ⊢ iprop(((((c : Thread nD τ).loc cc0_scratch4) ↦{fullShare} w) -∗ WP c (K ⟨⟩) Q)
      -∗ WP c (Prog.lift (.store sB (Rect.unit (s := S32x8x1024) off S32x8x1024.size inb) w Finset.univ hst hmk) >>= K) Q) := by
  rw [lift_bind]
  unfold WP
  have h : ∀ w', (sB.access (Rect.unit (s := S32x8x1024) off S32x8x1024.size inb)).write (Elt F) f w Finset.univ = w' →
      ((((c : Thread nD τ).loc cc0_scratch4) ↦{fullShare} f) ⊢ iprop(((((c : Thread nD τ).loc cc0_scratch4) ↦{fullShare} w')
        -∗ wp frame (wpE (defs₀ (F := F)) 𝒱₀ (c : Thread nD τ) none) Set.univ (K ⟨⟩) Q)
        -∗ wp frame (wpE (defs₀ (F := F)) 𝒱₀ (c : Thread nD τ) none) Set.univ (.op (.store sB (Rect.unit (s := S32x8x1024) off S32x8x1024.size inb) w Finset.univ hst hmk) K) Q)) := by
    rintro _ rfl
    iintro Hf Hk
    iapply (wp_store 𝒱₀ (c : Thread nD τ) none Set.univ (m := sB) (r := Rect.unit (s := S32x8x1024) off S32x8x1024.size inb) (Mk := Finset.univ) (f := f) (S := Finset.univ) (Finset.subset_univ _)) $$ [Hf]
    · iexact Hf
    iintro Hf
    iapply Hk
    iexact Hf
  subst h0
  refine h w (funext fun x => write_at (sB.access (Rect.unit (s := S32x8x1024) (fun _ => 0) S32x8x1024.size inb)) f w x (funext fun a => Fin.ext ?_))
  show 0 + 1 * (x a).val = (x a).val
  omega

theorem col_end (c : Dev nD) : Col m c 8 ⊢ (((c : Thread nD τ).loc cc0_scratch3) ↦{fullShare} AT m c : sProp 𝕄) := by
  unfold Col
  iintro ⟨%f, Hf, %hf⟩
  have e : f = AT m c := funext fun x => hf x (by have h : (x 1).val < 1024 := (x 1).isLt; omega)
  subst e
  iexact Hf

/-- What the barrier and the first chunks start from, beside the heads' outputs. -/
def PreB (c : Dev nD) : sProp 𝕄 :=
  iprop(Ow c ((∑ d ∈ St, tG c d) + ∑ d ∈ St, tR c d) ∗ cred (tallyAt (barC c) () 31) ∗ atPos ER (barC c) 0 ∅ 0
    ∗ (∃ f : CB F, ((c : Thread nD τ).loc cc0_scratch4) ↦{fullShare} f) ∗ (∃ f, bufP c 0 f) ∗ rsTok c)

/-- What of it stays over for later. -/
def PostB (c : Dev nD) : sProp 𝕄 :=
  iprop((((c : Thread nD τ).loc cc0_scratch3) ↦{fullShare} AT m c) ∗ atPos ER (barC c) 1 ∅ 0 ∗ bigSep St (fun d => iprop(∃ f, gatP ((c : Fin 32) + d) c fullShare f)))

theorem part12 (c : Dev nD) {R : sProp 𝕄} : iprop(Env m ∗ Col m c 7 ∗ (PreB c ∗ R))
    ⊢ WP c ((app (k0_part12 (F := F))) c (v2of c) (SemArray.scalar (sig.barrier 0 rfl)) (wov m c) (k0_pay15 (qv m c) (k1v m c) (v1v m c))) (fun r => iprop(⌜True⌝ ∗ Env m ∗ ChSt m c 2 2 ∗ (PostB m c ∗ R))) := by
  rw [k0_part12_eq_skeleton]; unfold k0_part12_skel app; beta_reduce
  refine col_load m fun _ => ?_
  refine col_store m 7 rfl rfl ?_
  unfold PreB
  iintro ⟨#HE, HC, ⟨HO, Hcr, Hat, ⟨%fs, Hs⟩, Hb, Ht⟩, HR⟩
  ihave HC := (col_end m c) $$ HC
  iapply (ld (mm := aB) Finset.univ (Finset.subset_univ _) (AT m c) (Memref.readAt_unit_zero (Elt F) cc0_scratch3 (funext fun a => by fin_cases a <;> rfl) _ _)) $$ [HC]
  · iexact HC
  iintro HC
  iapply (ld (mm := sB) Finset.univ (Finset.subset_univ _) _ rfl) $$ [Hs]
  · iexact Hs
  iintro Hs
  iapply (st_whole c fs (PS m c) (funext fun a => by fin_cases a <;> rfl)) $$ [Hs]
  · iexact Hs
  iintro Hs
  iapply (barWait m _ (above_add (above_mono (by decide) (above_G c St)) (above_R c St))) $$ [HO Hcr Hat]
  · isplitr; · iexact HE
    isplitl [HO]; · iexact HO
    isplitl [Hcr]; · iexact Hcr
    iexact Hat
  iintro ⟨HO, Hat, Hp⟩
  ihave Hst := (ch_start m c) $$ [HO Hs Hp Hb Ht]
  · isplitl [HO]; · iexact HO
    isplitl [Hs]; · iexact Hs
    isplitl [Hp]; · iexact Hp
    isplitl [Hb]; · iexact Hb
    iexact Ht
  icases Hst with ⟨Hch, Hg⟩
  iapply (own_jp m 0 (own_iff 0 c) (fun h _ hK => own_pos m 0 h rfl rfl pay_id hK)
    (send_jp m 0 (ne_iff 0 c) (fun h _ _ hK => send_pos m 0 h rfl (k0_off3_eq c) (k0_off2_eq c) rfl rfl k0_dev32_eq rfl hK)
    (own_jp m 1 (own_iff 1 c) (fun h _ hK => own_pos m 1 h rfl rfl pay_id hK)
    (send_jp m 1 (ne_iff 1 c) (fun h _ _ hK => send_pos m 1 h rfl (k0_off5_eq c) (k0_off4_eq c) rfl rfl k0_dev33_eq rfl hK)
    (ret_pure trivial)))))
  isplitr; · iexact HE
  isplitl [Hch]; · iexact Hch
  unfold PostB
  isplitr [HR]
  · isplitl [HC]; · iexact HC
    isplitl [Hat]; · iexact Hat
    iexact Hg
  iexact HR

end Cert.KernelIdeal.Pf
-- ==== Proof.KernelIdeal.PartsC.lean ====
/-
The parts of the body that keep or send the thirty-two chunks of the partial products.
-/
module

public import proofs.«01_k».proof.Proof.KernelIdeal.Chunk

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.remsi Scalar.divsi Scalar.subi Scalar.addi Scalar.cmpi Scalar.extui

theorem part13 (c : Dev nD) {R : sProp 𝕄} : iprop(Env m ∗ ChSt m c 2 2 ∗ R) ⊢ WP c ((app (k0_part13 (F := F))) c (v2of c)) (fun r => iprop(⌜r = ckw 5#32 c⌝ ∗ Env m ∗ ChSt m c 5 5 ∗ R)) := by
  rw [k0_part13_eq_skeleton]; unfold k0_part13_skel app; beta_reduce
  refine own_jp m 2 (own_iff 2 c) (fun h _ hK => own_pos m 2 h rfl rfl pay_id hK) ?_
  refine send_jp m 2 (ne_iff 2 c) (fun h _ _ hK => send_pos m 2 h rfl (k0_off7_eq c) (k0_off6_eq c) rfl rfl k0_dev34_eq rfl hK) ?_
  refine own_jp m 3 (own_iff 3 c) (fun h _ hK => own_pos m 3 h rfl rfl pay_id hK) ?_
  refine send_jp m 3 (ne_iff 3 c) (fun h _ _ hK => send_pos m 3 h rfl (k0_off9_eq c) (k0_off8_eq c) rfl rfl k0_dev35_eq rfl hK) ?_
  refine own_jp m 4 (own_iff 4 c) (fun h _ hK => own_pos m 4 h rfl rfl pay_id hK) ?_
  refine send_jp m 4 (ne_iff 4 c) (fun h _ _ hK => send_pos m 4 h rfl (k0_off11_eq c) (k0_off10_eq c) rfl rfl k0_dev36_eq rfl hK) ?_
  exact ret_pure rfl

theorem part14 (c : Dev nD) {R : sProp 𝕄} : iprop(Env m ∗ ChSt m c 5 5 ∗ R) ⊢ WP c ((app (k0_part14 (F := F))) c (v2of c) (ckw 5#32 c)) (fun r => iprop(⌜r = ckw 8#32 c⌝ ∗ Env m ∗ ChSt m c 8 9 ∗ R)) := by
  rw [k0_part14_eq_skeleton]; unfold k0_part14_skel app; beta_reduce
  refine own_jp m 5 (own_iff 5 c) (fun h _ hK => own_pos m 5 h rfl rfl pay_id hK) ?_
  refine send_jp m 5 (ne_iff 5 c) (fun h _ _ hK => send_pos m 5 h rfl (k0_off13_eq c) (k0_off12_eq c) rfl rfl k0_dev37_eq rfl hK) ?_
  refine own_jp m 6 (own_iff 6 c) (fun h _ hK => own_pos m 6 h rfl rfl pay_id hK) ?_
  refine send_jp m 6 (ne_iff 6 c) (fun h _ _ hK => send_pos m 6 h rfl (k0_off15_eq c) (k0_off14_eq c) rfl rfl k0_dev38_eq rfl hK) ?_
  refine own_jp m 7 (own_iff 7 c) (fun h _ hK => own_pos m 7 h rfl rfl pay_id hK) ?_
  refine send_jp m 7 (ne_iff 7 c) (fun h _ _ hK => send_pos m 7 h rfl (k0_off17_eq c) (k0_off16_eq c) rfl rfl k0_dev39_eq rfl hK) ?_
  refine own_jp m 8 (own_iff 8 c) (fun h _ hK => own_pos m 8 h rfl rfl pay_id hK) ?_
  exact ret_pure rfl

theorem part15 (c : Dev nD) {R : sProp 𝕄} : iprop(Env m ∗ ChSt m c 8 9 ∗ R) ⊢ WP c ((app (k0_part15 (F := F))) c (v2of c) (ckw 8#32 c)) (fun r => iprop(⌜True⌝ ∗ Env m ∗ ChSt m c 12 12 ∗ R)) := by
  rw [k0_part15_eq_skeleton]; unfold k0_part15_skel app; beta_reduce
  refine send_jp m 8 (ne_iff 8 c) (fun h _ _ hK => send_pos m 8 h rfl (k0_off19_eq c) (k0_off18_eq c) rfl rfl k0_dev40_eq rfl hK) ?_
  refine own_jp m 9 (own_iff 9 c) (fun h _ hK => own_pos m 9 h rfl rfl pay_id hK) ?_
  refine send_jp m 9 (ne_iff 9 c) (fun h _ _ hK => send_pos m 9 h rfl (k0_off21_eq c) (k0_off20_eq c) rfl rfl k0_dev41_eq rfl hK) ?_
  refine own_jp m 10 (own_iff 10 c) (fun h _ hK => own_pos m 10 h rfl rfl pay_id hK) ?_
  refine send_jp m 10 (ne_iff 10 c) (fun h _ _ hK => send_pos m 10 h rfl (k0_off23_eq c) (k0_off22_eq c) rfl rfl k0_dev42_eq rfl hK) ?_
  refine own_jp m 11 (own_iff 11 c) (fun h _ hK => own_pos m 11 h rfl rfl pay_id hK) ?_
  refine send_jp m 11 (ne_iff 11 c) (fun h _ _ hK => send_pos m 11 h rfl (k0_off25_eq c) (k0_off24_eq c) rfl rfl k0_dev43_eq rfl hK) ?_
  exact ret_pure trivial

theorem part16 (c : Dev nD) {R : sProp 𝕄} : iprop(Env m ∗ ChSt m c 12 12 ∗ R) ⊢ WP c ((app (k0_part16 (F := F))) c (v2of c)) (fun r => iprop(⌜r = ckw 15#32 c⌝ ∗ Env m ∗ ChSt m c 15 15 ∗ R)) := by
  rw [k0_part16_eq_skeleton]; unfold k0_part16_skel app; beta_reduce
  refine own_jp m 12 (own_iff 12 c) (fun h _ hK => own_pos m 12 h rfl rfl pay_id hK) ?_
  refine send_jp m 12 (ne_iff 12 c) (fun h _ _ hK => send_pos m 12 h rfl (k0_off27_eq c) (k0_off26_eq c) rfl rfl k0_dev44_eq rfl hK) ?_
  refine own_jp m 13 (own_iff 13 c) (fun h _ hK => own_pos m 13 h rfl rfl pay_id hK) ?_
  refine send_jp m 13 (ne_iff 13 c) (fun h _ _ hK => send_pos m 13 h rfl (k0_off29_eq c) (k0_off28_eq c) rfl rfl k0_dev45_eq rfl hK) ?_
  refine own_jp m 14 (own_iff 14 c) (fun h _ hK => own_pos m 14 h rfl rfl pay_id hK) ?_
  refine send_jp m 14 (ne_iff 14 c) (fun h _ _ hK => send_pos m 14 h rfl (k0_off31_eq c) (k0_off30_eq c) rfl rfl k0_dev46_eq rfl hK) ?_
  exact ret_pure rfl

theorem part17 (c : Dev nD) {R : sProp 𝕄} : iprop(Env m ∗ ChSt m c 15 15 ∗ R) ⊢ WP c ((app (k0_part17 (F := F))) c (v2of c) (ckw 15#32 c)) (fun r => iprop(⌜r = ckw 18#32 c⌝ ∗ Env m ∗ ChSt m c 18 19 ∗ R)) := by
  rw [k0_part17_eq_skeleton]; unfold k0_part17_skel app; beta_reduce
  refine own_jp m 15 (own_iff 15 c) (fun h _ hK => own_pos m 15 h rfl rfl pay_id hK) ?_
  refine send_jp m 15 (ne_iff 15 c) (fun h _ _ hK => send_pos m 15 h rfl (k0_off33_eq c) (k0_off32_eq c) rfl rfl k0_dev47_eq rfl hK) ?_
  refine own_jp m 16 (own_iff 16 c) (fun h _ hK => own_pos m 16 h rfl rfl pay_id hK) ?_
  refine send_jp m 16 (ne_iff 16 c) (fun h _ _ hK => send_pos m 16 h rfl (k0_off35_eq c) (k0_off34_eq c) rfl rfl k0_dev48_eq rfl hK) ?_
  refine own_jp m 17 (own_iff 17 c) (fun h _ hK => own_pos m 17 h rfl rfl pay_id hK) ?_
  refine send_jp m 17 (ne_iff 17 c) (fun h _ _ hK => send_pos m 17 h rfl (k0_off37_eq c) (k0_off36_eq c) rfl rfl k0_dev49_eq rfl hK) ?_
  refine own_jp m 18 (own_iff 18 c) (fun h _ hK => own_pos m 18 h rfl rfl pay_id hK) ?_
  exact ret_pure rfl

theorem part18 (c : Dev nD) {R : sProp 𝕄} : iprop(Env m ∗ ChSt m c 18 19 ∗ R) ⊢ WP c ((app (k0_part18 (F := F))) c (v2of c) (ckw 18#32 c)) (fun r => iprop(⌜True⌝ ∗ Env m ∗ ChSt m c 22 22 ∗ R)) := by
  rw [k0_part18_eq_skeleton]; unfold k0_part18_skel app; beta_reduce
  refine send_jp m 18 (ne_iff 18 c) (fun h _ _ hK => send_pos m 18 h rfl (k0_off39_eq c) (k0_off38_eq c) rfl rfl k0_dev50_eq rfl hK) ?_
  refine own_jp m 19 (own_iff 19 c) (fun h _ hK => own_pos m 19 h rfl rfl pay_id hK) ?_
  refine send_jp m 19 (ne_iff 19 c) (fun h _ _ hK => send_pos m 19 h rfl (k0_off41_eq c) (k0_off40_eq c) rfl rfl k0_dev51_eq rfl hK) ?_
  refine own_jp m 20 (own_iff 20 c) (fun h _ hK => own_pos m 20 h rfl rfl pay_id hK) ?_
  refine send_jp m 20 (ne_iff 20 c) (fun h _ _ hK => send_pos m 20 h rfl (k0_off43_eq c) (k0_off42_eq c) rfl rfl k0_dev52_eq rfl hK) ?_
  refine own_jp m 21 (own_iff 21 c) (fun h _ hK => own_pos m 21 h rfl rfl pay_id hK) ?_
  refine send_jp m 21 (ne_iff 21 c) (fun h _ _ hK => send_pos m 21 h rfl (k0_off45_eq c) (k0_off44_eq c) rfl rfl k0_dev53_eq rfl hK) ?_
  exact ret_pure trivial

theorem part19 (c : Dev nD) {R : sProp 𝕄} : iprop(Env m ∗ ChSt m c 22 22 ∗ R) ⊢ WP c ((app (k0_part19 (F := F))) c (v2of c)) (fun r => iprop(⌜r = ckw 25#32 c⌝ ∗ Env m ∗ ChSt m c 25 25 ∗ R)) := by
  rw [k0_part19_eq_skeleton]; unfold k0_part19_skel app; beta_reduce
  refine own_jp m 22 (own_iff 22 c) (fun h _ hK => own_pos m 22 h rfl rfl pay_id hK) ?_
  refine send_jp m 22 (ne_iff 22 c) (fun h _ _ hK => send_pos m 22 h rfl (k0_off47_eq c) (k0_off46_eq c) rfl rfl k0_dev54_eq rfl hK) ?_
  refine own_jp m 23 (own_iff 23 c) (fun h _ hK => own_pos m 23 h rfl rfl pay_id hK) ?_
  refine send_jp m 23 (ne_iff 23 c) (fun h _ _ hK => send_pos m 23 h rfl (k0_off49_eq c) (k0_off48_eq c) rfl rfl k0_dev55_eq rfl hK) ?_
  refine own_jp m 24 (own_iff 24 c) (fun h _ hK => own_pos m 24 h rfl rfl pay_id hK) ?_
  refine send_jp m 24 (ne_iff 24 c) (fun h _ _ hK => send_pos m 24 h rfl (k0_off51_eq c) (k0_off50_eq c) rfl rfl k0_dev56_eq rfl hK) ?_
  exact ret_pure rfl

theorem part20 (c : Dev nD) {R : sProp 𝕄} : iprop(Env m ∗ ChSt m c 25 25 ∗ R) ⊢ WP c ((app (k0_part20 (F := F))) c (v2of c) (ckw 25#32 c)) (fun r => iprop(⌜r = ckw 28#32 c⌝ ∗ Env m ∗ ChSt m c 28 29 ∗ R)) := by
  rw [k0_part20_eq_skeleton]; unfold k0_part20_skel app; beta_reduce
  refine own_jp m 25 (own_iff 25 c) (fun h _ hK => own_pos m 25 h rfl rfl pay_id hK) ?_
  refine send_jp m 25 (ne_iff 25 c) (fun h _ _ hK => send_pos m 25 h rfl (k0_off53_eq c) (k0_off52_eq c) rfl rfl k0_dev57_eq rfl hK) ?_
  refine own_jp m 26 (own_iff 26 c) (fun h _ hK => own_pos m 26 h rfl rfl pay_id hK) ?_
  refine send_jp m 26 (ne_iff 26 c) (fun h _ _ hK => send_pos m 26 h rfl (k0_off55_eq c) (k0_off54_eq c) rfl rfl k0_dev58_eq rfl hK) ?_
  refine own_jp m 27 (own_iff 27 c) (fun h _ hK => own_pos m 27 h rfl rfl pay_id hK) ?_
  refine send_jp m 27 (ne_iff 27 c) (fun h _ _ hK => send_pos m 27 h rfl (k0_off57_eq c) (k0_off56_eq c) rfl rfl k0_dev59_eq rfl hK) ?_
  refine own_jp m 28 (own_iff 28 c) (fun h _ hK => own_pos m 28 h rfl rfl pay_id hK) ?_
  exact ret_pure rfl

theorem part21 (c : Dev nD) {R : sProp 𝕄} : iprop(Env m ∗ ChSt m c 28 29 ∗ R) ⊢ WP c ((app (k0_part21 (F := F))) c (v2of c) (ckw 28#32 c)) (fun r => iprop(⌜True⌝ ∗ Env m ∗ ChSt m c 32 32 ∗ R)) := by
  rw [k0_part21_eq_skeleton]; unfold k0_part21_skel app; beta_reduce
  refine send_jp m 28 (ne_iff 28 c) (fun h _ _ hK => send_pos m 28 h rfl (k0_off59_eq c) (k0_off58_eq c) rfl rfl k0_dev60_eq rfl hK) ?_
  refine own_jp m 29 (own_iff 29 c) (fun h _ hK => own_pos m 29 h rfl rfl pay_id hK) ?_
  refine send_jp m 29 (ne_iff 29 c) (fun h _ _ hK => send_pos m 29 h rfl (k0_off61_eq c) (k0_off60_eq c) rfl rfl k0_dev61_eq rfl hK) ?_
  refine own_jp m 30 (own_iff 30 c) (fun h _ hK => own_pos m 30 h rfl rfl pay_id hK) ?_
  refine send_jp m 30 (ne_iff 30 c) (fun h _ _ hK => send_pos m 30 h rfl (k0_off63_eq c) (k0_off62_eq c) rfl rfl k0_dev62_eq rfl hK) ?_
  refine own_jp m 31 (own_iff 31 c) (fun h _ hK => own_pos m 31 h rfl rfl pay_id hK) ?_
  refine send_jp m 31 (ne_iff 31 c) (fun h _ _ hK => send_pos m 31 h rfl (k0_off65_eq c) (k0_off64_eq c) rfl rfl k0_dev63_eq rfl hK) ?_
  exact ret_pure trivial

end Cert.KernelIdeal.Pf
-- ==== Proof.KernelIdeal.PartsD.lean ====
/-
Waiting for the chunks of the reduce-scatter, part by part.
-/
module

public import proofs.«01_k».proof.Proof.KernelIdeal.Waits

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.remsi Scalar.divsi Scalar.subi Scalar.addi Scalar.muli Scalar.cmpi Scalar.extui

theorem part22 (c : Dev nD)  (v2 : BitVec 32) {R : sProp 𝕄} : iprop(Env m ∗ Ow c (∑ d ∈ St, tG c d) ∗ WtF m c 1 1 ∗ R) ⊢ WP c ((app (k0_part22 (F := F))) v2) (fun r => iprop(⌜True⌝ ∗ Env m ∗ Ow c (∑ d ∈ St, tG c d) ∗ WtF m c 1 4 ∗ R)) := by
  rw [k0_part22_eq_skeleton]; unfold k0_part22_skel app; beta_reduce
  refine wait_step m 2 (by decide) (above_G c St) 1 (by decide) rfl (fam_sem _ 1 1 rfl rfl) (by rfl) ?_
  refine wait_step m 2 (by decide) (above_G c St) 2 (by decide) rfl (fam_sem _ 1 2 rfl rfl) (by rfl) ?_
  refine wait_step m 2 (by decide) (above_G c St) 3 (by decide) rfl (fam_sem _ 1 3 rfl rfl) (by rfl) ?_
  exact ret_pure trivial

theorem part23 (c : Dev nD)  (v2 : BitVec 32) {R : sProp 𝕄} : iprop(Env m ∗ Ow c (∑ d ∈ St, tG c d) ∗ WtF m c 1 4 ∗ R) ⊢ WP c ((app (k0_part23 (F := F))) v2) (fun r => iprop(⌜True⌝ ∗ Env m ∗ Ow c (∑ d ∈ St, tG c d) ∗ WtF m c 1 7 ∗ R)) := by
  rw [k0_part23_eq_skeleton]; unfold k0_part23_skel app; beta_reduce
  refine wait_step m 2 (by decide) (above_G c St) 4 (by decide) rfl (fam_sem _ 1 4 rfl rfl) (by rfl) ?_
  refine wait_step m 2 (by decide) (above_G c St) 5 (by decide) rfl (fam_sem _ 1 5 rfl rfl) (by rfl) ?_
  refine wait_step m 2 (by decide) (above_G c St) 6 (by decide) rfl (fam_sem _ 1 6 rfl rfl) (by rfl) ?_
  exact ret_pure trivial

theorem part24 (c : Dev nD)  (v2 : BitVec 32) (v669 : BitVec 32) {R : sProp 𝕄} : iprop(Env m ∗ Ow c (∑ d ∈ St, tG c d) ∗ WtF m c 1 7 ∗ R) ⊢ WP c ((app (k0_part24 (F := F))) v2 v669) (fun r => iprop(⌜True⌝ ∗ Env m ∗ Ow c (∑ d ∈ St, tG c d) ∗ WtF m c 1 10 ∗ R)) := by
  rw [k0_part24_eq_skeleton]; unfold k0_part24_skel app; beta_reduce
  refine wait_step m 2 (by decide) (above_G c St) 7 (by decide) rfl (fam_sem _ 1 7 rfl rfl) (by rfl) ?_
  refine wait_step m 2 (by decide) (above_G c St) 8 (by decide) rfl (fam_sem _ 1 8 rfl rfl) (by rfl) ?_
  refine wait_step m 2 (by decide) (above_G c St) 9 (by decide) rfl (fam_sem _ 1 9 rfl rfl) (by rfl) ?_
  exact ret_pure trivial

theorem part25 (c : Dev nD)  (v2 : BitVec 32) {R : sProp 𝕄} : iprop(Env m ∗ Ow c (∑ d ∈ St, tG c d) ∗ WtF m c 1 10 ∗ R) ⊢ WP c ((app (k0_part25 (F := F))) v2) (fun r => iprop(⌜True⌝ ∗ Env m ∗ Ow c (∑ d ∈ St, tG c d) ∗ WtF m c 1 13 ∗ R)) := by
  rw [k0_part25_eq_skeleton]; unfold k0_part25_skel app; beta_reduce
  refine wait_step m 2 (by decide) (above_G c St) 10 (by decide) rfl (fam_sem _ 1 10 rfl rfl) (by rfl) ?_
  refine wait_step m 2 (by decide) (above_G c St) 11 (by decide) rfl (fam_sem _ 1 11 rfl rfl) (by rfl) ?_
  refine wait_step m 2 (by decide) (above_G c St) 12 (by decide) rfl (fam_sem _ 1 12 rfl rfl) (by rfl) ?_
  exact ret_pure trivial

theorem part26 (c : Dev nD)  (v2 : BitVec 32) {R : sProp 𝕄} : iprop(Env m ∗ Ow c (∑ d ∈ St, tG c d) ∗ WtF m c 1 13 ∗ R) ⊢ WP c ((app (k0_part26 (F := F))) v2) (fun r => iprop(⌜True⌝ ∗ Env m ∗ Ow c (∑ d ∈ St, tG c d) ∗ WtF m c 1 16 ∗ R)) := by
  rw [k0_part26_eq_skeleton]; unfold k0_part26_skel app; beta_reduce
  refine wait_step m 2 (by decide) (above_G c St) 13 (by decide) rfl (fam_sem _ 1 13 rfl rfl) (by rfl) ?_
  refine wait_step m 2 (by decide) (above_G c St) 14 (by decide) rfl (fam_sem _ 1 14 rfl rfl) (by rfl) ?_
  refine wait_step m 2 (by decide) (above_G c St) 15 (by decide) rfl (fam_sem _ 1 15 rfl rfl) (by rfl) ?_
  exact ret_pure trivial

theorem part27 (c : Dev nD)  (v2 : BitVec 32) {R : sProp 𝕄} : iprop(Env m ∗ Ow c (∑ d ∈ St, tG c d) ∗ WtF m c 1 16 ∗ R) ⊢ WP c ((app (k0_part27 (F := F))) v2) (fun r => iprop(⌜True⌝ ∗ Env m ∗ Ow c (∑ d ∈ St, tG c d) ∗ WtF m c 1 19 ∗ R)) := by
  rw [k0_part27_eq_skeleton]; unfold k0_part27_skel app; beta_reduce
  refine wait_step m 2 (by decide) (above_G c St) 16 (by decide) rfl (fam_sem _ 1 16 rfl rfl) (by rfl) ?_
  refine wait_step m 2 (by decide) (above_G c St) 17 (by decide) rfl (fam_sem _ 1 17 rfl rfl) (by rfl) ?_
  refine wait_step m 2 (by decide) (above_G c St) 18 (by decide) rfl (fam_sem _ 1 18 rfl rfl) (by rfl) ?_
  exact ret_pure trivial

theorem part28 (c : Dev nD)  (v2 : BitVec 32) {R : sProp 𝕄} : iprop(Env m ∗ Ow c (∑ d ∈ St, tG c d) ∗ WtF m c 1 19 ∗ R) ⊢ WP c ((app (k0_part28 (F := F))) v2) (fun r => iprop(⌜True⌝ ∗ Env m ∗ Ow c (∑ d ∈ St, tG c d) ∗ WtF m c 1 23 ∗ R)) := by
  rw [k0_part28_eq_skeleton]; unfold k0_part28_skel app; beta_reduce
  refine wait_step m 2 (by decide) (above_G c St) 19 (by decide) rfl (fam_sem _ 1 19 rfl rfl) (by rfl) ?_
  refine wait_step m 2 (by decide) (above_G c St) 20 (by decide) rfl (fam_sem _ 1 20 rfl rfl) (by rfl) ?_
  refine wait_step m 2 (by decide) (above_G c St) 21 (by decide) rfl (fam_sem _ 1 21 rfl rfl) (by rfl) ?_
  refine wait_step m 2 (by decide) (above_G c St) 22 (by decide) rfl (fam_sem _ 1 22 rfl rfl) (by rfl) ?_
  exact ret_pure trivial

theorem part29 (c : Dev nD)  (v2 : BitVec 32) {R : sProp 𝕄} : iprop(Env m ∗ Ow c (∑ d ∈ St, tG c d) ∗ WtF m c 1 23 ∗ R) ⊢ WP c ((app (k0_part29 (F := F))) v2) (fun r => iprop(⌜True⌝ ∗ Env m ∗ Ow c (∑ d ∈ St, tG c d) ∗ WtF m c 1 26 ∗ R)) := by
  rw [k0_part29_eq_skeleton]; unfold k0_part29_skel app; beta_reduce
  refine wait_step m 2 (by decide) (above_G c St) 23 (by decide) rfl (fam_sem _ 1 23 rfl rfl) (by rfl) ?_
  refine wait_step m 2 (by decide) (above_G c St) 24 (by decide) rfl (fam_sem _ 1 24 rfl rfl) (by rfl) ?_
  refine wait_step m 2 (by decide) (above_G c St) 25 (by decide) rfl (fam_sem _ 1 25 rfl rfl) (by rfl) ?_
  exact ret_pure trivial

theorem part30 (c : Dev nD)  (v2 : BitVec 32) (c1_i32_733 : BitVec 32) {R : sProp 𝕄} : iprop(Env m ∗ Ow c (∑ d ∈ St, tG c d) ∗ WtF m c 1 26 ∗ R) ⊢ WP c ((app (k0_part30 (F := F))) v2 c1_i32_733) (fun r => iprop(⌜True⌝ ∗ Env m ∗ Ow c (∑ d ∈ St, tG c d) ∗ WtF m c 1 29 ∗ R)) := by
  rw [k0_part30_eq_skeleton]; unfold k0_part30_skel app; beta_reduce
  refine wait_step m 2 (by decide) (above_G c St) 26 (by decide) rfl (fam_sem _ 1 26 rfl rfl) (by rfl) ?_
  refine wait_step m 2 (by decide) (above_G c St) 27 (by decide) rfl (fam_sem _ 1 27 rfl rfl) (by rfl) ?_
  refine wait_step m 2 (by decide) (above_G c St) 28 (by decide) rfl (fam_sem _ 1 28 rfl rfl) (by rfl) ?_
  exact ret_pure trivial

theorem part31 (c : Dev nD)  (v2 : BitVec 32) {R : sProp 𝕄} : iprop(Env m ∗ Ow c (∑ d ∈ St, tG c d) ∗ WtF m c 1 29 ∗ (bufP c 0 (RS m c) ∗ R)) ⊢ WP c ((app (k0_part31 (F := F))) v2) (fun r => iprop(⌜r = ⟨k0_pay50 (RS m c), k0_pay51 (RS m c)⟩⌝ ∗ Env m ∗ Ow c (∑ d ∈ St, tG c d) ∗ RsDone m c ∗ R)) := by
  rw [k0_part31_eq_skeleton]; unfold k0_part31_skel app; beta_reduce
  refine wait_step m 2 (by decide) (above_G c St) 29 (by decide) rfl (fam_sem _ 1 29 rfl rfl) (by rfl) ?_
  refine wait_step m 2 (by decide) (above_G c St) 30 (by decide) rfl (fam_sem _ 1 30 rfl rfl) (by rfl) ?_
  refine wait_step m 2 (by decide) (above_G c St) 31 (by decide) rfl (fam_sem _ 1 31 rfl rfl) (by rfl) ?_
  refine rs_load m (funext fun a => by fin_cases a <;> rfl) ?_
  exact ret_pure rfl

end Cert.KernelIdeal.Pf
-- ==== Proof.KernelIdeal.PartsE.lean ====
/-
The sends of the all-gather, part by part.
-/
module

public import proofs.«01_k».proof.Proof.KernelIdeal.Waits

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.remsi Scalar.divsi Scalar.subi Scalar.addi Scalar.muli Scalar.cmpi Scalar.extui

theorem part32 (c : Dev nD)  (v2 : BitVec 32) {R : sProp 𝕄} : iprop(Env m ∗ AgPre c ∗ R) ⊢ WP c ((app (k0_part32 (F := F))) c v2 (k0_pay51 (RS m c))) (fun r => iprop(⌜True⌝ ∗ Env m ∗ AgSt m c 3 ∗ R)) := by
  rw [k0_part32_eq_skeleton]; unfold k0_part32_skel app; beta_reduce
  refine ag_begin m (k0_off66_eq c) ?_
  refine ag_step m 1 (by decide) rfl (k0_off67_eq c) rfl rfl rfl (k0_dev64_eq c) ?_
  refine ag_step m 2 (by decide) rfl (k0_off67_eq c) rfl rfl rfl (k0_dev65_eq c) ?_
  exact ret_pure trivial

theorem part33 (c : Dev nD)  (v2 : BitVec 32) {R : sProp 𝕄} : iprop(Env m ∗ AgSt m c 3 ∗ R) ⊢ WP c ((app (k0_part33 (F := F))) c v2) (fun r => iprop(⌜True⌝ ∗ Env m ∗ AgSt m c 6 ∗ R)) := by
  rw [k0_part33_eq_skeleton]; unfold k0_part33_skel app; beta_reduce
  refine ag_step m 3 (by decide) rfl (k0_off67_eq c) rfl rfl rfl (k0_dev66_eq c) ?_
  refine ag_step m 4 (by decide) rfl (k0_off67_eq c) rfl rfl rfl (k0_dev67_eq c) ?_
  refine ag_step m 5 (by decide) rfl (k0_off67_eq c) rfl rfl rfl (k0_dev68_eq c) ?_
  exact ret_pure trivial

theorem part34 (c : Dev nD)  (v2 : BitVec 32) (c6_i32_845 : BitVec 32) {R : sProp 𝕄} : iprop(Env m ∗ AgSt m c 6 ∗ R) ⊢ WP c ((app (k0_part34 (F := F))) c v2 c6_i32_845) (fun r => iprop(⌜True⌝ ∗ Env m ∗ AgSt m c 8 ∗ R)) := by
  rw [k0_part34_eq_skeleton]; unfold k0_part34_skel app; beta_reduce
  refine ag_step m 6 (by decide) rfl (k0_off67_eq c) rfl rfl rfl (k0_dev69_eq c) ?_
  refine ag_step m 7 (by decide) rfl (k0_off67_eq c) rfl rfl rfl (k0_dev70_eq c) ?_
  exact ret_pure trivial

theorem part35 (c : Dev nD)  (v2 : BitVec 32) {R : sProp 𝕄} : iprop(Env m ∗ AgSt m c 8 ∗ R) ⊢ WP c ((app (k0_part35 (F := F))) c v2) (fun r => iprop(⌜True⌝ ∗ Env m ∗ AgSt m c 11 ∗ R)) := by
  rw [k0_part35_eq_skeleton]; unfold k0_part35_skel app; beta_reduce
  refine ag_step m 8 (by decide) rfl (k0_off67_eq c) rfl rfl rfl (k0_dev71_eq c) ?_
  refine ag_step m 9 (by decide) rfl (k0_off67_eq c) rfl rfl rfl (k0_dev72_eq c) ?_
  refine ag_step m 10 (by decide) rfl (k0_off67_eq c) rfl rfl rfl (k0_dev73_eq c) ?_
  exact ret_pure trivial

theorem part36 (c : Dev nD)  (v2 : BitVec 32) (v998 : BitVec 32) {R : sProp 𝕄} : iprop(Env m ∗ AgSt m c 11 ∗ R) ⊢ WP c ((app (k0_part36 (F := F))) c v2 v998) (fun r => iprop(⌜True⌝ ∗ Env m ∗ AgSt m c 13 ∗ R)) := by
  rw [k0_part36_eq_skeleton]; unfold k0_part36_skel app; beta_reduce
  refine ag_step m 11 (by decide) rfl (k0_off67_eq c) rfl rfl rfl (k0_dev74_eq c) ?_
  refine ag_step m 12 (by decide) rfl (k0_off67_eq c) rfl rfl rfl (k0_dev75_eq c) ?_
  exact ret_pure trivial

theorem part37 (c : Dev nD)  (v2 : BitVec 32) {R : sProp 𝕄} : iprop(Env m ∗ AgSt m c 13 ∗ R) ⊢ WP c ((app (k0_part37 (F := F))) c v2) (fun r => iprop(⌜True⌝ ∗ Env m ∗ AgSt m c 16 ∗ R)) := by
  rw [k0_part37_eq_skeleton]; unfold k0_part37_skel app; beta_reduce
  refine ag_step m 13 (by decide) rfl (k0_off67_eq c) rfl rfl rfl (k0_dev76_eq c) ?_
  refine ag_step m 14 (by decide) rfl (k0_off67_eq c) rfl rfl rfl (k0_dev77_eq c) ?_
  refine ag_step m 15 (by decide) rfl (k0_off67_eq c) rfl rfl rfl (k0_dev78_eq c) ?_
  exact ret_pure trivial

theorem part38 (c : Dev nD)  (v2 : BitVec 32) {R : sProp 𝕄} : iprop(Env m ∗ AgSt m c 16 ∗ R) ⊢ WP c ((app (k0_part38 (F := F))) c v2) (fun r => iprop(⌜True⌝ ∗ Env m ∗ AgSt m c 19 ∗ R)) := by
  rw [k0_part38_eq_skeleton]; unfold k0_part38_skel app; beta_reduce
  refine ag_step m 16 (by decide) rfl (k0_off67_eq c) rfl rfl rfl (k0_dev79_eq c) ?_
  refine ag_step m 17 (by decide) rfl (k0_off67_eq c) rfl rfl rfl (k0_dev80_eq c) ?_
  refine ag_step m 18 (by decide) rfl (k0_off67_eq c) rfl rfl rfl (k0_dev81_eq c) ?_
  exact ret_pure trivial

theorem part39 (c : Dev nD)  (v2 : BitVec 32) (v1093 : BitVec 32) {R : sProp 𝕄} : iprop(Env m ∗ AgSt m c 19 ∗ R) ⊢ WP c ((app (k0_part39 (F := F))) c v2 v1093) (fun r => iprop(⌜True⌝ ∗ Env m ∗ AgSt m c 21 ∗ R)) := by
  rw [k0_part39_eq_skeleton]; unfold k0_part39_skel app; beta_reduce
  refine ag_step m 19 (by decide) rfl (k0_off67_eq c) rfl rfl rfl (k0_dev82_eq c) ?_
  refine ag_step m 20 (by decide) rfl (k0_off67_eq c) rfl rfl rfl (k0_dev83_eq c) ?_
  exact ret_pure trivial

theorem part40 (c : Dev nD)  (v2 : BitVec 32) {R : sProp 𝕄} : iprop(Env m ∗ AgSt m c 21 ∗ R) ⊢ WP c ((app (k0_part40 (F := F))) c v2) (fun r => iprop(⌜True⌝ ∗ Env m ∗ AgSt m c 24 ∗ R)) := by
  rw [k0_part40_eq_skeleton]; unfold k0_part40_skel app; beta_reduce
  refine ag_step m 21 (by decide) rfl (k0_off67_eq c) rfl rfl rfl (k0_dev84_eq c) ?_
  refine ag_step m 22 (by decide) rfl (k0_off67_eq c) rfl rfl rfl (k0_dev85_eq c) ?_
  refine ag_step m 23 (by decide) rfl (k0_off67_eq c) rfl rfl rfl (k0_dev86_eq c) ?_
  exact ret_pure trivial

theorem part41 (c : Dev nD)  (v2 : BitVec 32) (v1154 : BitVec 32) (c1_i32_1029 : BitVec 32) {R : sProp 𝕄} : iprop(Env m ∗ AgSt m c 24 ∗ R) ⊢ WP c ((app (k0_part41 (F := F))) c v2 v1154 c1_i32_1029) (fun r => iprop(⌜True⌝ ∗ Env m ∗ AgSt m c 26 ∗ R)) := by
  rw [k0_part41_eq_skeleton]; unfold k0_part41_skel app; beta_reduce
  refine ag_step m 24 (by decide) rfl (k0_off67_eq c) rfl rfl rfl (k0_dev87_eq c) ?_
  refine ag_step m 25 (by decide) rfl (k0_off67_eq c) rfl rfl rfl (k0_dev88_eq c) ?_
  exact ret_pure trivial

theorem part42 (c : Dev nD)  (v2 : BitVec 32) {R : sProp 𝕄} : iprop(Env m ∗ AgSt m c 26 ∗ R) ⊢ WP c ((app (k0_part42 (F := F))) c v2) (fun r => iprop(⌜True⌝ ∗ Env m ∗ AgSt m c 29 ∗ R)) := by
  rw [k0_part42_eq_skeleton]; unfold k0_part42_skel app; beta_reduce
  refine ag_step m 26 (by decide) rfl (k0_off67_eq c) rfl rfl rfl (k0_dev89_eq c) ?_
  refine ag_step m 27 (by decide) rfl (k0_off67_eq c) rfl rfl rfl (k0_dev90_eq c) ?_
  refine ag_step m 28 (by decide) rfl (k0_off67_eq c) rfl rfl rfl (k0_dev91_eq c) ?_
  exact ret_pure trivial

theorem part43 (c : Dev nD)  (v2 : BitVec 32) {R : sProp 𝕄} : iprop(Env m ∗ AgSt m c 29 ∗ R) ⊢ WP c ((app (k0_part43 (F := F))) c v2) (fun r => iprop(⌜True⌝ ∗ Env m ∗ AgSt m c 32 ∗ R)) := by
  rw [k0_part43_eq_skeleton]; unfold k0_part43_skel app; beta_reduce
  refine ag_step m 29 (by decide) rfl (k0_off67_eq c) rfl rfl rfl (k0_dev92_eq c) ?_
  refine ag_step m 30 (by decide) rfl (k0_off67_eq c) rfl rfl rfl (k0_dev93_eq c) ?_
  refine ag_step m 31 (by decide) rfl (k0_off67_eq c) rfl rfl rfl (k0_dev94_eq c) ?_
  exact ret_pure trivial

end Cert.KernelIdeal.Pf
-- ==== Proof.KernelIdeal.PartsF.lean ====
/-
Waiting for the gathered slots and storing the rows of the result, part by part.
-/
module

public import proofs.«01_k».proof.Proof.KernelIdeal.Waits

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.remsi Scalar.divsi Scalar.subi Scalar.addi Scalar.muli Scalar.cmpi Scalar.extui

theorem part44 (c : Dev nD)  (v2 : BitVec 32) (v878 : BitVec 32) (v890 : BitVec 32) (v1249 : BitVec 32) {R : sProp 𝕄} : iprop(Env m ∗ Ow c 0 ∗ WtF m c 3 1 ∗ OutSt m c 0 ∗ R) ⊢ WP c ((app (k0_part44 (F := F))) c v2 (k0_pay50 (RS m c)) v878 v890 v1249) (fun r => iprop(⌜True⌝ ∗ Env m ∗ Ow c 0 ∗ WtF m c 3 2 ∗ OutSt m c 2 ∗ R)) := by
  rw [k0_part44_eq_skeleton]; unfold k0_part44_skel app; beta_reduce
  refine out_load m fun _ => ?_
  refine out_store m 0 rfl ((k0_off68_eq c).trans (by rw [fin_sub_zero])) (OUT_own m c) ?_
  refine wait_step m 3 (by decide) (above_zero 3) 1 (by decide) rfl (fam_sem _ 3 1 rfl rfl) (by rfl) ?_
  refine gat_load m 1 (by decide) rfl (off69 c 1) ?_
  refine out_load m fun _ => ?_
  refine out_store m 1 rfl (off70 c 1) (OUT_peer m c 1 (by decide)) ?_
  exact ret_pure trivial

theorem part45 (c : Dev nD)  (v2 : BitVec 32) (v902 : BitVec 32) {R : sProp 𝕄} : iprop(Env m ∗ Ow c 0 ∗ WtF m c 3 2 ∗ OutSt m c 2 ∗ R) ⊢ WP c ((app (k0_part45 (F := F))) c v2 v902) (fun r => iprop(⌜True⌝ ∗ Env m ∗ Ow c 0 ∗ WtF m c 3 4 ∗ OutSt m c 4 ∗ R)) := by
  rw [k0_part45_eq_skeleton]; unfold k0_part45_skel app; beta_reduce
  refine wait_step m 3 (by decide) (above_zero 3) 2 (by decide) rfl (fam_sem _ 3 2 rfl rfl) (by rfl) ?_
  refine gat_load m 2 (by decide) rfl (off69 c 2) ?_
  refine out_load m fun _ => ?_
  refine out_store m 2 rfl (off70 c 2) (OUT_peer m c 2 (by decide)) ?_
  refine wait_step m 3 (by decide) (above_zero 3) 3 (by decide) rfl (fam_sem _ 3 3 rfl rfl) (by rfl) ?_
  refine gat_load m 3 (by decide) rfl (off69 c 3) ?_
  refine out_load m fun _ => ?_
  refine out_store m 3 rfl (off70 c 3) (OUT_peer m c 3 (by decide)) ?_
  exact ret_pure trivial

theorem part46 (c : Dev nD)  (v2 : BitVec 32) (v914 : BitVec 32) (v926 : BitVec 32) {R : sProp 𝕄} : iprop(Env m ∗ Ow c 0 ∗ WtF m c 3 4 ∗ OutSt m c 4 ∗ R) ⊢ WP c ((app (k0_part46 (F := F))) c v2 v914 v926) (fun r => iprop(⌜True⌝ ∗ Env m ∗ Ow c 0 ∗ WtF m c 3 6 ∗ OutSt m c 5 ∗ R)) := by
  rw [k0_part46_eq_skeleton]; unfold k0_part46_skel app; beta_reduce
  refine wait_step m 3 (by decide) (above_zero 3) 4 (by decide) rfl (fam_sem _ 3 4 rfl rfl) (by rfl) ?_
  refine gat_load m 4 (by decide) rfl (off69 c 4) ?_
  refine out_load m fun _ => ?_
  refine out_store m 4 rfl (off70 c 4) (OUT_peer m c 4 (by decide)) ?_
  refine wait_step m 3 (by decide) (above_zero 3) 5 (by decide) rfl (fam_sem _ 3 5 rfl rfl) (by rfl) ?_
  exact ret_pure trivial

theorem part47 (c : Dev nD)  (v2 : BitVec 32) (v938 : BitVec 32) (v950 : BitVec 32) (v1343 : BitVec 32) (c32_i32_1182 : BitVec 32) {R : sProp 𝕄} : iprop(Env m ∗ Ow c 0 ∗ WtF m c 3 6 ∗ OutSt m c 5 ∗ R) ⊢ WP c ((app (k0_part47 (F := F))) c v2 v938 v950 v1343 c32_i32_1182) (fun r => iprop(⌜True⌝ ∗ Env m ∗ Ow c 0 ∗ WtF m c 3 7 ∗ OutSt m c 7 ∗ R)) := by
  rw [k0_part47_eq_skeleton]; unfold k0_part47_skel app; beta_reduce
  refine gat_load m 5 (by decide) rfl (off69 c 5) ?_
  refine out_load m fun _ => ?_
  refine out_store m 5 rfl (off70 c 5) (OUT_peer m c 5 (by decide)) ?_
  refine wait_step m 3 (by decide) (above_zero 3) 6 (by decide) rfl (fam_sem _ 3 6 rfl rfl) (by rfl) ?_
  refine gat_load m 6 (by decide) rfl (off69 c 6) ?_
  refine out_load m fun _ => ?_
  refine out_store m 6 rfl (off70 c 6) (OUT_peer m c 6 (by decide)) ?_
  exact ret_pure trivial

theorem part48 (c : Dev nD)  (v2 : BitVec 32) (v962 : BitVec 32) {R : sProp 𝕄} : iprop(Env m ∗ Ow c 0 ∗ WtF m c 3 7 ∗ OutSt m c 7 ∗ R) ⊢ WP c ((app (k0_part48 (F := F))) c v2 v962) (fun r => iprop(⌜r.2 = k0_pay61 (sl1 ((c : Fin 32) - 8) (AG m))⌝ ∗ Env m ∗ Ow c 0 ∗ WtF m c 3 9 ∗ OutSt m c 8 ∗ R)) := by
  rw [k0_part48_eq_skeleton]; unfold k0_part48_skel app; beta_reduce
  refine wait_step m 3 (by decide) (above_zero 3) 7 (by decide) rfl (fam_sem _ 3 7 rfl rfl) (by rfl) ?_
  refine gat_load m 7 (by decide) rfl (off69 c 7) ?_
  refine out_load m fun _ => ?_
  refine out_store m 7 rfl (off70 c 7) (OUT_peer m c 7 (by decide)) ?_
  refine wait_step m 3 (by decide) (above_zero 3) 8 (by decide) rfl (fam_sem _ 3 8 rfl rfl) (by rfl) ?_
  refine gat_load m 8 (by decide) rfl (off69 c 8) ?_
  exact ret_pure rfl

theorem part49 (c : Dev nD)  (v2 : BitVec 32) (v974 : BitVec 32) (v986 : BitVec 32) (v1404 : BitVec 32) {R : sProp 𝕄} : iprop(Env m ∗ Ow c 0 ∗ WtF m c 3 9 ∗ OutSt m c 8 ∗ R) ⊢ WP c ((app (k0_part49 (F := F))) c v2 v974 v986 v1404 (k0_pay61 (sl1 ((c : Fin 32) - 8) (AG m)))) (fun r => iprop(⌜True⌝ ∗ Env m ∗ Ow c 0 ∗ WtF m c 3 10 ∗ OutSt m c 10 ∗ R)) := by
  rw [k0_part49_eq_skeleton]; unfold k0_part49_skel app; beta_reduce
  refine out_load m fun _ => ?_
  refine out_store m 8 rfl (off70 c 8) (OUT_peer m c 8 (by decide)) ?_
  refine wait_step m 3 (by decide) (above_zero 3) 9 (by decide) rfl (fam_sem _ 3 9 rfl rfl) (by rfl) ?_
  refine gat_load m 9 (by decide) rfl (off69 c 9) ?_
  refine out_load m fun _ => ?_
  refine out_store m 9 rfl (off70 c 9) (OUT_peer m c 9 (by decide)) ?_
  exact ret_pure trivial

theorem part50 (c : Dev nD)  (v2 : BitVec 32) (v998 : BitVec 32) {R : sProp 𝕄} : iprop(Env m ∗ Ow c 0 ∗ WtF m c 3 10 ∗ OutSt m c 10 ∗ R) ⊢ WP c ((app (k0_part50 (F := F))) c v2 v998) (fun r => iprop(⌜r = k0_pay65 (sl1 ((c : Fin 32) - 11) (AG m))⌝ ∗ Env m ∗ Ow c 0 ∗ WtF m c 3 12 ∗ OutSt m c 11 ∗ R)) := by
  rw [k0_part50_eq_skeleton]; unfold k0_part50_skel app; beta_reduce
  refine wait_step m 3 (by decide) (above_zero 3) 10 (by decide) rfl (fam_sem _ 3 10 rfl rfl) (by rfl) ?_
  refine gat_load m 10 (by decide) rfl (off69 c 10) ?_
  refine out_load m fun _ => ?_
  refine out_store m 10 rfl (off70 c 10) (OUT_peer m c 10 (by decide)) ?_
  refine wait_step m 3 (by decide) (above_zero 3) 11 (by decide) rfl (fam_sem _ 3 11 rfl rfl) (by rfl) ?_
  refine gat_load m 11 (by decide) rfl (off69 c 11) ?_
  exact ret_pure rfl

theorem part51 (c : Dev nD)  (v2 : BitVec 32) (v1010 : BitVec 32) (v1022 : BitVec 32) {R : sProp 𝕄} : iprop(Env m ∗ Ow c 0 ∗ WtF m c 3 12 ∗ OutSt m c 11 ∗ R) ⊢ WP c ((app (k0_part51 (F := F))) c v2 v1010 v1022 (k0_pay65 (sl1 ((c : Fin 32) - 11) (AG m)))) (fun r => iprop(⌜True⌝ ∗ Env m ∗ Ow c 0 ∗ WtF m c 3 14 ∗ OutSt m c 13 ∗ R)) := by
  rw [k0_part51_eq_skeleton]; unfold k0_part51_skel app; beta_reduce
  refine out_load m fun _ => ?_
  refine out_store m 11 rfl (off70 c 11) (OUT_peer m c 11 (by decide)) ?_
  refine wait_step m 3 (by decide) (above_zero 3) 12 (by decide) rfl (fam_sem _ 3 12 rfl rfl) (by rfl) ?_
  refine gat_load m 12 (by decide) rfl (off69 c 12) ?_
  refine out_load m fun _ => ?_
  refine out_store m 12 rfl (off70 c 12) (OUT_peer m c 12 (by decide)) ?_
  refine wait_step m 3 (by decide) (above_zero 3) 13 (by decide) rfl (fam_sem _ 3 13 rfl rfl) (by rfl) ?_
  exact ret_pure trivial

theorem part52 (c : Dev nD)  (v2 : BitVec 32) (v1034 : BitVec 32) (c13_i32_1308 : BitVec 32) {R : sProp 𝕄} : iprop(Env m ∗ Ow c 0 ∗ WtF m c 3 14 ∗ OutSt m c 13 ∗ R) ⊢ WP c ((app (k0_part52 (F := F))) c v2 v1034 c13_i32_1308) (fun r => iprop(⌜True⌝ ∗ Env m ∗ Ow c 0 ∗ WtF m c 3 15 ∗ OutSt m c 15 ∗ R)) := by
  rw [k0_part52_eq_skeleton]; unfold k0_part52_skel app; beta_reduce
  refine gat_load m 13 (by decide) rfl (off69 c 13) ?_
  refine out_load m fun _ => ?_
  refine out_store m 13 rfl (off70 c 13) (OUT_peer m c 13 (by decide)) ?_
  refine wait_step m 3 (by decide) (above_zero 3) 14 (by decide) rfl (fam_sem _ 3 14 rfl rfl) (by rfl) ?_
  refine gat_load m 14 (by decide) rfl (off69 c 14) ?_
  refine out_load m fun _ => ?_
  refine out_store m 14 rfl (off70 c 14) (OUT_peer m c 14 (by decide)) ?_
  exact ret_pure trivial

theorem part53 (c : Dev nD)  (v2 : BitVec 32) (v1046 : BitVec 32) (v1058 : BitVec 32) {R : sProp 𝕄} : iprop(Env m ∗ Ow c 0 ∗ WtF m c 3 15 ∗ OutSt m c 15 ∗ R) ⊢ WP c ((app (k0_part53 (F := F))) c v2 v1046 v1058) (fun r => iprop(⌜True⌝ ∗ Env m ∗ Ow c 0 ∗ WtF m c 3 17 ∗ OutSt m c 16 ∗ R)) := by
  rw [k0_part53_eq_skeleton]; unfold k0_part53_skel app; beta_reduce
  refine wait_step m 3 (by decide) (above_zero 3) 15 (by decide) rfl (fam_sem _ 3 15 rfl rfl) (by rfl) ?_
  refine gat_load m 15 (by decide) rfl (off69 c 15) ?_
  refine out_load m fun _ => ?_
  refine out_store m 15 rfl (off70 c 15) (OUT_peer m c 15 (by decide)) ?_
  refine wait_step m 3 (by decide) (above_zero 3) 16 (by decide) rfl (fam_sem _ 3 16 rfl rfl) (by rfl) ?_
  exact ret_pure trivial

theorem part54 (c : Dev nD)  (v2 : BitVec 32) (v1070 : BitVec 32) (v1082 : BitVec 32) (v1564 : BitVec 32) {R : sProp 𝕄} : iprop(Env m ∗ Ow c 0 ∗ WtF m c 3 17 ∗ OutSt m c 16 ∗ R) ⊢ WP c ((app (k0_part54 (F := F))) c v2 v1070 v1082 v1564) (fun r => iprop(⌜True⌝ ∗ Env m ∗ Ow c 0 ∗ WtF m c 3 18 ∗ OutSt m c 18 ∗ R)) := by
  rw [k0_part54_eq_skeleton]; unfold k0_part54_skel app; beta_reduce
  refine gat_load m 16 (by decide) rfl (off69 c 16) ?_
  refine out_load m fun _ => ?_
  refine out_store m 16 rfl (off70 c 16) (OUT_peer m c 16 (by decide)) ?_
  refine wait_step m 3 (by decide) (above_zero 3) 17 (by decide) rfl (fam_sem _ 3 17 rfl rfl) (by rfl) ?_
  refine gat_load m 17 (by decide) rfl (off69 c 17) ?_
  refine out_load m fun _ => ?_
  refine out_store m 17 rfl (off70 c 17) (OUT_peer m c 17 (by decide)) ?_
  exact ret_pure trivial

theorem part55 (c : Dev nD)  (v2 : BitVec 32) (v1094 : BitVec 32) {R : sProp 𝕄} : iprop(Env m ∗ Ow c 0 ∗ WtF m c 3 18 ∗ OutSt m c 18 ∗ R) ⊢ WP c ((app (k0_part55 (F := F))) c v2 v1094) (fun r => iprop(⌜r.2.1 = k0_pay74 (sl1 ((c : Fin 32) - 19) (AG m))⌝ ∗ Env m ∗ Ow c 0 ∗ WtF m c 3 20 ∗ OutSt m c 19 ∗ R)) := by
  rw [k0_part55_eq_skeleton]; unfold k0_part55_skel app; beta_reduce
  refine wait_step m 3 (by decide) (above_zero 3) 18 (by decide) rfl (fam_sem _ 3 18 rfl rfl) (by rfl) ?_
  refine gat_load m 18 (by decide) rfl (off69 c 18) ?_
  refine out_load m fun _ => ?_
  refine out_store m 18 rfl (off70 c 18) (OUT_peer m c 18 (by decide)) ?_
  refine wait_step m 3 (by decide) (above_zero 3) 19 (by decide) rfl (fam_sem _ 3 19 rfl rfl) (by rfl) ?_
  refine gat_load m 19 (by decide) rfl (off69 c 19) ?_
  exact ret_pure rfl

theorem part56 (c : Dev nD)  (v2 : BitVec 32) (v1106 : BitVec 32) (v1118 : BitVec 32) (v1624 : BitVec 32) (c8_i32_1409 : BitVec 32) {R : sProp 𝕄} : iprop(Env m ∗ Ow c 0 ∗ WtF m c 3 20 ∗ OutSt m c 19 ∗ R) ⊢ WP c ((app (k0_part56 (F := F))) c v2 v1106 v1118 v1624 (k0_pay74 (sl1 ((c : Fin 32) - 19) (AG m))) c8_i32_1409) (fun r => iprop(⌜True⌝ ∗ Env m ∗ Ow c 0 ∗ WtF m c 3 21 ∗ OutSt m c 21 ∗ R)) := by
  rw [k0_part56_eq_skeleton]; unfold k0_part56_skel app; beta_reduce
  refine out_load m fun _ => ?_
  refine out_store m 19 rfl (off70 c 19) (OUT_peer m c 19 (by decide)) ?_
  refine wait_step m 3 (by decide) (above_zero 3) 20 (by decide) rfl (fam_sem _ 3 20 rfl rfl) (by rfl) ?_
  refine gat_load m 20 (by decide) rfl (off69 c 20) ?_
  refine out_load m fun _ => ?_
  refine out_store m 20 rfl (off70 c 20) (OUT_peer m c 20 (by decide)) ?_
  exact ret_pure trivial

theorem part57 (c : Dev nD)  (v2 : BitVec 32) (v1130 : BitVec 32) {R : sProp 𝕄} : iprop(Env m ∗ Ow c 0 ∗ WtF m c 3 21 ∗ OutSt m c 21 ∗ R) ⊢ WP c ((app (k0_part57 (F := F))) c v2 v1130) (fun r => iprop(⌜r = k0_pay78 (sl1 ((c : Fin 32) - 22) (AG m))⌝ ∗ Env m ∗ Ow c 0 ∗ WtF m c 3 23 ∗ OutSt m c 22 ∗ R)) := by
  rw [k0_part57_eq_skeleton]; unfold k0_part57_skel app; beta_reduce
  refine wait_step m 3 (by decide) (above_zero 3) 21 (by decide) rfl (fam_sem _ 3 21 rfl rfl) (by rfl) ?_
  refine gat_load m 21 (by decide) rfl (off69 c 21) ?_
  refine out_load m fun _ => ?_
  refine out_store m 21 rfl (off70 c 21) (OUT_peer m c 21 (by decide)) ?_
  refine wait_step m 3 (by decide) (above_zero 3) 22 (by decide) rfl (fam_sem _ 3 22 rfl rfl) (by rfl) ?_
  refine gat_load m 22 (by decide) rfl (off69 c 22) ?_
  refine out_load m fun _ => ?_
  exact ret_pure rfl

theorem part58 (c : Dev nD)  (v2 : BitVec 32) (v1142 : BitVec 32) (v1154 : BitVec 32) {R : sProp 𝕄} : iprop(Env m ∗ Ow c 0 ∗ WtF m c 3 23 ∗ OutSt m c 22 ∗ R) ⊢ WP c ((app (k0_part58 (F := F))) c v2 v1142 v1154 (k0_pay78 (sl1 ((c : Fin 32) - 22) (AG m)))) (fun r => iprop(⌜True⌝ ∗ Env m ∗ Ow c 0 ∗ WtF m c 3 25 ∗ OutSt m c 24 ∗ R)) := by
  rw [k0_part58_eq_skeleton]; unfold k0_part58_skel app; beta_reduce
  refine out_store m 22 rfl (off70 c 22) (OUT_peer m c 22 (by decide)) ?_
  refine wait_step m 3 (by decide) (above_zero 3) 23 (by decide) rfl (fam_sem _ 3 23 rfl rfl) (by rfl) ?_
  refine gat_load m 23 (by decide) rfl (off69 c 23) ?_
  refine out_load m fun _ => ?_
  refine out_store m 23 rfl (off70 c 23) (OUT_peer m c 23 (by decide)) ?_
  refine wait_step m 3 (by decide) (above_zero 3) 24 (by decide) rfl (fam_sem _ 3 24 rfl rfl) (by rfl) ?_
  exact ret_pure trivial

theorem part59 (c : Dev nD)  (v2 : BitVec 32) (v1166 : BitVec 32) (v1178 : BitVec 32) (v1722 : BitVec 32) (c32_i32_1485 : BitVec 32) {R : sProp 𝕄} : iprop(Env m ∗ Ow c 0 ∗ WtF m c 3 25 ∗ OutSt m c 24 ∗ R) ⊢ WP c ((app (k0_part59 (F := F))) c v2 v1166 v1178 v1722 c32_i32_1485) (fun r => iprop(⌜True⌝ ∗ Env m ∗ Ow c 0 ∗ WtF m c 3 26 ∗ OutSt m c 26 ∗ R)) := by
  rw [k0_part59_eq_skeleton]; unfold k0_part59_skel app; beta_reduce
  refine gat_load m 24 (by decide) rfl (off69 c 24) ?_
  refine out_load m fun _ => ?_
  refine out_store m 24 rfl (off70 c 24) (OUT_peer m c 24 (by decide)) ?_
  refine wait_step m 3 (by decide) (above_zero 3) 25 (by decide) rfl (fam_sem _ 3 25 rfl rfl) (by rfl) ?_
  refine gat_load m 25 (by decide) rfl (off69 c 25) ?_
  refine out_load m fun _ => ?_
  refine out_store m 25 rfl (off70 c 25) (OUT_peer m c 25 (by decide)) ?_
  exact ret_pure trivial

theorem part60 (c : Dev nD)  (v2 : BitVec 32) (v1190 : BitVec 32) (v1754 : BitVec 32) {R : sProp 𝕄} : iprop(Env m ∗ Ow c 0 ∗ WtF m c 3 26 ∗ OutSt m c 26 ∗ R) ⊢ WP c ((app (k0_part60 (F := F))) c v2 v1190 v1754) (fun r => iprop(⌜True⌝ ∗ Env m ∗ Ow c 0 ∗ WtF m c 3 28 ∗ OutSt m c 27 ∗ R)) := by
  rw [k0_part60_eq_skeleton]; unfold k0_part60_skel app; beta_reduce
  refine wait_step m 3 (by decide) (above_zero 3) 26 (by decide) rfl (fam_sem _ 3 26 rfl rfl) (by rfl) ?_
  refine gat_load m 26 (by decide) rfl (off69 c 26) ?_
  refine out_load m fun _ => ?_
  refine out_store m 26 rfl (off70 c 26) (OUT_peer m c 26 (by decide)) ?_
  refine wait_step m 3 (by decide) (above_zero 3) 27 (by decide) rfl (fam_sem _ 3 27 rfl rfl) (by rfl) ?_
  exact ret_pure trivial

theorem part61 (c : Dev nD)  (v2 : BitVec 32) (v1202 : BitVec 32) (v1214 : BitVec 32) (v1784 : BitVec 32) {R : sProp 𝕄} : iprop(Env m ∗ Ow c 0 ∗ WtF m c 3 28 ∗ OutSt m c 27 ∗ R) ⊢ WP c ((app (k0_part61 (F := F))) c v2 v1202 v1214 v1784) (fun r => iprop(⌜True⌝ ∗ Env m ∗ Ow c 0 ∗ WtF m c 3 29 ∗ OutSt m c 29 ∗ R)) := by
  rw [k0_part61_eq_skeleton]; unfold k0_part61_skel app; beta_reduce
  refine gat_load m 27 (by decide) rfl (off69 c 27) ?_
  refine out_load m fun _ => ?_
  refine out_store m 27 rfl (off70 c 27) (OUT_peer m c 27 (by decide)) ?_
  refine wait_step m 3 (by decide) (above_zero 3) 28 (by decide) rfl (fam_sem _ 3 28 rfl rfl) (by rfl) ?_
  refine gat_load m 28 (by decide) rfl (off69 c 28) ?_
  refine out_load m fun _ => ?_
  refine out_store m 28 rfl (off70 c 28) (OUT_peer m c 28 (by decide)) ?_
  exact ret_pure trivial

theorem part62 (c : Dev nD)  (v2 : BitVec 32) (v1226 : BitVec 32) {R : sProp 𝕄} : iprop(Env m ∗ Ow c 0 ∗ WtF m c 3 29 ∗ OutSt m c 29 ∗ R) ⊢ WP c ((app (k0_part62 (F := F))) c v2 v1226) (fun r => iprop(⌜r.1 = k0_pay87 (sl1 ((c : Fin 32) - 30) (AG m))⌝ ∗ Env m ∗ Ow c 0 ∗ WtF m c 3 31 ∗ OutSt m c 30 ∗ R)) := by
  rw [k0_part62_eq_skeleton]; unfold k0_part62_skel app; beta_reduce
  refine wait_step m 3 (by decide) (above_zero 3) 29 (by decide) rfl (fam_sem _ 3 29 rfl rfl) (by rfl) ?_
  refine gat_load m 29 (by decide) rfl (off69 c 29) ?_
  refine out_load m fun _ => ?_
  refine out_store m 29 rfl (off70 c 29) (OUT_peer m c 29 (by decide)) ?_
  refine wait_step m 3 (by decide) (above_zero 3) 30 (by decide) rfl (fam_sem _ 3 30 rfl rfl) (by rfl) ?_
  refine gat_load m 30 (by decide) rfl (off69 c 30) ?_
  exact ret_pure rfl

theorem part63 (c : Dev nD)  (v2 : BitVec 32) (v1238 : BitVec 32) (v1849 : BitVec 32) {R : sProp 𝕄} : iprop(Env m ∗ Ow c 0 ∗ WtF m c 3 31 ∗ OutSt m c 30 ∗ WtF m c 0 1 ∗ R) ⊢ WP c ((app (k0_part63 (F := F))) c v2 v1238 (k0_pay87 (sl1 ((c : Fin 32) - 30) (AG m))) v1849) (fun r => iprop(⌜True⌝ ∗ Env m ∗ Ow c 0 ∗ WtF m c 3 32 ∗ OutSt m c 32 ∗ WtF m c 0 2 ∗ R)) := by
  rw [k0_part63_eq_skeleton]; unfold k0_part63_skel app; beta_reduce
  refine out_load m fun _ => ?_
  refine out_store m 30 rfl (off70 c 30) (OUT_peer m c 30 (by decide)) ?_
  refine wait_step m 3 (by decide) (above_zero 3) 31 (by decide) rfl (fam_sem _ 3 31 rfl rfl) (by rfl) ?_
  refine gat_load m 31 (by decide) rfl (off69 c 31) ?_
  refine out_load m fun _ => ?_
  refine out_store m 31 rfl (off70 c 31) (OUT_peer m c 31 (by decide)) ?_
  refine wait_step' m 0 (by decide) (above_zero 0) 1 (by decide) rfl (fam_sem _ 0 1 rfl rfl) (by rfl) ?_
  exact ret_pure trivial

end Cert.KernelIdeal.Pf
-- ==== Proof.KernelIdeal.PartsG.lean ====
/-
Waiting for the own sends, part by part.
-/
module

public import proofs.«01_k».proof.Proof.KernelIdeal.Waits

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.remsi Scalar.divsi Scalar.subi Scalar.addi Scalar.muli Scalar.cmpi Scalar.extui

theorem part64 (c : Dev nD) {R : sProp 𝕄} : iprop(Env m ∗ Ow c 0 ∗ WtF m c 0 2 ∗ R) ⊢ WP c ((app (k0_part64 (F := F)))) (fun r => iprop(⌜True⌝ ∗ Env m ∗ Ow c 0 ∗ WtF m c 0 5 ∗ R)) := by
  rw [k0_part64_eq_skeleton]; unfold k0_part64_skel app; beta_reduce
  refine wait_step m 0 (by decide) (above_zero 0) 2 (by decide) rfl (fam_sem _ 0 2 rfl rfl) (by rfl) ?_
  refine wait_step m 0 (by decide) (above_zero 0) 3 (by decide) rfl (fam_sem _ 0 3 rfl rfl) (by rfl) ?_
  refine wait_step m 0 (by decide) (above_zero 0) 4 (by decide) rfl (fam_sem _ 0 4 rfl rfl) (by rfl) ?_
  exact ret_pure trivial

theorem part65 (c : Dev nD) {R : sProp 𝕄} : iprop(Env m ∗ Ow c 0 ∗ WtF m c 0 5 ∗ R) ⊢ WP c ((app (k0_part65 (F := F)))) (fun r => iprop(⌜True⌝ ∗ Env m ∗ Ow c 0 ∗ WtF m c 0 9 ∗ R)) := by
  rw [k0_part65_eq_skeleton]; unfold k0_part65_skel app; beta_reduce
  refine wait_step m 0 (by decide) (above_zero 0) 5 (by decide) rfl (fam_sem _ 0 5 rfl rfl) (by rfl) ?_
  refine wait_step m 0 (by decide) (above_zero 0) 6 (by decide) rfl (fam_sem _ 0 6 rfl rfl) (by rfl) ?_
  refine wait_step m 0 (by decide) (above_zero 0) 7 (by decide) rfl (fam_sem _ 0 7 rfl rfl) (by rfl) ?_
  refine wait_step m 0 (by decide) (above_zero 0) 8 (by decide) rfl (fam_sem _ 0 8 rfl rfl) (by rfl) ?_
  exact ret_pure trivial

theorem part66 (c : Dev nD) {R : sProp 𝕄} : iprop(Env m ∗ Ow c 0 ∗ WtF m c 0 9 ∗ R) ⊢ WP c ((app (k0_part66 (F := F)))) (fun r => iprop(⌜True⌝ ∗ Env m ∗ Ow c 0 ∗ WtF m c 0 13 ∗ R)) := by
  rw [k0_part66_eq_skeleton]; unfold k0_part66_skel app; beta_reduce
  refine wait_step m 0 (by decide) (above_zero 0) 9 (by decide) rfl (fam_sem _ 0 9 rfl rfl) (by rfl) ?_
  refine wait_step m 0 (by decide) (above_zero 0) 10 (by decide) rfl (fam_sem _ 0 10 rfl rfl) (by rfl) ?_
  refine wait_step m 0 (by decide) (above_zero 0) 11 (by decide) rfl (fam_sem _ 0 11 rfl rfl) (by rfl) ?_
  refine wait_step m 0 (by decide) (above_zero 0) 12 (by decide) rfl (fam_sem _ 0 12 rfl rfl) (by rfl) ?_
  exact ret_pure trivial

theorem part67 (c : Dev nD) {R : sProp 𝕄} : iprop(Env m ∗ Ow c 0 ∗ WtF m c 0 13 ∗ R) ⊢ WP c ((app (k0_part67 (F := F)))) (fun r => iprop(⌜True⌝ ∗ Env m ∗ Ow c 0 ∗ WtF m c 0 17 ∗ R)) := by
  rw [k0_part67_eq_skeleton]; unfold k0_part67_skel app; beta_reduce
  refine wait_step m 0 (by decide) (above_zero 0) 13 (by decide) rfl (fam_sem _ 0 13 rfl rfl) (by rfl) ?_
  refine wait_step m 0 (by decide) (above_zero 0) 14 (by decide) rfl (fam_sem _ 0 14 rfl rfl) (by rfl) ?_
  refine wait_step m 0 (by decide) (above_zero 0) 15 (by decide) rfl (fam_sem _ 0 15 rfl rfl) (by rfl) ?_
  refine wait_step m 0 (by decide) (above_zero 0) 16 (by decide) rfl (fam_sem _ 0 16 rfl rfl) (by rfl) ?_
  exact ret_pure trivial

theorem part68 (c : Dev nD) {R : sProp 𝕄} : iprop(Env m ∗ Ow c 0 ∗ WtF m c 0 17 ∗ R) ⊢ WP c ((app (k0_part68 (F := F)))) (fun r => iprop(⌜True⌝ ∗ Env m ∗ Ow c 0 ∗ WtF m c 0 20 ∗ R)) := by
  rw [k0_part68_eq_skeleton]; unfold k0_part68_skel app; beta_reduce
  refine wait_step m 0 (by decide) (above_zero 0) 17 (by decide) rfl (fam_sem _ 0 17 rfl rfl) (by rfl) ?_
  refine wait_step m 0 (by decide) (above_zero 0) 18 (by decide) rfl (fam_sem _ 0 18 rfl rfl) (by rfl) ?_
  refine wait_step m 0 (by decide) (above_zero 0) 19 (by decide) rfl (fam_sem _ 0 19 rfl rfl) (by rfl) ?_
  exact ret_pure trivial

theorem part69 (c : Dev nD) {R : sProp 𝕄} : iprop(Env m ∗ Ow c 0 ∗ WtF m c 0 20 ∗ R) ⊢ WP c ((app (k0_part69 (F := F)))) (fun r => iprop(⌜True⌝ ∗ Env m ∗ Ow c 0 ∗ WtF m c 0 24 ∗ R)) := by
  rw [k0_part69_eq_skeleton]; unfold k0_part69_skel app; beta_reduce
  refine wait_step m 0 (by decide) (above_zero 0) 20 (by decide) rfl (fam_sem _ 0 20 rfl rfl) (by rfl) ?_
  refine wait_step m 0 (by decide) (above_zero 0) 21 (by decide) rfl (fam_sem _ 0 21 rfl rfl) (by rfl) ?_
  refine wait_step m 0 (by decide) (above_zero 0) 22 (by decide) rfl (fam_sem _ 0 22 rfl rfl) (by rfl) ?_
  refine wait_step m 0 (by decide) (above_zero 0) 23 (by decide) rfl (fam_sem _ 0 23 rfl rfl) (by rfl) ?_
  exact ret_pure trivial

theorem part70 (c : Dev nD) {R : sProp 𝕄} : iprop(Env m ∗ Ow c 0 ∗ WtF m c 0 24 ∗ R) ⊢ WP c ((app (k0_part70 (F := F)))) (fun r => iprop(⌜True⌝ ∗ Env m ∗ Ow c 0 ∗ WtF m c 0 28 ∗ R)) := by
  rw [k0_part70_eq_skeleton]; unfold k0_part70_skel app; beta_reduce
  refine wait_step m 0 (by decide) (above_zero 0) 24 (by decide) rfl (fam_sem _ 0 24 rfl rfl) (by rfl) ?_
  refine wait_step m 0 (by decide) (above_zero 0) 25 (by decide) rfl (fam_sem _ 0 25 rfl rfl) (by rfl) ?_
  refine wait_step m 0 (by decide) (above_zero 0) 26 (by decide) rfl (fam_sem _ 0 26 rfl rfl) (by rfl) ?_
  refine wait_step m 0 (by decide) (above_zero 0) 27 (by decide) rfl (fam_sem _ 0 27 rfl rfl) (by rfl) ?_
  exact ret_pure trivial

theorem part71 (c : Dev nD) {R : sProp 𝕄} : iprop(Env m ∗ Ow c 0 ∗ WtF m c 0 28 ∗ R) ⊢ WP c ((app (k0_part71 (F := F)))) (fun r => iprop(⌜True⌝ ∗ Env m ∗ Ow c 0 ∗ WtF m c 0 32 ∗ R)) := by
  rw [k0_part71_eq_skeleton]; unfold k0_part71_skel app; beta_reduce
  refine wait_step m 0 (by decide) (above_zero 0) 28 (by decide) rfl (fam_sem _ 0 28 rfl rfl) (by rfl) ?_
  refine wait_step m 0 (by decide) (above_zero 0) 29 (by decide) rfl (fam_sem _ 0 29 rfl rfl) (by rfl) ?_
  refine wait_step m 0 (by decide) (above_zero 0) 30 (by decide) rfl (fam_sem _ 0 30 rfl rfl) (by rfl) ?_
  refine wait_step m 0 (by decide) (above_zero 0) 31 (by decide) rfl (fam_sem _ 0 31 rfl rfl) (by rfl) ?_
  exact ret_pure trivial

theorem part72 (c : Dev nD) {R : sProp 𝕄} : iprop(Env m ∗ Ow c 0 ∗ WtF m c 2 1 ∗ R) ⊢ WP c ((app (k0_part72 (F := F))) c) (fun r => iprop(⌜True⌝ ∗ Env m ∗ Ow c 0 ∗ WtF m c 2 5 ∗ R)) := by
  rw [k0_part72_eq_skeleton]; unfold k0_part72_skel app; beta_reduce
  refine wait_step m 0 (by decide) (above_zero 0) 1 (by decide) rfl (fam_sem _ 2 1 rfl rfl) (by rfl) ?_
  refine wait_step m 0 (by decide) (above_zero 0) 2 (by decide) rfl (fam_sem _ 2 2 rfl rfl) (by rfl) ?_
  refine wait_step m 0 (by decide) (above_zero 0) 3 (by decide) rfl (fam_sem _ 2 3 rfl rfl) (by rfl) ?_
  refine wait_step m 0 (by decide) (above_zero 0) 4 (by decide) rfl (fam_sem _ 2 4 rfl rfl) (by rfl) ?_
  exact ret_pure trivial

theorem part73 (c : Dev nD) {R : sProp 𝕄} : iprop(Env m ∗ Ow c 0 ∗ WtF m c 2 5 ∗ R) ⊢ WP c ((app (k0_part73 (F := F))) c) (fun r => iprop(⌜True⌝ ∗ Env m ∗ Ow c 0 ∗ WtF m c 2 9 ∗ R)) := by
  rw [k0_part73_eq_skeleton]; unfold k0_part73_skel app; beta_reduce
  refine wait_step m 0 (by decide) (above_zero 0) 5 (by decide) rfl (fam_sem _ 2 5 rfl rfl) (by rfl) ?_
  refine wait_step m 0 (by decide) (above_zero 0) 6 (by decide) rfl (fam_sem _ 2 6 rfl rfl) (by rfl) ?_
  refine wait_step m 0 (by decide) (above_zero 0) 7 (by decide) rfl (fam_sem _ 2 7 rfl rfl) (by rfl) ?_
  refine wait_step m 0 (by decide) (above_zero 0) 8 (by decide) rfl (fam_sem _ 2 8 rfl rfl) (by rfl) ?_
  exact ret_pure trivial

theorem part74 (c : Dev nD) {R : sProp 𝕄} : iprop(Env m ∗ Ow c 0 ∗ WtF m c 2 9 ∗ R) ⊢ WP c ((app (k0_part74 (F := F))) c) (fun r => iprop(⌜True⌝ ∗ Env m ∗ Ow c 0 ∗ WtF m c 2 13 ∗ R)) := by
  rw [k0_part74_eq_skeleton]; unfold k0_part74_skel app; beta_reduce
  refine wait_step m 0 (by decide) (above_zero 0) 9 (by decide) rfl (fam_sem _ 2 9 rfl rfl) (by rfl) ?_
  refine wait_step m 0 (by decide) (above_zero 0) 10 (by decide) rfl (fam_sem _ 2 10 rfl rfl) (by rfl) ?_
  refine wait_step m 0 (by decide) (above_zero 0) 11 (by decide) rfl (fam_sem _ 2 11 rfl rfl) (by rfl) ?_
  refine wait_step m 0 (by decide) (above_zero 0) 12 (by decide) rfl (fam_sem _ 2 12 rfl rfl) (by rfl) ?_
  exact ret_pure trivial

theorem part75 (c : Dev nD) {R : sProp 𝕄} : iprop(Env m ∗ Ow c 0 ∗ WtF m c 2 13 ∗ R) ⊢ WP c ((app (k0_part75 (F := F))) c) (fun r => iprop(⌜True⌝ ∗ Env m ∗ Ow c 0 ∗ WtF m c 2 18 ∗ R)) := by
  rw [k0_part75_eq_skeleton]; unfold k0_part75_skel app; beta_reduce
  refine wait_step m 0 (by decide) (above_zero 0) 13 (by decide) rfl (fam_sem _ 2 13 rfl rfl) (by rfl) ?_
  refine wait_step m 0 (by decide) (above_zero 0) 14 (by decide) rfl (fam_sem _ 2 14 rfl rfl) (by rfl) ?_
  refine wait_step m 0 (by decide) (above_zero 0) 15 (by decide) rfl (fam_sem _ 2 15 rfl rfl) (by rfl) ?_
  refine wait_step m 0 (by decide) (above_zero 0) 16 (by decide) rfl (fam_sem _ 2 16 rfl rfl) (by rfl) ?_
  refine wait_step m 0 (by decide) (above_zero 0) 17 (by decide) rfl (fam_sem _ 2 17 rfl rfl) (by rfl) ?_
  exact ret_pure trivial

theorem part76 (c : Dev nD) {R : sProp 𝕄} : iprop(Env m ∗ Ow c 0 ∗ WtF m c 2 18 ∗ R) ⊢ WP c ((app (k0_part76 (F := F))) c) (fun r => iprop(⌜True⌝ ∗ Env m ∗ Ow c 0 ∗ WtF m c 2 22 ∗ R)) := by
  rw [k0_part76_eq_skeleton]; unfold k0_part76_skel app; beta_reduce
  refine wait_step m 0 (by decide) (above_zero 0) 18 (by decide) rfl (fam_sem _ 2 18 rfl rfl) (by rfl) ?_
  refine wait_step m 0 (by decide) (above_zero 0) 19 (by decide) rfl (fam_sem _ 2 19 rfl rfl) (by rfl) ?_
  refine wait_step m 0 (by decide) (above_zero 0) 20 (by decide) rfl (fam_sem _ 2 20 rfl rfl) (by rfl) ?_
  refine wait_step m 0 (by decide) (above_zero 0) 21 (by decide) rfl (fam_sem _ 2 21 rfl rfl) (by rfl) ?_
  exact ret_pure trivial

theorem part77 (c : Dev nD) {R : sProp 𝕄} : iprop(Env m ∗ Ow c 0 ∗ WtF m c 2 22 ∗ R) ⊢ WP c ((app (k0_part77 (F := F))) c) (fun r => iprop(⌜True⌝ ∗ Env m ∗ Ow c 0 ∗ WtF m c 2 26 ∗ R)) := by
  rw [k0_part77_eq_skeleton]; unfold k0_part77_skel app; beta_reduce
  refine wait_step m 0 (by decide) (above_zero 0) 22 (by decide) rfl (fam_sem _ 2 22 rfl rfl) (by rfl) ?_
  refine wait_step m 0 (by decide) (above_zero 0) 23 (by decide) rfl (fam_sem _ 2 23 rfl rfl) (by rfl) ?_
  refine wait_step m 0 (by decide) (above_zero 0) 24 (by decide) rfl (fam_sem _ 2 24 rfl rfl) (by rfl) ?_
  refine wait_step m 0 (by decide) (above_zero 0) 25 (by decide) rfl (fam_sem _ 2 25 rfl rfl) (by rfl) ?_
  exact ret_pure trivial

theorem part78 (c : Dev nD) {R : sProp 𝕄} : iprop(Env m ∗ Ow c 0 ∗ WtF m c 2 26 ∗ R) ⊢ WP c ((app (k0_part78 (F := F))) c) (fun r => iprop(⌜True⌝ ∗ Env m ∗ Ow c 0 ∗ WtF m c 2 31 ∗ R)) := by
  rw [k0_part78_eq_skeleton]; unfold k0_part78_skel app; beta_reduce
  refine wait_step m 0 (by decide) (above_zero 0) 26 (by decide) rfl (fam_sem _ 2 26 rfl rfl) (by rfl) ?_
  refine wait_step m 0 (by decide) (above_zero 0) 27 (by decide) rfl (fam_sem _ 2 27 rfl rfl) (by rfl) ?_
  refine wait_step m 0 (by decide) (above_zero 0) 28 (by decide) rfl (fam_sem _ 2 28 rfl rfl) (by rfl) ?_
  refine wait_step m 0 (by decide) (above_zero 0) 29 (by decide) rfl (fam_sem _ 2 29 rfl rfl) (by rfl) ?_
  refine wait_step m 0 (by decide) (above_zero 0) 30 (by decide) rfl (fam_sem _ 2 30 rfl rfl) (by rfl) ?_
  exact ret_pure trivial

end Cert.KernelIdeal.Pf
-- ==== Proof.KernelIdeal.Chain.lean ====
/- The device's program from its first statement to its last: the parts one after another, the resources regrouped
   between the stages. -/
module

public import proofs.«01_k».proof.Proof.KernelIdeal.PartsB
public import proofs.«01_k».proof.Proof.KernelIdeal.PartsC
public import proofs.«01_k».proof.Proof.KernelIdeal.PartsD
public import proofs.«01_k».proof.Proof.KernelIdeal.PartsE
public import proofs.«01_k».proof.Proof.KernelIdeal.PartsF
public import proofs.«01_k».proof.Proof.KernelIdeal.PartsG

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.remsi Scalar.divsi Scalar.subi Scalar.addi Scalar.muli Scalar.cmpi Scalar.extui

/-! ## What the device holds between the stages -/

/-- The input blocks. -/
def XW (c : Dev nD) : sProp 𝕄 := iprop(xP m c ∗ wqP m c)

/-- The places of a family's waits before the first of them. -/
def famAt (c : Dev nD) (a : Fin 4) : sProp 𝕄 := bigSep St (fun d => atPos ER (famC c a d) 0 ∅ 0)

/-- What the all-gather starts with besides what the peers hand over. -/
def AgR (c : Dev nD) : sProp 𝕄 :=
  iprop((∃ f, gatP c c fullShare f) ∗ bigSep St (fun d => iprop(dutyTok ER (famC c 2 d) 0 0 ∗ dutyTok ER (famC ((c : Fin 32) + d) 3 d) 0 0)))

/-- The key and value heads that are another device's. -/
def hrest (c : Fin 32) : Finset S1x4096x64x128.Idx := Finset.univ.filter fun x => (x 2).val / 2 ≠ c.val

/-- What no statement touches: the four cells without a step, and the other devices' heads. -/
def Ext (c : Dev nD) : sProp 𝕄 :=
  iprop((atPos ER (famC c 0 0) 0 ∅ 0 ∗ atPos ER (famC c 1 0) 0 ∅ 0 ∗ atPos ER (famC c 2 0) 0 ∅ 0 ∗ atPos ER (famC c 3 0) 0 ∅ 0)
    ∗ (((c : Thread nD τ).loc main_arg3) ↦[hrest c]{fullShare} kA m c) ∗ (((c : Thread nD τ).loc main_arg4) ↦[hrest c]{fullShare} vA m c))

/-- What only the last stages use. -/
def R4 (c : Dev nD) : sProp 𝕄 := iprop(WtF m c 3 1 ∗ famAt c 2 ∗ OutSt m c 0 ∗ Ext m c)

/-- What the stages after the attention use. -/
def R3 (c : Dev nD) : sProp 𝕄 := iprop(WtF m c 1 1 ∗ famAt c 0 ∗ AgR c ∗ R4 m c)

/-- What the product and the barrier's wait start with besides the obligations. -/
def PreBr (c : Dev nD) : sProp 𝕄 :=
  iprop(cred (tallyAt (barC c) () 31) ∗ atPos ER (barC c) 0 ∅ 0 ∗ (∃ f : CB F, ((c : Thread nD τ).loc cc0_scratch4) ↦{fullShare} f) ∗ (∃ f, bufP c 0 f) ∗ rsTok c)

def at5 (c : Dev nD) : sProp 𝕄 := iprop(at0 c (.inl 0) ∗ at0 c (.inl 1) ∗ at0 c (.inl 2) ∗ at0 c (.inl 3) ∗ at0 c (.inl 4))

def R2 (c : Dev nD) : sProp 𝕄 := iprop(at5 c ∗ Col m c 0 ∗ PreBr c ∗ R3 m c)

/-- All that the device starts with. -/
def Start (c : Dev nD) : sProp 𝕄 :=
  iprop(Env m ∗ (cpK m c 0 0 ∗ cpV m c 0 1) ∗ (SigSt c 1 ∗ ((cpK m c 1 2 ∗ cpV m c 1 3 ∗ cpW m c) ∗ ((xP m c ∗ wqP m c) ∗ R2 m c))))

/-- The five fetches waited for. -/
def Done5 (c : Dev nD) : sProp 𝕄 :=
  iprop((at1 c (.inl 0) ∗ locPay m c 0) ∗ (at1 c (.inl 1) ∗ locPay m c 1) ∗ (at1 c (.inl 2) ∗ locPay m c 2) ∗ (at1 c (.inl 3) ∗ locPay m c 3) ∗ (at1 c (.inl 4) ∗ locPay m c 4))

/-- What is at rest since the product. -/
def Still (c : Dev nD) : sProp 𝕄 :=
  iprop(srcP c c (PS m c) ∗ (((c : Thread nD τ).loc cc0_scratch3) ↦{fullShare} AT m c) ∗ atPos ER (barC c) 1 ∅ 0 ∗ Done5 m c ∗ (xP m c ∗ wqP m c))

def R31 (c : Dev nD) : sProp 𝕄 := iprop(WtF m c 0 1 ∗ Still m c ∗ R4 m c)

theorem Ow_end (c : Dev nD) : Ow (F := F) c ((∑ d ∈ St, tG c d) + ∑ d ∈ Pn (kc c) 32, tR c d) = Ow c (∑ d ∈ St, tG c d) := by
  rw [Pn_none (key := kc c) (n := 32) (fun d => ((c : Fin 32) + d).isLt), Finset.sum_empty, add_zero]

theorem Sig_end (c : Dev nD) : SigSt (F := F) c 32 ⊢ Ow c ((∑ d ∈ St, tG c d) + ∑ d ∈ St, tR c d) := by
  unfold SigSt
  rw [Pn_end, Finset.sum_empty, add_zero]
  iintro ⟨H, -⟩; iexact H

theorem WtF_start (c : Dev nD) (a : Fin 4) : iprop(bigSep St (fun d => cred (tallyAt (famC c a d) () NC)) ∗ famAt c a) ⊢ WtF m c a 1 := by
  unfold WtF famAt
  rw [Pn_begin, Dn_begin, bigSep_empty, bs_sep]
  iintro ⟨H1, H2⟩
  iframe; iempintro

theorem re1 (c : Dev nD) {A B C D : sProp 𝕄} : iprop(Env m ∗ A ∗ (B ∗ (C ∗ D))) ⊢ iprop(Env m ∗ B ∗ (C ∗ (A ∗ D))) := by
  iintro ⟨HE, HA, HB, HC, HD⟩; iframe
theorem re6 (c : Dev nD) {B C A X D : sProp 𝕄} : iprop(Env m ∗ B ∗ (C ∗ (A ∗ (X ∗ D)))) ⊢ iprop(Env m ∗ B ∗ (X ∗ (C ∗ A ∗ D))) := by
  iintro ⟨HE, HB, HC, HA, HX, HD⟩; iframe

theorem re7 (c : Dev nD) : iprop(Env m ∗ SigSt c 32 ∗ ((xP m c ∗ wqP m c) ∗ ((crd c 2 ∗ crd c 3 ∗ crd c 4) ∗ (crd c 0 ∗ crd c 1) ∗ R2 m c)))
    ⊢ iprop(Env m ∗ (Ow c ((∑ d ∈ St, tG c d) + ∑ d ∈ St, tR c d) ∗ crd c 0 ∗ at0 c (.inl 0) ∗ crd c 1 ∗ at0 c (.inl 1) ∗ crd c 2 ∗ at0 c (.inl 2) ∗ crd c 3 ∗ at0 c (.inl 3))
      ∗ ((crd c 4 ∗ at0 c (.inl 4)) ∗ Col m c 0 ∗ PreBr c ∗ (xP m c ∗ wqP m c) ∗ R3 m c)) := by
  unfold R2 at5
  iintro ⟨HE, HS, HX, ⟨H2, H3, H4⟩, ⟨H0, H1⟩, ⟨A0, A1, A2, A3, A4⟩, HC, HP, HR⟩
  ihave HO := (Sig_end (F := F) c) $$ HS
  iframe

theorem re8 (c : Dev nD) {O : CellTallies nD τ sig Unit} {X P R : sProp 𝕄} :
    iprop(Env m ∗ (Ow c O ∗ at1 c (.inl 0) ∗ locPay m c 0 ∗ at1 c (.inl 1) ∗ locPay m c 1 ∗ at1 c (.inl 2) ∗ locPay m c 2 ∗ at1 c (.inl 3) ∗ locPay m c 3) ∗ ((crd c 4 ∗ at0 c (.inl 4)) ∗ Col m c 0 ∗ P ∗ X ∗ R))
    ⊢ iprop((Env m ∗ Ow c O ∗ locPay m c 1 ∗ locPay m c 3 ∗ crd c 4 ∗ at0 c (.inl 4)) ∗ Col m c 0 ∗ ((at1 c (.inl 0) ∗ locPay m c 0 ∗ at1 c (.inl 1) ∗ at1 c (.inl 2) ∗ locPay m c 2 ∗ at1 c (.inl 3)) ∗ P ∗ X ∗ R)) := by
  iintro ⟨HE, ⟨HO, A0, L0, A1, L1, A2, L2, A3, L3⟩, ⟨H4, A4⟩, HC, HP, HX, HR⟩
  iframe

theorem re9 (c : Dev nD) {O : CellTallies nD τ sig Unit} {X P R : sProp 𝕄} :
    iprop((Env m ∗ Ow c O ∗ locPay m c 1 ∗ locPay m c 3 ∗ locPay m c 4 ∗ at1 c (.inl 4)) ∗ Col m c 1 ∗ ((at1 c (.inl 0) ∗ locPay m c 0 ∗ at1 c (.inl 1) ∗ at1 c (.inl 2) ∗ locPay m c 2 ∗ at1 c (.inl 3)) ∗ P ∗ X ∗ R))
    ⊢ iprop(Env m ∗ Col m c 1 ∗ (Ow c O ∗ P ∗ Done5 m c ∗ X ∗ R)) := by
  unfold Done5
  iintro ⟨⟨HE, HO, L1, L3, L4, A4⟩, HC, ⟨A0, L0, A1, A2, L2, A3⟩, HP, HX, HR⟩
  iframe

theorem re11 (c : Dev nD) {X D R : sProp 𝕄} :
    iprop(Env m ∗ Col m c 7 ∗ (Ow c ((∑ d ∈ St, tG c d) + ∑ d ∈ St, tR c d) ∗ PreBr c ∗ D ∗ X ∗ R)) ⊢ iprop(Env m ∗ Col m c 7 ∗ (PreB c ∗ (D ∗ X ∗ R))) := by
  unfold PreBr PreB
  iintro ⟨HE, HC, HO, ⟨P1, P2, P3, P4, P5⟩, HD, HX, HR⟩
  iframe

theorem re21 (c : Dev nD) :
    iprop(Env m ∗ ChSt m c 32 32 ∗ (PostB m c ∗ (Done5 m c ∗ (xP m c ∗ wqP m c) ∗ R3 m c)))
    ⊢ iprop(Env m ∗ Ow c (∑ d ∈ St, tG c d) ∗ WtF m c 1 1 ∗ (bufP c 0 (RS m c) ∗ ((AgR c ∗ bigSep St (fun d => iprop(∃ f, gatP ((c : Fin 32) + d) c fullShare f))) ∗ R31 m c))) := by
  unfold ChSt PostB R3 R31 Still
  rw [Ow_end, Pn_none (key := kc c) (n := 32) (fun d => ((c : Fin 32) + d).isLt), Dn_all (key := kc c) (n := 32) (fun d => ((c : Fin 32) + d).isLt)]
  iintro ⟨HE, ⟨HO, -, HD, HS, ⟨%f, HB, %hf⟩⟩, ⟨HA, Hb, HG⟩, H5, HX, HW, H0, HAg, H4⟩
  ihave HW0 := (WtF_start m c 0) $$ [HD H0]
  · iframe
  ihave HB := (Entails.of_eq (show bufP c 0 f = bufP c 0 (RS m c) from pointsTo_congr (hf (c : Fin 32).isLt))) $$ HB
  iframe

theorem re31 (c : Dev nD) {R : sProp 𝕄} :
    iprop(Env m ∗ Ow c (∑ d ∈ St, tG c d) ∗ RsDone m c ∗ ((AgR c ∗ bigSep St (fun d => iprop(∃ f, gatP ((c : Fin 32) + d) c fullShare f))) ∗ R))
    ⊢ iprop(Env m ∗ AgPre c ∗ (RsDone m c ∗ R)) := by
  unfold AgR AgPre
  rw [bs_sep St (fun d => iprop(∃ f, gatP ((c : Fin 32) + d) c fullShare f)) (fun d => iprop(dutyTok ER (famC c 2 d) 0 0 ∗ dutyTok ER (famC ((c : Fin 32) + d) 3 d) 0 0))]
  iintro ⟨HE, HO, HR, ⟨⟨HG, HT⟩, Hg⟩, H⟩
  iframe

theorem re43 (c : Dev nD) {R : sProp 𝕄} :
    iprop(Env m ∗ AgSt m c 32 ∗ (R ∗ R31 m c))
    ⊢ iprop(Env m ∗ Ow c 0 ∗ WtF m c 3 1 ∗ OutSt m c 0 ∗ (WtF m c 0 1 ∗ (WtF m c 2 1 ∗ (R ∗ Still m c ∗ Ext m c)))) := by
  unfold AgSt R31 R4
  rw [Pn_end, Dn_end, Finset.sum_empty]
  iintro ⟨HE, ⟨HO, -, HD⟩, HR, HW, HS, H3, H2, HT, HX⟩
  ihave HW2 := (WtF_start m c 2) $$ [HD H2]
  · iframe
  iframe

theorem re63 (c : Dev nD) {O : CellTallies nD τ sig Unit} {A B C D R : sProp 𝕄} :
    iprop(Env m ∗ Ow c O ∗ A ∗ B ∗ C ∗ (D ∗ R)) ⊢ iprop(Env m ∗ Ow c O ∗ C ∗ (D ∗ (A ∗ B ∗ R))) := by
  iintro ⟨HE, HO, HA, HB, HC, HD, HR⟩; iframe
theorem re71 (c : Dev nD) {O : CellTallies nD τ sig Unit} {C D R : sProp 𝕄} :
    iprop(Env m ∗ Ow c O ∗ C ∗ (D ∗ R)) ⊢ iprop(Env m ∗ Ow c O ∗ D ∗ (C ∗ R)) := by
  iintro ⟨HE, HO, HC, HD, HR⟩; iframe

set_option maxRecDepth 65536 in
set_option maxHeartbeats 4000000 in
theorem part79 (c : Dev nD) : Start m c ⊢ WP c (app (k0_part79 (F := F))) (fun r => iprop(⌜r.1 = c⌝ ∗ Env m ∗ Ow c 0 ∗ WtF m c 3 28 ∗ OutSt m c 27 ∗ (WtF m c 0 1 ∗ (WtF m c 2 1 ∗ (RsDone m c ∗ Still m c ∗ Ext m c))))) := by
  rw [k0_part79_eq_skeleton]; unfold k0_part79_skel app; beta_reduce
  unfold Start
  refine then_part _ (part1 m c) fun r h => ?_
  subst h
  refine (re1 m c).trans ?_
  refine then_part _ (part2 m c _) fun r h => ?_
  subst h
  refine then_part _ (part3 m c _) fun _ _ => ?_
  refine then_part _ (part4 m c _) fun _ _ => ?_
  refine then_part _ (part5 m c _) fun _ _ => ?_
  refine then_part _ (part6 m c _) fun _ _ => ?_
  refine (re6 m c).trans ?_
  refine then_part _ (part7 m c _) fun r h => ?_
  subst h
  refine (re7 m c).trans ?_
  refine then_part _ (part8 m c (above_add (above_mono (by omega) (above_G c St)) (above_mono (by omega) (above_R c St)))) fun r h => ?_
  subst h
  refine (re8 m c).trans ?_
  refine then_part _ (part9 m c (above_add (above_mono (by omega) (above_G c St)) (above_mono (by omega) (above_R c St)))) fun r h => ?_
  subst h
  refine (re9 m c).trans ?_
  refine then_part _ (part10 m c) fun r h => ?_
  subst h
  refine then_part _ (part11 m c) fun r h => ?_
  subst h
  refine (re11 m c).trans ?_
  refine then_part _ (part12 m c) fun _ _ => ?_
  refine then_part _ (part13 m c) fun r h => ?_
  subst h
  refine then_part _ (part14 m c) fun r h => ?_
  subst h
  refine then_part _ (part15 m c) fun _ _ => ?_
  refine then_part _ (part16 m c) fun r h => ?_
  subst h
  refine then_part _ (part17 m c) fun r h => ?_
  subst h
  refine then_part _ (part18 m c) fun _ _ => ?_
  refine then_part _ (part19 m c) fun r h => ?_
  subst h
  refine then_part _ (part20 m c) fun r h => ?_
  subst h
  refine then_part _ (part21 m c) fun _ _ => ?_
  refine (re21 m c).trans ?_
  refine then_part _ (part22 m c _) fun _ _ => ?_
  refine then_part _ (part23 m c _) fun _ _ => ?_
  refine then_part _ (part24 m c _ _) fun _ _ => ?_
  refine then_part _ (part25 m c _) fun _ _ => ?_
  refine then_part _ (part26 m c _) fun _ _ => ?_
  refine then_part _ (part27 m c _) fun _ _ => ?_
  refine then_part _ (part28 m c _) fun _ _ => ?_
  refine then_part _ (part29 m c _) fun _ _ => ?_
  refine then_part _ (part30 m c _ _) fun _ _ => ?_
  refine then_part _ (part31 m c _) fun r h => ?_
  subst h
  refine (re31 m c).trans ?_
  refine then_part _ (part32 m c _) fun ⟨w32_0, w32_1, w32_2⟩ _ => ?_
  refine then_part _ (part33 m c _) fun ⟨w33_0, w33_1, w33_2⟩ _ => ?_
  refine then_part _ (part34 m c _ _) fun ⟨w34_0, w34_1, w34_2⟩ _ => ?_
  refine then_part _ (part35 m c _) fun ⟨w35_0, w35_1, w35_2⟩ _ => ?_
  refine then_part _ (part36 m c _ _) fun ⟨w36_0, w36_1⟩ _ => ?_
  refine then_part _ (part37 m c _) fun ⟨w37_0, w37_1, w37_2⟩ _ => ?_
  refine then_part _ (part38 m c _) fun ⟨w38_0, w38_1, w38_2⟩ _ => ?_
  refine then_part _ (part39 m c _ _) fun ⟨w39_0, w39_1, w39_2⟩ _ => ?_
  refine then_part _ (part40 m c _) fun ⟨w40_0, w40_1, w40_2, w40_3⟩ _ => ?_
  refine then_part _ (part41 m c _ _ _) fun ⟨w41_0, w41_1⟩ _ => ?_
  refine then_part _ (part42 m c _) fun ⟨w42_0, w42_1, w42_2⟩ _ => ?_
  refine then_part _ (part43 m c _) fun ⟨w43_0, w43_1, w43_2⟩ _ => ?_
  refine (re43 m c).trans ?_
  refine then_part _ (part44 m c _ _ _ _) fun _ _ => ?_
  refine then_part _ (part45 m c _ _) fun _ _ => ?_
  refine then_part _ (part46 m c _ _ _) fun ⟨w46_0, w46_1⟩ _ => ?_
  refine then_part _ (part47 m c _ _ _ _ _) fun _ _ => ?_
  refine then_part _ (part48 m c _ _) fun ⟨w48_0, w48_1⟩ h => ?_
  change w48_1 = _ at h
  subst h
  refine then_part _ (part49 m c _ _ _ _) fun _ _ => ?_
  refine then_part _ (part50 m c _ _) fun r h => ?_
  subst h
  refine then_part _ (part51 m c _ _ _) fun _ _ => ?_
  refine then_part _ (part52 m c _ _ _) fun _ _ => ?_
  refine then_part _ (part53 m c _ _ _) fun _ _ => ?_
  refine then_part _ (part54 m c _ _ _ _) fun _ _ => ?_
  refine then_part _ (part55 m c _ _) fun ⟨w55_0, w55_1, w55_2⟩ h => ?_
  change w55_1 = _ at h
  subst h
  refine then_part _ (part56 m c _ _ _ _ _) fun _ _ => ?_
  refine then_part _ (part57 m c _ _) fun r h => ?_
  subst h
  refine then_part _ (part58 m c _ _ _) fun ⟨w58_0, w58_1⟩ _ => ?_
  refine then_part _ (part59 m c _ _ _ _ _) fun _ _ => ?_
  refine then_part _ (part60 m c _ _ _) fun _ _ => ?_
  exact ret_pure (φ := fun r : (Σ' (_ : Dev nD) (_ : BitVec 32) (_ : BitVec 32) (_ : BitVec 32) (_ : BitVec 32) (_ : BitVec 32), BitVec 32) => r.1 = c) rfl

/-- All that is held after the last statement. -/
def Fin1 (c : Dev nD) : sProp 𝕄 :=
  iprop(Env m ∗ Ow c 0 ∗ WtF m c 2 32 ∗ (WtF m c 0 32 ∗ (WtF m c 3 32 ∗ OutSt m c 32 ∗ (RsDone m c ∗ Still m c ∗ Ext m c))))

set_option maxRecDepth 65536 in
set_option maxHeartbeats 4000000 in
theorem whole_body {E : Dev nD → sProp 𝕄} (H : ∀ c, Fin1 m c ⊢ iprop(|={Set.univ}=> E c)) (c : Dev nD) : Start m c ⊢ WP c (app (cc0_body (F := F))) (fun _ => E c) := by
  rw [cc0_body_eq_skeleton]; unfold cc0_body_skel app; beta_reduce
  refine then_part _ (part79 m c) fun ⟨d0, a1, a2, a3, a4, a5, a6⟩ h => ?_
  change d0 = c at h
  subst h
  refine then_part _ (part61 m d0 _ _ _ _) fun _ _ => ?_
  refine then_part _ (part62 m d0 _ _) fun ⟨r1, r2⟩ h => ?_
  change r1 = _ at h
  subst h
  refine then_part _ (part63 m d0 _ _ _) fun _ _ => ?_
  refine (re63 m d0).trans ?_
  refine then_part _ (part64 m d0) fun _ _ => ?_
  refine then_part _ (part65 m d0) fun _ _ => ?_
  refine then_part _ (part66 m d0) fun _ _ => ?_
  refine then_part _ (part67 m d0) fun _ _ => ?_
  refine then_part _ (part68 m d0) fun _ _ => ?_
  refine then_part _ (part69 m d0) fun _ _ => ?_
  refine then_part _ (part70 m d0) fun _ _ => ?_
  refine then_part _ (part71 m d0) fun _ _ => ?_
  refine (re71 m d0).trans ?_
  refine then_part _ (part72 m d0) fun _ _ => ?_
  refine then_part _ (part73 m d0) fun _ _ => ?_
  refine then_part _ (part74 m d0) fun _ _ => ?_
  refine then_part _ (part75 m d0) fun _ _ => ?_
  refine then_part _ (part76 m d0) fun _ _ => ?_
  refine then_part _ (part77 m d0) fun _ _ => ?_
  refine then_part _ (part78 m d0) fun _ _ => ?_
  refine wait_step m 0 (by decide) (above_zero 0) 31 (by decide) rfl (fam_sem _ 2 31 rfl rfl) (by rfl) ?_
  unfold WP
  show _ ⊢ wp frame _ _ (.ret _) _
  rw [wp_ret]
  exact H d0

end Cert.KernelIdeal.Pf
-- ==== Proof.KernelIdeal.End.lean ====
/- After the last statement: every semaphore of the device is idle and its invariant is closed, and the pieces the
   buffers were cut into are put together again. -/
module

public import proofs.«01_k».proof.Proof.KernelIdeal.Chain
public import Idealize.ShloMosaic.Lib.Ring

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## A device's cells, one after another -/

theorem bigSep_KI (Φ : KI → sProp 𝕄) : bigSep Finset.univ Φ
    = iprop(Φ none ∗ (Φ (some (.inl 0)) ∗ Φ (some (.inl 1)) ∗ Φ (some (.inl 2)) ∗ Φ (some (.inl 3)) ∗ Φ (some (.inl 4)))
      ∗ (Φ (some (.inr (0, 0))) ∗ bigSep St (fun d => Φ (some (.inr (0, d))))) ∗ (Φ (some (.inr (1, 0))) ∗ bigSep St (fun d => Φ (some (.inr (1, d)))))
      ∗ (Φ (some (.inr (2, 0))) ∗ bigSep St (fun d => Φ (some (.inr (2, d))))) ∗ (Φ (some (.inr (3, 0))) ∗ bigSep St (fun d => Φ (some (.inr (3, d)))))) := by
  have h : bigSep Finset.univ Φ = iprop(((Φ (some (.inl 0)) ∗ Φ (some (.inl 1)) ∗ Φ (some (.inl 2)) ∗ Φ (some (.inl 3)) ∗ Φ (some (.inl 4)))
      ∗ (Φ (some (.inr (0, 0))) ∗ bigSep St (fun d => Φ (some (.inr (0, d))))) ∗ (Φ (some (.inr (1, 0))) ∗ bigSep St (fun d => Φ (some (.inr (1, d)))))
      ∗ (Φ (some (.inr (2, 0))) ∗ bigSep St (fun d => Φ (some (.inr (2, d))))) ∗ (Φ (some (.inr (3, 0))) ∗ bigSep St (fun d => Φ (some (.inr (3, d)))))) ∗ Φ none) := by
    rw [bigSep_univ_equiv (Equiv.optionEquivSumPUnit.{0, 0} CI).symm Φ, bigSep_univ_sum, bigSep_univ_sum, bigSep_univ_prod,
      bigSep_univ_of_subsingleton (PUnit.unit), bigSep_univ_eq_bigSepL [(0 : Fin 5), 1, 2, 3, 4] (by decide) (by decide),
      bigSep_univ_eq_bigSepL [(0 : Fin 4), 1, 2, 3] (by decide) (by decide)]
    simp only [univ_St]
    rfl
  rw [h]
  exact equiv_iff.mp ⟨BI.sep_comm, BI.sep_comm⟩

/-! ## Closing the cells -/

theorem with_env {I : Type} [DecidableEq I] {S : Finset I} {Φ Ψ : I → sProp 𝕄} (h : ∀ i ∈ S, iprop(Env m ∗ Φ i) ⊢ Ψ i) : iprop(Env m ∗ bigSep S Φ) ⊢ bigSep S Ψ :=
  (sep_mono_left (BI.bigSep_of_persistent S (Env m))).trans (by
    rw [show iprop((bigSep S fun _ => Env m) ∗ bigSep S Φ) = bigSep S (fun i => iprop(Env m ∗ Φ i)) from (bigSep_sep S (fun _ => Env m) Φ).symm]
    exact bigSep_mono h)

theorem close1 (ck : Dev nD × KI) (r : ℕ) (hr : ∀ s, r ≤ s → (Rd (F := F) m).duties (kcell ck) s = ∅) :
    iprop(Env m ∗ atPos ER (kcell ck) r ∅ 0) ⊢ iprop(|={Set.univ}=> semVal (kcell ck) 0) := by
  iintro ⟨#HE, Ha⟩
  ihave Hc := (Env_cell m ck) $$ HE
  icases Hc with ⟨%κ, #HC, -⟩
  iapply (Rounds.cell_close ER (Rd m) (Set.mem_univ κ) (fun h => h) (R := r) hr)
  isplitr
  · iexact HC
  · iexact Ha

theorem close_fam (c : Dev nD) (a : Fin 4) :
    iprop(Env m ∗ bigSep St (fun d => atPos ER (famC c a d) 1 ∅ 0)) ⊢ iprop(|={Set.univ}=> bigSep St (fun d => semVal (famC c a d) 0)) :=
  (with_env m fun d _ => close1 m (c, some (.inr (a, d))) 1 (duties_later m _)).trans (bigSep_fupd _ _)

/-! ## Putting the buffers together -/

theorem hslot_disjoint : ∀ b b' : Fin 2, b ≠ b' → Disjoint (hslot b) (hslot b') := fun b b' h => by
  rw [Finset.disjoint_left]; intro x hx hx'
  simp only [hslot, Finset.mem_filter, Finset.mem_univ, true_and] at hx hx'
  exact h (Fin.ext (hx.symm.trans hx'))

theorem hslot_cover : (Finset.univ : Finset (Fin 2)).biUnion hslot = Finset.univ := by
  ext x; simp only [Finset.mem_biUnion, Finset.mem_univ, true_and, iff_true, hslot, Finset.mem_filter]
  exact ⟨⟨(x 0).val, (x 0).isLt⟩, rfl⟩

theorem k_split (c : Dev nD) (f : S2x4096x128.Idx → Elt F .f32) : (((c : Thread nD τ).loc cc0_scratch0) ↦{fullShare} f : sProp 𝕄) = iprop(khP c 0 f ∗ khP c 1 f) := by
  rw [Ring.pointsTo_blocks (ℓ := (c : Thread nD τ).loc cc0_scratch0) hslot hslot_disjoint hslot_cover f, bigSep_univ_two]
theorem v_split (c : Dev nD) (f : S2x4096x128.Idx → Elt F .f32) : (((c : Thread nD τ).loc cc0_scratch1) ↦{fullShare} f : sProp 𝕄) = iprop(vhP c 0 f ∗ vhP c 1 f) := by
  rw [Ring.pointsTo_blocks (ℓ := (c : Thread nD τ).loc cc0_scratch1) hslot hslot_disjoint hslot_cover f, bigSep_univ_two]

/-- The heads by whose they are: the device's two, and the rest. -/
def hpart (c : Fin 32) : Fin 3 → Finset S1x4096x64x128.Idx
  | 0 => hsrc c 0
  | 1 => hsrc c 1
  | 2 => hrest c

theorem mem_hpart (c : Fin 32) (b : Fin 3) (x : S1x4096x64x128.Idx) : x ∈ hpart c b ↔ (if (x 2).val / 2 = c.val then (x 2).val % 2 = b.val else 2 = b.val) := by
  have h2 : (x 2).val < 64 := (x 2).isLt
  have hc := c.isLt
  fin_cases b
  · show x ∈ hsrc c 0 ↔ (if (x 2).val / 2 = c.val then (x 2).val % 2 = 0 else 2 = 0)
    simp only [hsrc, Finset.mem_filter, Finset.mem_univ, true_and]
    show (x 2).val = 2 * c.val + 0 ↔ _
    split <;> omega
  · show x ∈ hsrc c 1 ↔ (if (x 2).val / 2 = c.val then (x 2).val % 2 = 1 else 2 = 1)
    simp only [hsrc, Finset.mem_filter, Finset.mem_univ, true_and]
    show (x 2).val = 2 * c.val + 1 ↔ _
    split <;> omega
  · show x ∈ hrest c ↔ (if (x 2).val / 2 = c.val then (x 2).val % 2 = 2 else 2 = 2)
    simp only [hrest, Finset.mem_filter, Finset.mem_univ, true_and]
    by_cases h : (x 2).val / 2 = c.val
    · rw [if_pos h]; exact ⟨fun h' => absurd h h', fun h' => by omega⟩
    · rw [if_neg h]; exact ⟨fun _ => by trivial, fun _ => h⟩

theorem hpart_disjoint (c : Fin 32) : ∀ b b' : Fin 3, b ≠ b' → Disjoint (hpart c b) (hpart c b') := fun b b' h => by
  rw [Finset.disjoint_left]; intro x hx hx'
  rw [mem_hpart] at hx hx'
  refine h (Fin.ext ?_)
  split at hx <;> rename_i h1
  · rw [if_pos h1] at hx'; omega
  · rw [if_neg h1] at hx'; omega

theorem hpart_cover (c : Fin 32) : (Finset.univ : Finset (Fin 3)).biUnion (hpart c) = Finset.univ := by
  ext x; simp only [Finset.mem_biUnion, Finset.mem_univ, true_and, iff_true, mem_hpart]
  by_cases h : (x 2).val / 2 = c.val
  · exact ⟨⟨(x 2).val % 2, by omega⟩, by rw [if_pos h]⟩
  · exact ⟨2, by rw [if_neg h]; rfl⟩

theorem bigSep_three (Φ : Fin 3 → sProp 𝕄) : bigSep Finset.univ Φ = iprop(Φ 0 ∗ Φ 1 ∗ Φ 2) := bigSep_univ_eq_bigSepL [0, 1, 2] (by decide) (by decide) Φ

theorem karg_split (c : Dev nD) : (((c : Thread nD τ).loc main_arg3) ↦{fullShare} kA m c : sProp 𝕄)
    = iprop(ksP m c 0 ∗ ksP m c 1 ∗ (((c : Thread nD τ).loc main_arg3) ↦[hrest c]{fullShare} kA m c)) := by
  rw [Ring.pointsTo_blocks (ℓ := (c : Thread nD τ).loc main_arg3) (hpart c) (hpart_disjoint c) (hpart_cover c) (kA m c), bigSep_three]
  rfl
theorem varg_split (c : Dev nD) : (((c : Thread nD τ).loc main_arg4) ↦{fullShare} vA m c : sProp 𝕄)
    = iprop(vsP m c 0 ∗ vsP m c 1 ∗ (((c : Thread nD τ).loc main_arg4) ↦[hrest c]{fullShare} vA m c)) := by
  rw [Ring.pointsTo_blocks (ℓ := (c : Thread nD τ).loc main_arg4) (hpart c) (hpart_disjoint c) (hpart_cover c) (vA m c), bigSep_three]
  rfl

/-- The peers' chunks by the step they come in. -/
def subE (c : Fin 32) : Fin 32 ≃ Fin 32 where
  toFun d := c - d
  invFun j := c - j
  left_inv := (by decide +kernel : ∀ c d : Fin 32, c - (c - d) = d) c
  right_inv := (by decide +kernel : ∀ c d : Fin 32, c - (c - d) = d) c

theorem gat_split (c : Dev nD) (f : CB F) : (((c : Thread nD τ).loc cc0_scratch6) ↦{fullShare} f : sProp 𝕄)
    = iprop(gatP c c fullShare f ∗ bigSep St (fun d => gatP c ((c : Fin 32) - d) fullShare f)) := by
  rw [Ring.pointsTo_blocks (ℓ := (c : Thread nD τ).loc cc0_scratch6) slot slot_disjoint slot_cover f,
    bigSep_univ_equiv (subE c) _, univ_St]
  show iprop(gatP c ((c : Fin 32) - 0) fullShare f ∗ bigSep St (fun d => gatP c ((c : Fin 32) - d) fullShare f)) = _
  rw [(by decide +kernel : ∀ c : Fin 32, c - 0 = c) c]

theorem gat_deal (c : Dev nD) (f : CB F) : gatP c c fullShare f = bigSep St (fun d => gatP c c (shr d) f) :=
  Transfers.pointsTo_deal St ⟨1, by decide⟩ fullShare

/-! ## The end -/

/-- The device's semaphores, all at zero. -/
def Sems0 (c : Dev nD) : sProp 𝕄 := bigSep Finset.univ fun k : KI => semVal (kcell (c, k)) 0

/-- The arguments left in place. -/
def Args (c : Dev nD) : sProp 𝕄 :=
  iprop((((c : Thread nD τ).loc main_arg2) ↦{fullShare} woA m c) ∗ (((c : Thread nD τ).loc main_arg3) ↦{fullShare} kA m c) ∗ (((c : Thread nD τ).loc main_arg4) ↦{fullShare} vA m c))

/-- The scratch buffers, at whatever contents. -/
def Scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f)
    ∗ (∃ f, ((c : Thread nD τ).loc cc0_scratch6) ↦{fullShare} f))

/-- What the device ends with. -/
def Done (c : Dev nD) : sProp 𝕄 := iprop((Sems0 c ∗ Args m c ∗ Scr c) ∗ Ow c 0 ∗ xP m c ∗ wqP m c ∗ OutSt m c 32)

/-- What the five fetches delivered. -/
def Done5L (c : Dev nD) : sProp 𝕄 := iprop(locPay m c 0 ∗ locPay m c 1 ∗ locPay m c 2 ∗ locPay m c 3 ∗ locPay m c 4)

theorem mem_end (c : Dev nD) :
    iprop(Done5L m c ∗ (((c : Thread nD τ).loc main_arg3) ↦[hrest c]{fullShare} kA m c) ∗ (((c : Thread nD τ).loc main_arg4) ↦[hrest c]{fullShare} vA m c)
      ∗ (((c : Thread nD τ).loc cc0_scratch3) ↦{fullShare} AT m c) ∗ (srcP c c (PS m c) ∗ bigSep St (fun d => famPay m c d 0)) ∗ (((c : Thread nD τ).loc cc0_scratch5) ↦{fullShare} RS m c)
      ∗ bigSep St (fun d => famPay m c d 2) ∗ bigSep St (fun d => famPay m c d 3)) ⊢ iprop(Args m c ∗ Scr c) := by
  unfold Args Scr Done5L
  iintro ⟨⟨L0, L1, L2, L3, L4⟩, HK, HV, HA, ⟨HS, HSs⟩, HR, HG, HGs⟩
  ihave L0 := (Entails.of_eq (show locPay m c 0 = iprop(khP c 0 (KM m c) ∗ ksP m c 0) from rfl)) $$ L0
  ihave L1 := (Entails.of_eq (show locPay m c 1 = iprop(vhP c 0 (VM m c) ∗ vsP m c 0) from rfl)) $$ L1
  ihave L2 := (Entails.of_eq (show locPay m c 2 = iprop(khP c 1 (KM m c) ∗ ksP m c 1) from rfl)) $$ L2
  ihave L3 := (Entails.of_eq (show locPay m c 3 = iprop(vhP c 1 (VM m c) ∗ vsP m c 1) from rfl)) $$ L3
  ihave L4 := (Entails.of_eq (show locPay m c 4 = iprop(wP c (woA m c) ∗ wsP m c) from rfl)) $$ L4
  icases L0 with ⟨K0, S0⟩
  icases L1 with ⟨V0, T0⟩
  icases L2 with ⟨K1, S1⟩
  icases L3 with ⟨V1, T1⟩
  icases L4 with ⟨W, SW⟩
  ihave HSa := (Entails.of_eq (src_split c (PS m c)).symm) $$ [HS HSs]
  · isplitl [HS]; · iexact HS
    iexact HSs
  ihave HGf := (Entails.of_eq (gat_deal c (AG m)).symm) $$ [HG]
  · iexact HG
  ihave HGa := (Entails.of_eq (gat_split c (AG m)).symm) $$ [HGf HGs]
  · isplitl [HGf]; · iexact HGf
    iexact HGs
  ihave HKa := (Entails.of_eq (karg_split m c).symm) $$ [S0 S1 HK]
  · iframe
  ihave HVa := (Entails.of_eq (varg_split m c).symm) $$ [T0 T1 HV]
  · iframe
  ihave HKb := (Entails.of_eq (k_split c (KM m c)).symm) $$ [K0 K1]
  · iframe
  ihave HVb := (Entails.of_eq (v_split c (VM m c)).symm) $$ [V0 V1]
  · iframe
  isplitl [SW HKa HVa]
  · isplitl [SW]; · iexact SW
    isplitl [HKa]; · iexact HKa
    iexact HVa
  isplitl [HKb]; · iexists _; iexact HKb
  isplitl [HVb]; · iexists _; iexact HVb
  isplitl [W]; · iexists _; iexact W
  isplitl [HA]; · iexists _; iexact HA
  isplitl [HSa]; · iexists _; iexact HSa
  isplitl [HR]; · iexists _; iexact HR
  iexists _; iexact HGa

theorem sems_end (c : Dev nD) :
    iprop(Env m ∗ atPos ER (barC c) 1 ∅ 0 ∗ (at1 c (.inl 0) ∗ at1 c (.inl 1) ∗ at1 c (.inl 2) ∗ at1 c (.inl 3) ∗ at1 c (.inl 4))
      ∗ (atPos ER (famC c 0 0) 0 ∅ 0 ∗ atPos ER (famC c 1 0) 0 ∅ 0 ∗ atPos ER (famC c 2 0) 0 ∅ 0 ∗ atPos ER (famC c 3 0) 0 ∅ 0)
      ∗ bigSep St (fun d => atPos ER (famC c 0 d) 1 ∅ 0) ∗ bigSep St (fun d => atPos ER (famC c 1 d) 1 ∅ 0)
      ∗ bigSep St (fun d => atPos ER (famC c 2 d) 1 ∅ 0) ∗ bigSep St (fun d => atPos ER (famC c 3 d) 1 ∅ 0)) ⊢ iprop(|={Set.univ}=> Sems0 c) := by
  unfold Sems0
  rw [bigSep_KI]
  iintro ⟨#HE, HB, ⟨A0, A1, A2, A3, A4⟩, ⟨I0, I1, I2, I3⟩, F0, F1, F2, F3⟩
  imod (close1 m (c, none) 1 (duties_later m _)) $$ [HB] with HB
  · isplitr; · iexact HE
    iexact HB
  imod (close1 m (c, some (.inl 0)) 1 (duties_later m _)) $$ [A0] with A0
  · isplitr; · iexact HE
    unfold at1; iexact A0
  imod (close1 m (c, some (.inl 1)) 1 (duties_later m _)) $$ [A1] with A1
  · isplitr; · iexact HE
    unfold at1; iexact A1
  imod (close1 m (c, some (.inl 2)) 1 (duties_later m _)) $$ [A2] with A2
  · isplitr; · iexact HE
    unfold at1; iexact A2
  imod (close1 m (c, some (.inl 3)) 1 (duties_later m _)) $$ [A3] with A3
  · isplitr; · iexact HE
    unfold at1; iexact A3
  imod (close1 m (c, some (.inl 4)) 1 (duties_later m _)) $$ [A4] with A4
  · isplitr; · iexact HE
    unfold at1; iexact A4
  imod (close1 m (c, some (.inr (0, 0))) 0 (duties_idle m c 0)) $$ [I0] with I0
  · isplitr; · iexact HE
    iexact I0
  imod (close1 m (c, some (.inr (1, 0))) 0 (duties_idle m c 1)) $$ [I1] with I1
  · isplitr; · iexact HE
    iexact I1
  imod (close1 m (c, some (.inr (2, 0))) 0 (duties_idle m c 2)) $$ [I2] with I2
  · isplitr; · iexact HE
    iexact I2
  imod (close1 m (c, some (.inr (3, 0))) 0 (duties_idle m c 3)) $$ [I3] with I3
  · isplitr; · iexact HE
    iexact I3
  imod (close_fam m c 0) $$ [F0] with F0
  · isplitr; · iexact HE
    iexact F0
  imod (close_fam m c 1) $$ [F1] with F1
  · isplitr; · iexact HE
    iexact F1
  imod (close_fam m c 2) $$ [F2] with F2
  · isplitr; · iexact HE
    iexact F2
  imod (close_fam m c 3) $$ [F3] with F3
  · isplitr; · iexact HE
    iexact F3
  imodintro
  isplitl [HB]; · iexact HB
  isplitl [A0 A1 A2 A3 A4]
  · isplitl [A0]; · iexact A0
    isplitl [A1]; · iexact A1
    isplitl [A2]; · iexact A2
    isplitl [A3]; · iexact A3
    iexact A4
  isplitl [I0 F0]
  · isplitl [I0]; · iexact I0
    iexact F0
  isplitl [I1 F1]
  · isplitl [I1]; · iexact I1
    iexact F1
  isplitl [I2 F2]
  · isplitl [I2]; · iexact I2
    iexact F2
  isplitl [I3]; · iexact I3
  iexact F3

theorem fin_done (c : Dev nD) : Fin1 m c ⊢ iprop(|={Set.univ}=> Done m c) := by
  unfold Fin1 RsDone Still Ext Done Done5
  iintro ⟨#HE, HO, W2, W0, W3, HT, ⟨P1, HR⟩, ⟨HS, HA, HB, ⟨⟨A0, L0⟩, ⟨A1, L1⟩, ⟨A2, L2⟩, ⟨A3, L3⟩, A4, L4⟩, HX, HQ⟩, HI, HK, HV⟩
  ihave W0 := (WtF_end m c 0) $$ W0
  ihave W2 := (WtF_end m c 2) $$ W2
  ihave W3 := (WtF_end m c 3) $$ W3
  icases W0 with ⟨P0, Y0⟩
  icases W2 with ⟨P2, Y2⟩
  icases W3 with ⟨P3, Y3⟩
  imod (sems_end m c) $$ [HB A0 A1 A2 A3 A4 HI P0 P1 P2 P3] with HZ
  · isplitr; · iexact HE
    iframe
  ihave HM := (mem_end m c) $$ [L0 L1 L2 L3 L4 HK HV HA HS Y0 HR Y2 Y3]
  · unfold Done5L; iframe
  icases HM with ⟨HM, HC⟩
  imodintro
  iframe

end Cert.KernelIdeal.Pf
-- ==== Proof.KernelIdeal.Body.lean ====
/- What a device starts with, laid out as the body's first statement wants it, and the body's triple in the shape the
   library's launch asks for. -/
module

public import proofs.«01_k».proof.Proof.KernelIdeal.End
public import proofs.«01_k».proof.Proof.Gen.KernelIdeal.Launch
public import proofs.«01_k».proof.Proof.Gen.KernelIdeal.Points

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## Before the body -/

/-- The places of a device's waits. -/
def Pos (c : Dev nD) : sProp 𝕄 := bigSep Finset.univ fun k : KI => atPos ER (kcell (c, k)) 0 ∅ 0

/-- The tokens of the duties the device pays. -/
def payToks (c : Dev nD) : sProp 𝕄 :=
  iprop((bigSep Finset.univ fun i : Fin 5 => dutyTok ER (locC c i) 0 0) ∗ (bigSep Finset.univ fun d : Fin 32 => dutyTok ER (famC c 0 d) 0 0)
    ∗ (bigSep Finset.univ fun d : Fin 32 => dutyTok ER (famC ((c : Fin 32) + d) 1 d) 0 0) ∗ (bigSep Finset.univ fun d : Fin 32 => dutyTok ER (famC c 2 d) 0 0)
    ∗ (bigSep Finset.univ fun d : Fin 32 => dutyTok ER (famC ((c : Fin 32) + d) 3 d) 0 0) ∗ (bigSep Finset.univ fun d : Fin 32 => dutyTok ER (barC ((c : Fin 32) + d)) 0 (-d)))

/-- The credit for what the peers will send. -/
def Crd (c : Dev nD) : sProp 𝕄 :=
  iprop(cred (tallyAt (barC c) () 31) ∗ bigSep St (fun d => cred (tallyAt (famC c 1 d) () NC)) ∗ bigSep St (fun d => cred (tallyAt (famC c 3 d) () NC)))

def Given (c : Dev nD) : sProp 𝕄 := iprop(Env m ∗ Pos c ∗ payToks c ∗ Crd c ∗ Args m c)
def Φ₀ (c : Dev nD) : sProp 𝕄 := iprop(Given m c ∗ Scr c)
def Φ₁ (c : Dev nD) : sProp 𝕄 := iprop(Sems0 c ∗ Args m c ∗ Scr c)

def negE : Fin 32 ≃ Fin 32 where
  toFun d := -d
  invFun d := -d
  left_inv := (by decide +kernel : ∀ d : Fin 32, - -d = d)
  right_inv := (by decide +kernel : ∀ d : Fin 32, - -d = d)

theorem buf_deal (c : Dev nD) (f : CB F) : (((c : Thread nD τ).loc cc0_scratch5) ↦{fullShare} f : sProp 𝕄)
    = iprop(bufP c 0 f ∗ bigSep St (fun d => bufP c (-d) f)) := by
  rw [Ring.pointsTo_blocks (ℓ := (c : Thread nD τ).loc cc0_scratch5) slot slot_disjoint slot_cover f, bigSep_univ_equiv negE _, univ_St]
  show iprop(bufP c (-0) f ∗ bigSep St (fun d => bufP c (-d) f)) = _
  rw [(by decide +kernel : (-0 : Fin 32) = 0)]
theorem gat_deal2 (c : Dev nD) (f : CB F) : (((c : Thread nD τ).loc cc0_scratch6) ↦{fullShare} f : sProp 𝕄)
    = iprop(gatP c c fullShare f ∗ bigSep St (fun d => gatP c ((c : Fin 32) + d) fullShare f)) := by
  rw [Ring.pointsTo_blocks (ℓ := (c : Thread nD τ).loc cc0_scratch6) slot slot_disjoint slot_cover f, bigSep_univ_equiv (addE c) _, univ_St]
  show iprop(gatP c ((c : Fin 32) + 0) fullShare f ∗ bigSep St (fun d => gatP c ((c : Fin 32) + d) fullShare f)) = _
  rw [(by decide +kernel : ∀ c : Fin 32, c + 0 = c) c]

theorem bigSep_five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem pends (c : Dev nD) (f g : CB F) : iprop(bigSep St (fun d => dutyTok ER (barC ((c : Fin 32) + d)) 0 (-d)) ∗ bigSep St (fun d => bufP c (-d) f) ∗ bigSep St (fun d => gatP c ((c : Fin 32) + d) fullShare g))
    ⊢ (bigSep St (sigPend c) : sProp 𝕄) := by
  rw [← bs_sep, ← bs_sep]
  refine bigSep_mono fun d _ => ?_
  unfold sigPend
  show iprop(dutyTok ER (barC ((c : Fin 32) + d)) 0 (-d) ∗ bufP c (-d) f ∗ gatP c ((c : Fin 32) + d) fullShare g) ⊢ _
  iintro ⟨H1, H2, H3⟩
  isplitl [H1]; · iexact H1
  isplitl [H2]
  · iexists f; iexact H2
  iexists g; iexact H3

set_option maxHeartbeats 1600000 in
theorem start_of (c : Dev nD) : iprop(Φ₀ m c ∗ Ow c (O₀ c) ∗ xP m c ∗ wqP m c ∗ (∃ f, ((c : Thread nD τ).loc cc0_stg2_0) ↦{fullShare} f)) ⊢ Start m c := by
  unfold Φ₀ Given Pos payToks Crd Args Scr
  rw [bigSep_KI, bigSep_five, univ_St, univ_St, univ_St, univ_St, univ_St]
  iintro ⟨⟨⟨#HE, ⟨PB, ⟨A0, A1, A2, A3, A4⟩, ⟨I0, F0⟩, ⟨I1, F1⟩, ⟨I2, F2⟩, I3, F3⟩, ⟨⟨L0, L1, L2, L3, L4⟩, ⟨-, T0⟩, ⟨-, T1⟩, ⟨-, T2⟩, ⟨-, T3⟩, -, TB⟩, ⟨CB, C1, C3⟩, SW, HK, HV⟩,
    ⟨%f0, H0⟩, ⟨%f1, H1⟩, HW, ⟨%f3, H3⟩, HS, ⟨%f5, H5⟩, ⟨%f6, H6⟩⟩, HO, HX, HQ, ⟨%fo, Ho⟩⟩
  ihave H0 := (Entails.of_eq (k_split c f0)) $$ H0
  icases H0 with ⟨K0, K1⟩
  ihave H1 := (Entails.of_eq (v_split c f1)) $$ H1
  icases H1 with ⟨V0, V1⟩
  ihave HK := (Entails.of_eq (karg_split m c)) $$ HK
  icases HK with ⟨S0, S1, HK⟩
  ihave HV := (Entails.of_eq (varg_split m c)) $$ HV
  icases HV with ⟨U0, U1, HV⟩
  ihave H5 := (Entails.of_eq (buf_deal c f5)) $$ H5
  icases H5 with ⟨B0, HB⟩
  ihave H6 := (Entails.of_eq (gat_deal2 c f6)) $$ H6
  icases H6 with ⟨G0, HG⟩
  ihave HP := (pends c f5 f6) $$ [TB HB HG]
  · isplitl [TB]; · iexact TB
    isplitl [HB]; · iexact HB
    iexact HG
  ihave HW1 := (WtF_start m c 1) $$ [C1 F1]
  · unfold famAt
    isplitl [C1]; · iexact C1
    iexact F1
  ihave HW3 := (WtF_start m c 3) $$ [C3 F3]
  · unfold famAt
    isplitl [C3]; · iexact C3
    iexact F3
  ihave HR := (Entails.of_eq (bs_sep St (fun d => dutyTok ER (famC c 0 d) 0 0) (fun d => dutyTok ER (famC ((c : Fin 32) + d) 1 d) 0 0)).symm) $$ [T0 T1]
  · isplitl [T0]; · iexact T0
    iexact T1
  ihave HA := (Entails.of_eq (bs_sep St (fun d => dutyTok ER (famC c 2 d) 0 0) (fun d => dutyTok ER (famC ((c : Fin 32) + d) 3 d) 0 0)).symm) $$ [T2 T3]
  · isplitl [T2]; · iexact T2
    iexact T3
  unfold Start R2 R3 R4
  isplitr; · iexact HE
  isplitl [K0 S0 L0 V0 U0 L1]
  · unfold cpK cpV
    isplitl [K0 S0 L0]
    · isplitl [K0]
      · iexists f0; iexact K0
      isplitl [S0]; · iexact S0
      iexact L0
    isplitl [V0]
    · iexists f1; iexact V0
    isplitl [U0]; · iexact U0
    iexact L1
  isplitl [HO HP]
  · unfold SigSt
    rw [Pn_begin]
    isplitl [HO]; · iexact HO
    iexact HP
  isplitl [K1 S1 L2 V1 U1 L3 HW SW L4]
  · unfold cpK cpV cpW
    isplitl [K1 S1 L2]
    · isplitl [K1]
      · iexists f0; iexact K1
      isplitl [S1]; · iexact S1
      iexact L2
    isplitl [V1 U1 L3]
    · isplitl [V1]
      · iexists f1; iexact V1
      isplitl [U1]; · iexact U1
      iexact L3
    isplitl [HW]; · iexact HW
    isplitl [SW]; · iexact SW
    iexact L4
  isplitl [HX HQ]
  · isplitl [HX]; · iexact HX
    iexact HQ
  isplitl [A0 A1 A2 A3 A4]
  · unfold at5 at0
    isplitl [A0]; · iexact A0
    isplitl [A1]; · iexact A1
    isplitl [A2]; · iexact A2
    isplitl [A3]; · iexact A3
    iexact A4
  isplitl [H3]
  · unfold Col
    iexists f3
    isplitl [H3]; · iexact H3
    ipureintro; exact fun x h => absurd h (Nat.not_lt_zero _)
  isplitl [CB PB HS B0 HR]
  · unfold PreBr rsTok
    isplitl [CB]; · iexact CB
    isplitl [PB]; · iexact PB
    isplitl [HS]; · iexact HS
    isplitl [B0]
    · iexists f5; iexact B0
    iexact HR
  isplitl [HW1]; · iexact HW1
  isplitl [F0]
  · unfold famAt; iexact F0
  isplitl [G0 HA]
  · unfold AgR
    isplitl [G0]
    · iexists f6; iexact G0
    iexact HA
  isplitl [HW3]; · iexact HW3
  isplitl [F2]
  · unfold famAt; iexact F2
  isplitl [Ho]
  · unfold OutSt
    iexists fo
    isplitl [Ho]; · iexact Ho
    ipureintro; exact fun x h => absurd h (Nat.not_lt_zero _)
  unfold Ext
  isplitl [I0 I1 I2 I3]
  · isplitl [I0]; · iexact I0
    isplitl [I1]; · iexact I1
    isplitl [I2]; · iexact I2
    iexact I3
  isplitl [HK]; · iexact HK
  iexact HV

/-! ## The body in the launch's shape -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem stored_all (c : Fin 32) (x : S1x256x1024.Idx) : stored c 32 x := Fin.isLt _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop((dats m ρ 0 c).Φ t0_0.succ ∗ (dats m ρ 0 c).owesAt () t0_0.succ ∗ stg c cc0_stg0_0 ((dats m ρ 0 c).after (0 : Fin 3) t0_0)
    ∗ stg c cc0_stg1_0 ((dats m ρ 0 c).after (1 : Fin 3) t0_0) ∗ stg c cc0_stg2_0 ((dats m ρ 0 c).after (2 : Fin 3) t0_0))

theorem before_x (c : Dev nD) (d) : (dats m ρ 0 c).before (0 : Fin 3) t0_0 d = xstg m c := by
  unfold Dat.before; rw [if_pos (fetch0_0 t0_0)]; rfl
theorem before_wq (c : Dev nD) (d) : (dats m ρ 0 c).before (1 : Fin 3) t0_0 d = wqstg m c := by
  unfold Dat.before; rw [if_pos (fetch0_1 t0_0)]; rfl

theorem pre_start (c : Dev nD) : bodyPre m ρ c ⊢ Start m c := by
  unfold bodyPre
  simp only [before_x, before_wq]
  unfold Dat.owesAt Pipeline.owesWithin
  rw [show (dats m ρ 0 c).owed t0_0.castSucc = O₀ c from rfl]
  iintro ⟨HΦ, ⟨%W, -, HO⟩, ⟨%d0, %g0, %hg0, HX⟩, ⟨%d1, %g1, %hg1, HQ⟩, %d2, %g2, -, Ho⟩
  subst hg0; subst hg1
  iapply (start_of m c)
  isplitl [HΦ]; · iexact HΦ
  isplitl [HO]
  · unfold Ow; iexists W; iexact HO
  isplitl [HX]
  · unfold xP; iexact HX
  isplitl [HQ]
  · unfold wqP; iexact HQ
  iexists g2; iexact Ho

theorem done_post (c : Dev nD) : Done m c ⊢ bodyPost m ρ c := by
  unfold Done bodyPost Ow OutSt xP wqP
  unfold Dat.owesAt Pipeline.owesWithin
  rw [show (dats m ρ 0 c).owed t0_0.succ = 0 from rfl, show (dats m ρ 0 c).Φ t0_0.succ = Φ₁ m c from rfl,
    show (dats m ρ 0 c).after (0 : Fin 3) t0_0 = xstg m c from rfl, show (dats m ρ 0 c).after (1 : Fin 3) t0_0 = wqstg m c from rfl, show (dats m ρ 0 c).after (2 : Fin 3) t0_0 = OUT m c from rfl]
  iintro ⟨HD, ⟨%W, HO⟩, HX, HQ, %f, Hf, %hf⟩
  isplitl [HD]
  · unfold Φ₁; iexact HD
  isplitl [HO]
  · iexists W
    isplitr; · ipureintro; exact fun _ _ => Or.inl trivial
    iexact HO
  isplitl [HX]
  · iexists _; isplitr; · (ipureintro; rfl)
    iexact HX
  isplitl [HQ]
  · iexists _; isplitr; · (ipureintro; rfl)
    iexact HQ
  iexists f; isplitr
  · ipureintro; exact funext fun x => hf x (stored_all c x)
  iexact Hf

theorem body_wp (c : Dev nD) : bodyPre m ρ c ⊢ WP c (app (cc0_body (F := F))) (fun _ => bodyPost m ρ c) :=
  (pre_start m ρ c).trans (whole_body m (E := fun c => bodyPost m ρ c) (fun c => (fin_done m c).trans (BI.fupd_mono (done_post m ρ c))) c)

set_option maxRecDepth 8000 in
theorem body_prog : (defs₀ (F := F)) .tc 0 (t0_0, cfg0.slots t0_0) = app (cc0_body (F := F)) :=
  (show (defs₀ (F := F)) .tc 0 (t0_0, cfg0.slots t0_0) = bodyAt0 t0_0 from rfl).trans (show bodyAt0 (F := F) t0_0 = app (cc0_body (F := F)) from rfl)

theorem body_wp' (c : Dev nD) {p : Prog (TpuEff nD τ sig (Elt F) Λ₀ .tc) PUnit} (hp : p = app (cc0_body (F := F))) :
    bodyPre m ρ c ⊢ wp frame (wpE (defs₀ (F := F)) 𝒱₀ (c : Thread nD τ) none) Set.univ p (fun _ => bodyPost m ρ c) := by
  subst hp
  have h := body_wp m ρ c
  unfold WP at h
  exact h

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  refine BIBase.Entails.trans (Q := bodyPre m ρ c) (show _ ⊢ bodyPre m ρ c from .rfl) ?_
  have hp := body_prog (F := F)
  generalize defs₀ (F := F) Proc.tc 0 (t0_0, cfg0.slots t0_0) = p at hp ⊢
  exact body_wp' m ρ c hp

end Cert.KernelIdeal.Pf
-- ==== Proof.KernelIdeal.Run.lean ====
/- The launch: the cells with their tokens, who owes whom at the start, and the run of the whole mesh. -/
module

public import proofs.«01_k».proof.Proof.KernelIdeal.Body
public import Idealize.ShloMosaic.Lib.Pipeline.CollectiveSegs
public import proofs.«01_k».proof.Proof.Gen.KernelIdeal.Launch
public import proofs.«01_k».proof.Proof.Gen.KernelIdeal.Points

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 ix4)

variable {F : FTy → Type} [FloatOps F]

local notation "𝕄" => MT nD τ sig Unit (Elt F) ℕ UU ℕ

variable (m : (ℓ : Loc nD τ sig) → Buf (Elt F) ℓ) (ρ : Dev nD → PrngReg)

/-! ## Tokens and cells -/

theorem bs_sep' {I : Type} [DecidableEq I] (S : Finset I) (Φ Ψ : I → sProp 𝕄) : bigSep S (fun d => iprop(Φ d ∗ Ψ d)) = iprop(bigSep S Φ ∗ bigSep S Ψ) := bigSep_sep S Φ Ψ

theorem ownSemFacts : Pipeline.OwnSemFacts cfg0.spec osem := by
  refine ⟨?_, fun a b h => dsem_injective (by injection h), ?_⟩
  · decide +kernel
  · decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- A device's tokens as minted: one for each of its own cells, one for each peer's signal. -/
def tokOf : Dev nD × (CI ⊕ Fin 32) → GSem nD τ sig × ℕ × Fin 32
  | (c, .inl k) => (ownC c k, 0, 0)
  | (c, .inr e) => (barC c, 0, e)

theorem tokOf_injective : Function.Injective tokOf := by
  rintro ⟨c, j⟩ ⟨c', j'⟩ h
  rcases j with k | e <;> rcases j' with k' | e' <;> simp only [tokOf, Prod.mk.injEq] at h
  · obtain ⟨⟨⟨h1, -⟩, h2⟩, -⟩ := h
    injection h2 with h2
    rw [show c = c' from h1, dsem_injective h2]
  · cases h.1.2
  · cases h.1.2
  · obtain ⟨⟨⟨h1, -⟩, -⟩, -, h2⟩ := h
    rw [show c = c' from h1, h2]

def ringToks : Finset (GSem nD τ sig × ℕ × Fin 32) := Finset.univ.map ⟨tokOf, tokOf_injective⟩

def u₀ : UU := (initOf (Pipeline.cells cfgs cellOf_inj) (Pipeline.launchToks cfgs cellOf_inj), initOf ringCells ringToks)

/-- The tokens of the device's own cells. -/
def toks (c : Dev nD) : sProp 𝕄 :=
  iprop((bigSep Finset.univ fun k : CI => dutyTok ER (ownC c k) 0 0) ∗ (bigSep Finset.univ fun e : Fin 32 => dutyTok ER (barC c) 0 e))

def G (c : Dev nD) : sProp 𝕄 :=
  iprop((bigSep Finset.univ fun k : KI => roundState ER (Rd m) (kcell (c, k)) 0)
    ∗ ((bigSep Finset.univ fun k : KI => atPos ER (kcell (c, k)) 0 ∅ 0) ∗ (bigSep Finset.univ fun k : KI => reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bs_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c) = (Sems0 c : sProp 𝕄) := by
  unfold Sems0
  rw [unscopedSems0_eq, bigSep_univ_equiv (Equiv.optionEquivSumPUnit.{0, 0} CI).symm, bigSep_univ_sum, bigSep_univ_of_subsingleton (PUnit.unit)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (Pos c ∗ (bigSep Finset.univ fun k : KI => reached ER (kcell (c, k)) 0)) ∗ toks c) := by
  unfold G Pos
  iintro ⟨Hos, Hus, Hst, Hat, Htok⟩
  ihave Hv := (Entails.of_eq (sems0_eq (F := F) c)) $$ [Hos Hus]
  · isplitl [Hos] <;> iassumption
  unfold Sems0
  imod (show iprop((bigSep Finset.univ fun k : KI => semVal (kcell (c, k)) 0) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) from by
        rw [← bs_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those who pay -/

/-- A device and a step, against the device the step leads to and the step. -/
def stepE : Dev nD × Fin 32 ≃ Dev nD × Fin 32 where
  toFun p := ((p.1 : Fin 32) + p.2, p.2)
  invFun p := ((p.1 : Fin 32) - p.2, p.2)
  left_inv p := Prod.ext ((by decide +kernel : ∀ c d : Fin 32, c + d - d = c) p.1 p.2) rfl
  right_inv p := Prod.ext ((by decide +kernel : ∀ c d : Fin 32, c - d + d = c) p.1 p.2) rfl

/-- The same, the step back. -/
def backE : Dev nD × Fin 32 ≃ Dev nD × Fin 32 where
  toFun p := ((p.1 : Fin 32) + p.2, -p.2)
  invFun p := ((p.1 : Fin 32) + p.2, -p.2)
  left_inv p := Prod.ext ((by decide +kernel : ∀ c d : Fin 32, c + d + -d = c) p.1 p.2) ((by decide +kernel : ∀ d : Fin 32, - -d = d) p.2)
  right_inv p := Prod.ext ((by decide +kernel : ∀ c d : Fin 32, c + d + -d = c) p.1 p.2) ((by decide +kernel : ∀ d : Fin 32, - -d = d) p.2)

theorem deal (e : Dev nD × Fin 32 ≃ Dev nD × Fin 32) (Φ : Dev nD → Fin 32 → sProp 𝕄) :
    (bigSep Finset.univ fun c : Dev nD => bigSep Finset.univ fun d : Fin 32 => Φ c d)
      = bigSep Finset.univ fun c : Dev nD => bigSep Finset.univ fun d : Fin 32 => Φ (e (c, d)).1 (e (c, d)).2 := by
  rw [← bigSep_univ_prod (fun p : Dev nD × Fin 32 => Φ p.1 p.2), bigSep_univ_equiv e, bigSep_univ_prod]

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

theorem toks_eq (c : Dev nD) : (toks c : sProp 𝕄)
    = iprop(((bigSep Finset.univ fun i : Fin 5 => dutyTok ER (locC c i) 0 0) ∗ (bigSep Finset.univ fun d : Fin 32 => dutyTok ER (famC c 0 d) 0 0)
      ∗ (bigSep Finset.univ fun d : Fin 32 => dutyTok ER (famC c 1 d) 0 0) ∗ (bigSep Finset.univ fun d : Fin 32 => dutyTok ER (famC c 2 d) 0 0)
      ∗ (bigSep Finset.univ fun d : Fin 32 => dutyTok ER (famC c 3 d) 0 0)) ∗ (bigSep Finset.univ fun e : Fin 32 => dutyTok ER (barC c) 0 e)) := by
  unfold toks
  rw [bigSep_univ_sum, bigSep_univ_prod, bigSep_four]
  rfl

theorem toks_around : (bigSep Finset.univ fun c : Dev nD => (toks c : sProp 𝕄)) ⊢ bigSep Finset.univ fun c : Dev nD => payToks c := by
  unfold payToks
  simp only [toks_eq, bs_sep']
  rw [deal stepE (fun c d => dutyTok ER (famC c 1 d) 0 0), deal stepE (fun c d => dutyTok ER (famC c 3 d) 0 0), deal backE (fun c e => dutyTok ER (barC c) 0 e)]
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

/-! ## All cells at once -/

/-- What the launch's one global step gives a device. -/
def G' (c : Dev nD) : sProp 𝕄 := iprop((∃ K, records m K) ∗ Pos c ∗ payToks c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bs_sep']; exact bigSep_mono h)

theorem regroup :
    (bigSep Finset.univ fun c : Dev nD => iprop((bigSep Finset.univ fun k => iprop(∃ κ : ℕ, cellInv ER (Rd m) κ (kcell (c, k))))
          ∗ (Pos c ∗ (bigSep Finset.univ fun k : KI => reached ER (kcell (c, k)) 0)) ∗ toks c) : sProp 𝕄)
      ⊢ bigSep Finset.univ (G' m) := by
  simp only [bs_sep']
  rw [← bigSep_univ_prod (fun ck : Dev nD × KI => iprop(∃ κ : ℕ, cellInv ER (Rd m) κ (kcell ck))),
    ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd m) κ (kcell ck) : sProp 𝕄))) $$ HI
  icases HK with ⟨%K, #HI⟩
  ihave Htk := (toks_around (F := F)) $$ Htok
  iapply (with_persistent (R := records m K) (Φ := fun c => iprop(Pos c ∗ payToks c)) (Ψ := G' m) fun c _ => by
    unfold G'
    iintro ⟨#HK, HP⟩
    isplitr; · iexists K; iexact HK
    iexact HP)
  isplitr
  · unfold records; rw [bs_sep']
    isplitl; · iexact HI
    iexact HR
  · rw [bs_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the devices owe each other -/

theorem sum_apply (S : Finset (Fin 32)) (f : Fin 32 → CellTallies nD τ sig Unit) (g : GSem nD τ sig) : (∑ d ∈ S, f d) g () = ∑ d ∈ S, f d g () := by
  rw [Finset.sum_apply, Finsupp.finset_sum_apply]

theorem tB_bar (c c' d : Fin 32) : tB c' d (barC c) () = if c' + d = c then 1 else 0 := by
  unfold tB; rw [tallyAt_apply]
  by_cases h : c' + d = c
  · rw [if_pos h, if_pos ⟨by rw [h], rfl⟩]
  · rw [if_neg h, if_neg]
    rintro ⟨h1, -⟩
    exact h (Prod.mk.inj (Prod.mk.inj h1).1).1.symm
theorem tR_bar (c c' d : Fin 32) : tR c' d (barC c) () = 0 := by
  unfold tR; rw [tallyAt_apply, if_neg]; rintro ⟨h1, -⟩; cases (Prod.mk.inj h1).2
theorem tG_bar (c c' d : Fin 32) : tG c' d (barC c) () = 0 := by
  unfold tG; rw [tallyAt_apply, if_neg]; rintro ⟨h1, -⟩; cases (Prod.mk.inj h1).2
theorem tB_fam (c c' d e : Fin 32) (a : Fin 4) : tB c' e (famC c a d) () = 0 := by
  unfold tB; rw [tallyAt_apply, if_neg]; rintro ⟨h1, -⟩; cases (Prod.mk.inj h1).2

theorem fam_at (c c' d e : Fin 32) (a b : Fin 4) : tallyAt (famC (c' + e) b e) () NC (famC c a d) () = if (c' + d = c ∧ a = b) ∧ e = d then NC else 0 := by
  rw [tallyAt_apply]
  by_cases h : (c' + d = c ∧ a = b) ∧ e = d
  · obtain ⟨⟨h1, h2⟩, h3⟩ := h
    subst h1; subst h2; subst h3
    rw [if_pos ⟨rfl, rfl⟩, if_pos ⟨⟨rfl, rfl⟩, rfl⟩]
  · rw [if_neg h, if_neg]
    rintro ⟨h1, -⟩
    have h2 := Prod.mk.inj h1
    have h3 : (c : Fin 32) = c' + e := (Prod.mk.inj h2.1).1
    have h4 : dsem (.inr (a, d)) = dsem (.inr (b, e)) := by injection h2.2
    have h5 := Sum.inr.inj (dsem_injective h4)
    have h6 := Prod.mk.inj h5
    exact h ⟨⟨by rw [h6.2, h3], h6.1⟩, h6.2.symm⟩

theorem owed_bar (c c' : Fin 32) : O₀ c' (barC c) () = ∑ d ∈ St, if c' + d = c then 1 else 0 := by
  unfold O₀
  rw [Pi.add_apply, Finsupp.add_apply, Pi.add_apply, Finsupp.add_apply, sum_apply, sum_apply, sum_apply,
    Finset.sum_eq_zero (fun d _ => tG_bar c c' d), Finset.sum_eq_zero (fun d _ => tR_bar c c' d), Nat.zero_add, Nat.zero_add]
  exact Finset.sum_congr rfl fun d _ => tB_bar c c' d

theorem fam_sum (c c' d : Fin 32) (hd : d ≠ 0) (a b : Fin 4) :
    (∑ e ∈ St, tallyAt (famC (c' + e) b e) () NC (famC c a d) ()) = if c' + d = c ∧ a = b then NC else 0 := by
  rw [Finset.sum_congr rfl fun e _ => fam_at c c' d e a b, Finset.sum_eq_single d]
  · by_cases h : c' + d = c ∧ a = b
    · rw [if_pos h, if_pos ⟨h, rfl⟩]
    · rw [if_neg h, if_neg (fun h' => h h'.1)]
  · intro e _ he; rw [if_neg (fun h' => he h'.2)]
  · intro h; exact absurd (Finset.mem_erase.mpr ⟨hd, Finset.mem_univ _⟩) h

theorem owed_fam (c c' d : Fin 32) (hd : d ≠ 0) (a : Fin 4) (ha : a = 1 ∨ a = 3) : O₀ c' (famC c a d) () = if c' + d = c then NC else 0 := by
  unfold O₀
  rw [Pi.add_apply, Finsupp.add_apply, Pi.add_apply, Finsupp.add_apply, sum_apply, sum_apply, sum_apply,
    Finset.sum_eq_zero (fun e _ => tB_fam c c' d e a), Nat.add_zero]
  unfold tG tR
  rw [fam_sum c c' d hd a 3, fam_sum c c' d hd a 1]
  rcases ha with rfl | rfl
  · rw [if_neg (fun h => absurd h.2 (by decide)), Nat.zero_add]; simp only [and_true]
  · rw [if_neg (c := c' + d = c ∧ (3 : Fin 4) = 1) (fun h => absurd h.2 (by decide)), Nat.add_zero]; simp only [and_true]

theorem launch_bar (c : Dev nD) :
    tallyOn (barC c) (launchCredit (Pipeline.owing O₀) 0 (barC c)) = (tallyAt (barC c) () 31 : CellTallies nD τ sig Unit) := by
  unfold tallyAt; refine congrArg _ (Finsupp.ext fun u => ?_); cases u
  rw [Pipeline.launchCredit_owing, Finsupp.single_eq_same, Finset.sum_congr rfl fun d _ => owed_bar c d]
  exact (by decide +kernel : ∀ c : Fin 32, (∑ c' : Fin 32, ∑ d ∈ St, if c' + d = c then 1 else 0) = 31) c

theorem launch_fam (c : Dev nD) (d : Fin 32) (hd : d ≠ 0) (a : Fin 4) (ha : a = 1 ∨ a = 3) :
    tallyOn (famC c a d) (launchCredit (Pipeline.owing O₀) 0 (famC c a d)) = (tallyAt (famC c a d) () NC : CellTallies nD τ sig Unit) := by
  unfold tallyAt; refine congrArg _ (Finsupp.ext fun u => ?_); cases u
  rw [Pipeline.launchCredit_owing, Finsupp.single_eq_same, Finset.sum_congr rfl fun c' _ => owed_fam c c' d hd a ha, Finset.sum_eq_single ((c : Fin 32) - d)]
  · rw [if_pos ((by decide +kernel : ∀ c d : Fin 32, c - d + d = c) c d)]
  · intro c' _ h; rw [if_neg]; intro h'; exact h ((by decide +kernel : ∀ c c' d : Fin 32, c' + d = c → c' = c - d) c c' d h')
  · intro h; exact absurd (Finset.mem_univ _) h

theorem pick (Φ : KI → sProp 𝕄) : bigSep Finset.univ Φ
    ⊢ iprop(Φ none ∗ bigSep St (fun d => Φ (some (.inr (1, d)))) ∗ bigSep St (fun d => Φ (some (.inr (3, d))))) := by
  rw [bigSep_KI]
  iintro ⟨HB, -, -, ⟨-, H1⟩, -, -, H3⟩
  isplitl [HB]; · iexact HB
  isplitl [H1]; · iexact H1
  iexact H3

theorem creds (c : Dev nD) : (Pipeline.launchCred O₀ c : sProp 𝕄) ⊢ Crd c := by
  unfold Pipeline.launchCred Crd
  refine (bigSep_subset (Finset.subset_univ (Finset.univ.map ⟨ksem, ksem_injective⟩))).trans ?_
  rw [bigSep_map]
  refine BIBase.Entails.trans (pick (F := F) fun k => cred (tallyOn (kcell (c, k)) (launchCredit (Pipeline.owing O₀) 0 (kcell (c, k))))) ?_
  have h (a : Fin 4) (ha : a = 1 ∨ a = 3) : (bigSep St (fun d => cred (tallyOn (famC c a d) (launchCredit (Pipeline.owing O₀) 0 (famC c a d)))) : sProp 𝕄)
      ⊢ bigSep St (fun d => cred (tallyAt (famC c a d) () NC)) :=
    bigSep_mono fun d hd => Entails.of_eq (congrArg cred (launch_fam c d (Finset.ne_of_mem_erase hd) a ha))
  iintro ⟨HB, H1, H3⟩
  isplitl [HB]
  · iapply (Entails.of_eq (congrArg cred (launch_bar c))); iexact HB
  isplitl [H1]
  · iapply (h 1 (.inl rfl)); iexact H1
  · iapply (h 3 (.inr rfl)); iexact H3

/-! ## The launch's side conditions -/

theorem given_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Given m c ∗ emp) := by
  rw [Pipeline.unscopedRestP_none, unscopedRest0_eq]
  iintro ⟨HA, Hlev, Hcr, -, HG⟩
  ihave Hc := (creds (F := F) c) $$ Hcr
  unfold G' Given Env
  icases HG with ⟨HK, HP, HT⟩
  imodintro
  isplitl
  · isplitl [HK Hlev]
    · isplitl [HK]; · iexact HK
      iexact Hlev
    isplitl [HP]; · iexact HP
    isplitl [HT]; · iexact HT
    isplitl [Hc]; · iexact Hc
    unfold Args; iexact HA
  · iempintro

theorem phi0_intro (c : Dev nD) :
    iprop(Given m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

def Left (c : Dev nD) : sProp 𝕄 := iprop(unscopedSems0 c ∗ Args m c)

theorem phi1_exit (c : Dev nD) :
    (dats m ρ 0 c).Φ (Fin.last cfg0.N) ⊢ iprop(Left m c ∗ Pipeline.ownSems0 osem c ∗ Pipeline.scopedRest cfg0.spec c) := by
  rw [show (dats m ρ 0 c).Φ (Fin.last cfg0.N) = Φ₁ m c from rfl, scopedRest0_eq]
  unfold Φ₁ Left Scr
  rw [← sems0_eq]
  iintro ⟨⟨HO, HU⟩, HA, HS⟩
  isplitl [HU HA]
  · isplitl [HU]; · iexact HU
    iexact HA
  isplitl [HO]; · iexact HO
  iexact HS

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

/-- Every final state: the windows' arrays at the computed contents, the copied arguments as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = woA m c ∧ r.2.mem ((c : Thread nD τ).loc main_arg3) = kA m c ∧ r.2.mem ((c : Thread nD τ).loc main_arg4) = vA m c

def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = woA m c ∧ s.mem ((c : Thread nD τ).loc main_arg3) = kA m c ∧ s.mem ((c : Thread nD τ).loc main_arg4) = vA m c

/-- What is left on a device says what its memory holds. -/
theorem left_read (c : Dev nD) (s' : Phys nD τ sig (Elt F)) :
    iprop(Left m c ∗ emp ∗ SI s') ⊢ |={Set.univ}=> (iprop(⌜QY m c s'.mem⌝ ∗ SI s') : sProp 𝕄) := by
  have h2 := SI_pointsTo_agree (Ix := Unit) (Name := ℕ) (U := UU) (Lvl := ℕ) (st := s') (ℓ := (c : Thread nD τ).loc main_arg2) (I := Finset.univ) (q := fullShare) (f := woA m c)
  have h3 := SI_pointsTo_agree (Ix := Unit) (Name := ℕ) (U := UU) (Lvl := ℕ) (st := s') (ℓ := (c : Thread nD τ).loc main_arg3) (I := Finset.univ) (q := fullShare) (f := kA m c)
  have h4 := SI_pointsTo_agree (Ix := Unit) (Name := ℕ) (U := UU) (Lvl := ℕ) (st := s') (ℓ := (c : Thread nD τ).loc main_arg4) (I := Finset.univ) (q := fullShare) (f := vA m c)
  unfold Left Args
  iintro ⟨⟨HU, H2, H3, H4⟩, -, HSI⟩
  imod (Pipeline.unscopedSems0_read (X := unscopedSems0 c) (c := c) fupd_intro s') $$ [HU HSI] with ⟨%h0, HSI⟩
  · isplitl [HU] <;> iassumption
  ihave %e2 := h2 $$ [HSI H2]
  · isplitl [HSI] <;> iassumption
  ihave %e3 := h3 $$ [HSI H3]
  · isplitl [HSI] <;> iassumption
  ihave %e4 := h4 $$ [HSI H4]
  · isplitl [HSI] <;> iassumption
  imodintro
  isplitr
  · ipureintro
    exact ⟨h0, funext fun i => e2 i (Finset.mem_univ i), funext fun i => e3 i (Finset.mem_univ i), funext fun i => e4 i (Finset.mem_univ i)⟩
  iexact HSI

theorem fund : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

set_option maxRecDepth 8000 in
/-- From any memory with zero counters, every weakly fair execution of the mesh ends, each device's result array holds
    what its body computes, the arguments are as they were, and every counter is at zero. -/
theorem run_main : θ_run defs (onTc (τ := τ) (main (F := F))) (s₀ m ρ) (fun r => QC m ρ r ∧ r.2.sem = fun _ => 0) := by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := ?_)
    (hbody := ?_) (hne := ?_) (harr := ?_) (hstage := ?_) (hshare := ?_)
    (hdistinct := ?_)
    (O₀ := O₀) (howed₀ := ?_) (howedN := ?_)
    (L := L) (lv := lv) (hL := L_of_ne) (hwaits := ?_)
    (G := G m) (G' := G' m) (u₀ := u₀)
    (hu₀ := ?_)
    (hglob := ?_)
    (hA := ?_) (hpf := ?_)
    (X := Given m) (Y := Left m) (Z := fun _ => iprop(emp))
    (hX := ?_) (hin := ?_) (hout := ?_)
    (QY := QY m)
    (hY := ?_)
    (hQ := ?_)
  · exact fun _ => rfl
  · exact fun c => (body_obligation m ρ c).loose
  · exact fun w => by fin_cases w <;> exact Nat.succ_pos _
  · exact arr_whole0
  · exact stage_whole0
  · exact share_eq m ρ
  · exact winFacts0.arr_inj
  · exact fun _ => rfl
  · exact fun _ => rfl
  · exact waits m ρ
  · exact fund m
  · exact glob m
  · exact fun _ _ => rfl
  · exact fun _ k => k.elim0
  · exact given_intro m ρ
  · exact phi0_intro m ρ
  · exact phi1_exit m ρ
  · exact left_read m
  · exact fun _ h hs => ⟨fun c => ⟨fun w => (h c).1 w, (h c).2.2.2⟩, sem_eq_zero hs fun c => (h c).2.2.1⟩

end Cert.KernelIdeal.Pf
-- ==== Proof.Value.KHead.lean ====
/-
  What one head of the kernel computes, read at an index: the quotient of two plain sums over the 4096 keys.
-/
module

public import proofs.«01_k».proof.Proof.KernelIdeal.Sched
public import Idealize.ShloMosaic.Lib.Pointwise
public import Idealize.ShloMosaic.Lib.Pointwise.IndexBridge

@[expose] public section

set_option maxRecDepth 16384

noncomputable section

namespace Cert.KernelIdeal.Val

open Cert.KernelIdeal Cert.KernelIdeal.Gen Cert.KernelIdeal.Pf
open Idealize.ShloMosaic

/-- The whole of a head's work, from its queries, keys and values. -/
def headQ {F : FTy → Type} [FloatOps F] (q : FVec F S256x128 .f32) (k v : FVec F S4096x128 .bf16) : FVec F S256x128 .bf16 :=
  have s : FVec F S256x4096 .f32 := matmul dot_S256x128_S4096x128_S256x4096_1_1_0_0_n_n none
    (truncf .bf16 q bitsLt_bf16_f32) k (constant S256x4096 .f32 0x00000000#32)
  have p : FVec F S256x4096 .bf16 := exp (truncf .bf16 s bitsLt_bf16_f32)
  have l : FVec F S256 .f32 := multiReduction .add [1] S256 (extf .f32 p bitsLt_bf16_f32) 0x00000000#32 reduces_S256x4096_S256 (.inl rfl) rfl
  have o : FVec F S256x128 .f32 := matmul dot_S256x4096_S4096x128_S256x128_1_0_0_1_n_n none p v (constant S256x128 .f32 0x00000000#32)
  shapeCast S256x128 (truncf .bf16 (divf o (broadcastTo S256x128 (shapeCast S256x1 l shapeCasts_S256_S256x1) broadcasts_S256x1_S256x128)) bitsLt_bf16_f32)
    shapeCasts_S256x128_S256x128

theorem headQ_apply (q : FVec Ideal S256x128 .f32) (k v : FVec Ideal S4096x128 .bf16) (r : Fin 256) (d : Fin 128) :
    headQ q k v (ix2 r d)
      = Ideal.div (∑ t : Fin 4096, Ideal.exp (∑ e : Fin 128, q (ix2 r e) * k (ix2 t e)) * v (ix2 t d))
          (∑ t : Fin 4096, Ideal.exp (∑ e : Fin 128, q (ix2 r e) * k (ix2 t e))) := by
  pointwise [headQ]

theorem qv_apply (x : FVec Ideal S1x256x1024 .f32) (w : FVec Ideal S1024x1024 .f32) (r : Fin 256) (j : Fin 1024) :
    k0_pay1 (F := Ideal) x w (ix2 r j)
      = (∑ k : Fin 1024, x (ix3 0 r k) * w (ix2 k j)) * Ideal.ofBits .f32 0x3DB504F3#32 := by
  pointwise [k0_pay1]

theorem kv_apply (f : S1x4096x128.Idx → EReal) (t : Fin 4096) (d : Fin 128) :
    k0_pay2 (F := Ideal) f (ix2 t d) = f (ix3 0 t d) ∧ k0_pay3 (F := Ideal) f (ix2 t d) = f (ix3 0 t d)
      ∧ k0_pay4 (F := Ideal) f (ix2 t d) = f (ix3 0 t d) ∧ k0_pay5 (F := Ideal) f (ix2 t d) = f (ix3 0 t d) := by
  pointwise [k0_pay2, k0_pay3, k0_pay4, k0_pay5]

end Cert.KernelIdeal.Val

end
-- ==== Proof.Value.KOut.lean ====
/-
  The kernel's result read at an index: every device holds the sum over the devices of their products.
-/
module

public import proofs.«01_k».proof.Proof.Value.KHead
public import Idealize.ShloMosaic.Lib.Pipeline.Value

@[expose] public section

set_option maxRecDepth 16384

noncomputable section

namespace Cert.KernelIdeal.Val

open Cert.KernelIdeal Cert.KernelIdeal.Gen Cert.KernelIdeal.Pf
open Idealize.ShloMosaic

variable (m : (ℓ : Loc nD τ sig) → Buf (Elt Ideal) ℓ)

/-- The scaled logit of row `r`, query column block `o` and key `t` in head `H` of the keys. -/
def lgt (c : Dev nD) (o : ℕ) (ho : o + 128 ≤ 1024) (H : Fin 64) (r : Fin 256) (t : Fin 4096) : EReal :=
  ∑ e : Fin 128, ((∑ k : Fin 1024, xstg m c (ix3 0 r k) * wqstg m c (ix2 k ⟨o + e.val, by omega⟩)) * Ideal.ofBits .f32 0x3DB504F3#32)
    * kA m c (ix4 0 t H e)

/-- One element of a head's output. -/
def hout (c : Dev nD) (o : ℕ) (ho : o + 128 ≤ 1024) (H : Fin 64) (r : Fin 256) (d : Fin 128) : EReal :=
  Ideal.div (∑ t : Fin 4096, Ideal.exp (lgt m c o ho H r t) * vA m c (ix4 0 t H d)) (∑ t : Fin 4096, Ideal.exp (lgt m c o ho H r t))

theorem slice_apply (q : FVec Ideal S256x1024 .f32) (o : ℕ) (ho : o + 128 ≤ 1024) (hs : S256x1024.Slices ![0, o] S256x128)
    (r : Fin 256) (e : Fin 128) :
    extractStridedSlice S256x128 ![0, o] q hs (ix2 r e) = q (ix2 r ⟨o + e.val, by omega⟩) := by
  pointwise

/-- A copied head, at an index. -/
theorem kh_apply (c : Dev nD) (g : Fin 2) (H : Fin 64) (hH : H.val = 2 * c.val + g.val) (t : Fin 4096) (e : Fin 128) :
    hd1 g (KM m c) (ix3 0 t e) = kA m c (ix4 0 t H e) ∧ hd1 g (VM m c) (ix3 0 t e) = vA m c (ix4 0 t H e) := by
  have hx : hIdx c (ValueIdx.ix3 g t e) = ix4 (0 : Fin 1) t H e := by
    funext i
    match i with
    | ⟨0, _⟩ => rfl
    | ⟨1, _⟩ => rfl
    | ⟨2, _⟩ => exact Fin.ext hH.symm
    | ⟨3, _⟩ => rfl
  exact ⟨congrArg (kA m c) hx, congrArg (vA m c) hx⟩

theorem head_eq (c : Dev nD) (o : ℕ) (ho : o + 128 ≤ 1024) (hs : S256x1024.Slices ![0, o] S256x128) (H : Fin 64)
    (k v : FVec Ideal S4096x128 .bf16) (hk : ∀ t e, k (ix2 t e) = kA m c (ix4 0 t H e)) (hv : ∀ t e, v (ix2 t e) = vA m c (ix4 0 t H e))
    (r : Fin 256) (d : Fin 128) :
    headQ (extractStridedSlice S256x128 ![0, o] (qv m c) hs) k v (ix2 r d) = hout m c o ho H r d := by
  rw [headQ_apply]
  unfold hout lgt
  have hq : ∀ e : Fin 128, extractStridedSlice S256x128 ![0, o] (qv m c) hs (ix2 r e)
      = (∑ k : Fin 1024, xstg m c (ix3 0 r k) * wqstg m c (ix2 k ⟨o + e.val, by omega⟩)) * Ideal.ofBits .f32 0x3DB504F3#32 := fun e => by
    rw [slice_apply _ o ho]
    exact qv_apply _ _ _ _
  simp only [hq, hk, hv]

theorem HD_apply (c : Dev nD) (h : Fin 8) (H : Fin 64) (hH : H.val = 2 * c.val + h.val / 4) (r : Fin 256) (d : Fin 128) :
    HD m c h.val (ix2 r d) = hout m c (128 * h.val) (by omega) H r d := by
  have k0 : ∀ (f : S1x4096x128.Idx → EReal) (t : Fin 4096) (d : Fin 128), k0_pay2 (F := Ideal) f (ix2 t d) = f (ix3 0 t d) :=
    fun f t d => (kv_apply f t d).1
  have k1 : ∀ (f : S1x4096x128.Idx → EReal) (t : Fin 4096) (d : Fin 128), k0_pay3 (F := Ideal) f (ix2 t d) = f (ix3 0 t d) :=
    fun f t d => (kv_apply f t d).2.1
  have v0 : ∀ (f : S1x4096x128.Idx → EReal) (t : Fin 4096) (d : Fin 128), k0_pay4 (F := Ideal) f (ix2 t d) = f (ix3 0 t d) :=
    fun f t d => (kv_apply f t d).2.2.1
  have v1 : ∀ (f : S1x4096x128.Idx → EReal) (t : Fin 4096) (d : Fin 128), k0_pay5 (F := Ideal) f (ix2 t d) = f (ix3 0 t d) :=
    fun f t d => (kv_apply f t d).2.2.2
  match h, hH with
  | ⟨0, _⟩, hH => exact head_eq m c 0 (by omega) _ H _ _ (fun t e => (k0 _ t e).trans (kh_apply m c 0 H (by simpa using hH) t e).1) (fun t e => (v0 _ t e).trans (kh_apply m c 0 H (by simpa using hH) t e).2) r d
  | ⟨1, _⟩, hH => exact head_eq m c 128 (by omega) _ H _ _ (fun t e => (k0 _ t e).trans (kh_apply m c 0 H (by simpa using hH) t e).1) (fun t e => (v0 _ t e).trans (kh_apply m c 0 H (by simpa using hH) t e).2) r d
  | ⟨2, _⟩, hH => exact head_eq m c 256 (by omega) _ H _ _ (fun t e => (k0 _ t e).trans (kh_apply m c 0 H (by simpa using hH) t e).1) (fun t e => (v0 _ t e).trans (kh_apply m c 0 H (by simpa using hH) t e).2) r d
  | ⟨3, _⟩, hH => exact head_eq m c 384 (by omega) _ H _ _ (fun t e => (k0 _ t e).trans (kh_apply m c 0 H (by simpa using hH) t e).1) (fun t e => (v0 _ t e).trans (kh_apply m c 0 H (by simpa using hH) t e).2) r d
  | ⟨4, _⟩, hH => exact head_eq m c 512 (by omega) _ H _ _ (fun t e => (k1 _ t e).trans (kh_apply m c 1 H (by simpa using hH) t e).1) (fun t e => (v1 _ t e).trans (kh_apply m c 1 H (by simpa using hH) t e).2) r d
  | ⟨5, _⟩, hH => exact head_eq m c 640 (by omega) _ H _ _ (fun t e => (k1 _ t e).trans (kh_apply m c 1 H (by simpa using hH) t e).1) (fun t e => (v1 _ t e).trans (kh_apply m c 1 H (by simpa using hH) t e).2) r d
  | ⟨6, _⟩, hH => exact head_eq m c 768 (by omega) _ H _ _ (fun t e => (k1 _ t e).trans (kh_apply m c 1 H (by simpa using hH) t e).1) (fun t e => (v1 _ t e).trans (kh_apply m c 1 H (by simpa using hH) t e).2) r d
  | ⟨7, _⟩, hH => exact head_eq m c 896 (by omega) _ H _ _ (fun t e => (k1 _ t e).trans (kh_apply m c 1 H (by simpa using hH) t e).1) (fun t e => (v1 _ t e).trans (kh_apply m c 1 H (by simpa using hH) t e).2) r d

/-- The heads side by side: column `128 h + d` is column `d` of head `h`. -/
theorem AT_apply (c : Dev nD) (H : Fin 64) (k : Fin 1024) (hH : H.val = 2 * c.val + k.val / 512) (r : Fin 256) :
    AT m c (ix2 r k) = hout m c (128 * (k.val / 128)) (by omega) H r ⟨k.val % 128, by omega⟩ := by
  have h := HD_apply m c ⟨k.val / 128, by omega⟩ H (by show H.val = 2 * c.val + k.val / 128 / 4; omega) r ⟨k.val % 128, by omega⟩
  rw [← h, ix2_eq_valueIdx r (⟨k.val % 128, by omega⟩ : Fin 128)]
  rfl

theorem ps_apply (w : S1024x1024.Idx → EReal) (a : FVec Ideal S256x1024 .bf16) (b : Fin 32) (i : Fin 8) (C : Fin 1024) :
    k0_pay17 (F := Ideal) (k0_pay6 w) a (ix3 b i C)
      = ∑ k : Fin 1024, a (ix2 ⟨b.val * 8 + i.val, by omega⟩ k) * w (ix2 k C) := by
  pointwise [k0_pay17, k0_pay6]

theorem sum_slots (f : S32x8x1024.Idx → EReal) (i : Fin 8) (C : Fin 1024) :
    k0_pay53 (F := Ideal) (k0_pay50 f) (ix3 0 i C) = ∑ j : Fin 32, f (ix3 j i C)
      ∧ k0_pay52 (F := Ideal) (k0_pay51 f) (ix3 0 i C) = ∑ j : Fin 32, f (ix3 j i C) := by
  constructor
  · pointwise [k0_pay53, k0_pay50]
  · pointwise [k0_pay52, k0_pay51, k0_pay50]

theorem wide_apply (f : S1x8x1024.Idx → EReal) (i : Fin 8) (C : Fin 1024) :
    k0_pay54 (F := Ideal) f (ix3 0 i C) = f (ix3 0 i C) := by
  pointwise [k0_pay54]

/-- The summed slots of a landing buffer: every device's chunk, in whatever order. -/
theorem RS_sum (b : Fin 32) (i : Fin 8) (C : Fin 1024) :
    ∑ j : Fin 32, RS m b (ix3 j i C)
      = ∑ j : Fin 32, ∑ k : Fin 1024, AT m j (ix2 ⟨b.val * 8 + i.val, by omega⟩ k) * woA m j (ix2 k C) := by
  let G : Fin 32 → EReal := fun j => ∑ k : Fin 1024, AT m j (ix2 ⟨b.val * 8 + i.val, by omega⟩ k) * woA m j (ix2 k C)
  have h : ∀ j : Fin 32, RS m b (ix3 j i C) = G (Equiv.subLeft b j) := fun j => by
    refine Eq.trans ?_ (ps_apply (woA m (b - j)) (AT m (b - j)) b i C)
    rw [ix3_eq_valueIdx b i C]
    rfl
  exact (Finset.sum_congr rfl fun j _ => h j).trans (Equiv.sum_comp (Equiv.subLeft b) G)

theorem OUT_apply (c : Dev nD) (R : Fin 256) (C : Fin 1024) :
    OUT m c (ix3 0 R C) = ∑ j : Fin 32, ∑ k : Fin 1024, AT m j (ix2 R k) * woA m j (ix2 k C) := by
  have hR : ∀ h, (⟨R.val / 8 * 8 + R.val % 8, h⟩ : Fin 256) = R := fun h => Fin.ext (by show R.val / 8 * 8 + R.val % 8 = R.val; omega)
  have key := RS_sum m ⟨R.val / 8, by omega⟩ ⟨R.val % 8, by omega⟩ C
  simp only [hR] at key
  rw [← key]
  by_cases h : R.val / 8 = c.val
  · have e : OUT m c (ix3 0 R C) = k0_pay53 (k0_pay50 (RS m c)) (ValueIdx.ix3 (0 : Fin 1) (⟨R.val % 8, by omega⟩ : Fin 8) C) := if_pos h
    rw [e, ← ix3_eq_valueIdx]
    refine ((sum_slots _ _ _).1).trans ?_
    rw [show (⟨R.val / 8, by omega⟩ : Fin 32) = c from Fin.ext h]
  · have e : OUT m c (ix3 0 R C) = k0_pay54 (sl1 (⟨R.val / 8, by omega⟩ : Fin 32) (AG m)) (ValueIdx.ix3 (0 : Fin 1) (⟨R.val % 8, by omega⟩ : Fin 8) C) := if_neg h
    rw [e, ← ix3_eq_valueIdx]
    refine (wide_apply _ _ _).trans ?_
    refine Eq.trans ?_ ((sum_slots _ _ _).2)
    rw [ix3_eq_valueIdx]
    rfl

end Cert.KernelIdeal.Val

end
-- ==== Proof.Value.KArr.lean ====
/-
  The launch's three windows are whole arrays: what is staged is the argument, and the result array ends as the result.
-/
module

public import proofs.«01_k».proof.Proof.KernelIdeal.Run
public import Idealize.ShloMosaic.Lib.Pipeline.Value

@[expose] public section

noncomputable section

namespace Cert.KernelIdeal.Val

open Cert.KernelIdeal Cert.KernelIdeal.Gen Cert.KernelIdeal.Pf
open Idealize.ShloMosaic

variable {F : FTy → Type} [FloatOps F]

/-- An index of a whole block is itself in the array. -/
theorem emb0 (x : S1x256x1024.Idx) : (win0_0.blk (0 : Fin 1)).view.emb x = x :=
  funext fun a => Fin.ext (by
    show 0 * _ + 1 * (x a).val = (x a).val
    omega)

theorem emb1 (x : S1024x1024.Idx) : (win0_1.blk (0 : Fin 1)).view.emb x = x :=
  funext fun a => Fin.ext (by
    show 0 * _ + 1 * (x a).val = (x a).val
    omega)

theorem emb2 (x : S1x256x1024.Idx) : (win0_2.blk (0 : Fin 1)).view.emb x = x :=
  funext fun a => Fin.ext (by
    show 0 * _ + 1 * (x a).val = (x a).val
    omega)

variable (m : (ℓ : Loc nD τ sig) → Buf (Elt F) ℓ) (ρ : Dev nD → PrngReg)

theorem xstg_eq (c : Dev nD) : xstg m c = m ((c.tc : Thread nD τ).loc main_arg0) :=
  funext fun x => congrArg (m ((c.tc : Thread nD τ).loc main_arg0)) (emb0 x)

theorem wqstg_eq (c : Dev nD) : wqstg m c = m ((c.tc : Thread nD τ).loc main_arg1) :=
  funext fun x => congrArg (m ((c.tc : Thread nD τ).loc main_arg1)) (emb1 x)

theorem finalA_out (c : Dev nD) : finalA m ρ c 2 = OUT m c := by
  refine (dats m ρ 0 c).arrAt_eq_of_cover 2 (OUT m c) (fun t _ => ?_) fun i => ⟨t0_0, rfl, ?_⟩
  · have ht : t = (0 : Fin 1) := Subsingleton.elim (α := Fin 1) _ _
    subst ht
    exact funext fun x => (congrArg (OUT m c) (emb2 x)).symm
  · have h := (win0_2.blk (0 : Fin 1)).view.emb_mem_set i
    rw [emb2] at h
    exact h

end Cert.KernelIdeal.Val

end
-- ==== Proof.Value.RTerm.lean ====
/-
  The reference's result, stage by stage: the operations of the printed program under names, with the running softmax's
  step named once and used four times.
-/
module

public import proofs.«01_k».proof.Proof.Gen.ReferenceIdeal.Run
public import Idealize.ShloMosaic.Lib.Pointwise

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe

variable {F : FTy → Type} [FloatOps F]

/-- The queries, by head. -/
def rQ (x : FVec F S1x256x1024 .f32) (w : FVec F S1024x32768 .f32) : FVec F S1x256x256x128 .f32 :=
  shapeCast _ (Host.dotGeneral dot_S1x256x1024_S1024x32768_S1x256x32768_2_0_01_1_n_n none x w) shapeCasts_S1x256x32768_S1x256x256x128

/-- Keys or values, each head four times over. -/
def rRep (k : FVec F S1x4096x64x128 .f32) : FVec F S1x4096x256x128 .f32 :=
  shapeCast _ (broadcastInDim S1x4096x64x4x128 ![0, 1, 2, 4] bcast_S1x4096x64x128_S1x4096x64x4x128_0_1_2_4 k) shapeCasts_S1x4096x64x4x128_S1x4096x256x128

/-- The scaled logits of a block of keys. -/
def rS (q : FVec F S1x256x256x128 .f32) (k : FVec F S1x1024x256x128 .f32) : FVec F S1x256x256x1024 .f32 :=
  mulf (Host.dotGeneral dot_S1x256x256x128_S1x1024x256x128_S1x256x256x1024_3_3_1_1_02_02 none q k)
    (broadcastInDim S1x256x256x1024 ![] bcast_S_S1x256x256x1024 (constant S_ .f32 0x3DB504F3#32))

/-- The maximum after a block, from the maximum before it. -/
def rM (m : FVec F S1x256x256x1 .f32) (s : FVec F S1x256x256x1024 .f32) : FVec F S1x256x256x1 .f32 :=
  maximumf m (broadcastInDim S1x256x256x1 ![0, 1, 2] bcast_S1x256x256_S1x256x256x1_0_1_2
    (Host.reduce FloatOps.maximumf s (constant S_ .f32 0xFF800000#32) reducesTo_S1x256x256x1024_S1x256x256_d3 h_S_))

/-- The factor that takes the sums before a block to the new maximum. -/
def rA (m : FVec F S1x256x256x1 .f32) (s : FVec F S1x256x256x1024 .f32) : FVec F S1x256x256x1 .f32 :=
  Host.exp (subf m (rM m s))

/-- A block's exponentials. -/
def rP (m : FVec F S1x256x256x1 .f32) (s : FVec F S1x256x256x1024 .f32) : FVec F S1x256x256x1024 .f32 :=
  Host.exp (subf s (broadcastInDim S1x256x256x1024 ![0, 1, 2, 3] bcast_S1x256x256x1_S1x256x256x1024_0_1_2_3 (rM m s)))

/-- The sum of the exponentials after a block. -/
def rL (m l : FVec F S1x256x256x1 .f32) (s : FVec F S1x256x256x1024 .f32) : FVec F S1x256x256x1 .f32 :=
  addf (mulf l (rA m s)) (broadcastInDim S1x256x256x1 ![0, 1, 2] bcast_S1x256x256_S1x256x256x1_0_1_2
    (Host.reduceAdd (rP m s) (constant S_ .f32 0x00000000#32) reducesTo_S1x256x256x1024_S1x256x256_d3 h_S_))

/-- The weighted sum after a block. -/
def rO (m : FVec F S1x256x256x1 .f32) (o : FVec F S1x256x256x128 .f32) (s : FVec F S1x256x256x1024 .f32)
    (v : FVec F S1x1024x256x128 .f32) : FVec F S1x256x256x128 .f32 :=
  addf (mulf o (broadcastInDim S1x256x256x128 ![0, 1, 2, 3] bcast_S1x256x256x1_S1x256x256x128_0_1_2_3
      (transpose S1x256x256x1 [0, 2, 1, 3] (rA m s) transposes_S1x256x256x1_S1x256x256x1_0_2_1_3)))
    (transpose S1x256x256x128 [0, 3, 1, 2]
      (Host.dotGeneral dot_S1x1024x256x128_S1x256x256x1024_S1x256x128x256_1_3_3_2_02_01 none v (rP m s))
      transposes_S1x256x128x256_S1x256x256x128_0_3_1_2)

/-- What the running softmax starts from. -/
def rM0 : FVec F S1x256x256x1 .f32 := broadcastInDim S1x256x256x1 ![] bcast_S_S1x256x256x1 (constant S_ .f32 0xFF800000#32)
def rL0 : FVec F S1x256x256x1 .f32 := broadcastInDim S1x256x256x1 ![] bcast_S_S1x256x256x1 (constant S_ .f32 0x00000000#32)
def rO0 : FVec F S1x256x256x128 .f32 := broadcastInDim S1x256x256x128 ![] bcast_S_S1x256x256x128 (constant S_ .f32 0x00000000#32)

/-- The four blocks of keys or values. -/
def rB0 (k : FVec F S1x4096x256x128 .f32) : FVec F S1x1024x256x128 .f32 :=
  extractStridedSlice S1x1024x256x128 ![0, 0, 0, 0] k slices_S1x4096x256x128_S1x1024x256x128_0_0_0_0
def rB1 (k : FVec F S1x4096x256x128 .f32) : FVec F S1x1024x256x128 .f32 :=
  extractStridedSlice S1x1024x256x128 ![0, 1024, 0, 0] k slices_S1x4096x256x128_S1x1024x256x128_0_1024_0_0
def rB2 (k : FVec F S1x4096x256x128 .f32) : FVec F S1x1024x256x128 .f32 :=
  extractStridedSlice S1x1024x256x128 ![0, 2048, 0, 0] k slices_S1x4096x256x128_S1x1024x256x128_0_2048_0_0
def rB3 (k : FVec F S1x4096x256x128 .f32) : FVec F S1x1024x256x128 .f32 :=
  extractStridedSlice S1x1024x256x128 ![0, 3072, 0, 0] k slices_S1x4096x256x128_S1x1024x256x128_0_3072_0_0

/-- The sums after all four blocks of logits. -/
def rLfin (s0 s1 s2 s3 : FVec F S1x256x256x1024 .f32) : FVec F S1x256x256x1 .f32 :=
  rL (rM (rM (rM rM0 s0) s1) s2) (rL (rM (rM rM0 s0) s1) (rL (rM rM0 s0) (rL rM0 rL0 s0) s1) s2) s3
def rOfin (s0 s1 s2 s3 : FVec F S1x256x256x1024 .f32) (v0 v1 v2 v3 : FVec F S1x1024x256x128 .f32) : FVec F S1x256x256x128 .f32 :=
  rO (rM (rM (rM rM0 s0) s1) s2) (rO (rM (rM rM0 s0) s1) (rO (rM rM0 s0) (rO rM0 rO0 s0 v0) s1 v1) s2 v2) s3 v3

/-- The quotient, and the product with Wo. -/
def rDiv (o : FVec F S1x256x256x128 .f32) (l : FVec F S1x256x256x1 .f32) : FVec F S1x256x256x128 .f32 :=
  Host.divf o (broadcastInDim S1x256x256x128 ![0, 1, 2, 3] bcast_S1x256x256x1_S1x256x256x128_0_1_2_3
    (transpose S1x256x256x1 [0, 2, 1, 3] l transposes_S1x256x256x1_S1x256x256x1_0_2_1_3))
def rEnd (a : FVec F S1x256x256x128 .f32) (w : FVec F S32768x1024 .f32) : FVec F S1x256x1024 .f32 :=
  Host.dotGeneral dot_S1x256x32768_S32768x1024_S1x256x1024_2_0_01_1_n_n none
    (shapeCast _ a shapeCasts_S1x256x256x128_S1x256x32768) w

/-- The whole reference. -/
def rOut (x : FVec F S1x256x1024 .f32) (wq : FVec F S1024x32768 .f32) (wo : FVec F S32768x1024 .f32)
    (k v : FVec F S1x4096x64x128 .f32) : FVec F S1x256x1024 .f32 :=
  rEnd (rDiv
    (rOfin (rS (rQ x wq) (rB0 (rRep k))) (rS (rQ x wq) (rB1 (rRep k))) (rS (rQ x wq) (rB2 (rRep k))) (rS (rQ x wq) (rB3 (rRep k)))
      (rB0 (rRep v)) (rB1 (rRep v)) (rB2 (rRep v)) (rB3 (rRep v)))
    (rLfin (rS (rQ x wq) (rB0 (rRep k))) (rS (rQ x wq) (rB1 (rRep k))) (rS (rQ x wq) (rB2 (rRep k))) (rS (rQ x wq) (rB3 (rRep k))))) wo

set_option maxHeartbeats 4000000 in
theorem res_eq (m : (ℓ : Loc nD τ sig) → Buf (Elt F) ℓ) (c : Dev nD) :
    res_main_v105 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v105
  generalize (m ((c.tc : Thread nD τ).loc main_arg0)) = x0
  generalize (m ((c.tc : Thread nD τ).loc main_arg1)) = x1
  generalize (m ((c.tc : Thread nD τ).loc main_arg2)) = x2
  generalize (m ((c.tc : Thread nD τ).loc main_arg3)) = x3
  generalize (m ((c.tc : Thread nD τ).loc main_arg4)) = x4
  rfl

end Cert.ReferenceIdeal.Val

end
-- ==== Proof.Value.Softmax.lean ====
/-
  Softmax on the extended reals: the quotient of the two plain sums of exponentials, which the kernel computes, and the
  running one that keeps a maximum and rescales, which the reference computes, agree when the logits are real. The
  weighted values may be any extended reals.
-/
module

public import Idealize.ShloMosaic.PureOps.Ideal.Laws

@[expose] public section

noncomputable section

namespace Cert.Attn

open Idealize.ShloMosaic

/-- A real factor that is not negative goes into a sum. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A sum of reals is real. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many reals, one at least, is a real. -/
theorem fold_max_real {ι : Type} (s : Finset ι) (hs : s.Nonempty) (f : ι → ℝ) :
    ∃ M : ℝ, s.fold max (⊥ : EReal) (fun i => (f i : EReal)) = M := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

theorem exp_real (r : ℝ) : Ideal.exp (r : EReal) = ((Real.exp r : ℝ) : EReal) := rfl
theorem exp_bot : Ideal.exp (⊥ : EReal) = 0 := rfl

/-- The state of the running softmax: the maximum, the sum of the exponentials, the weighted sum. -/
structure St where
  m : EReal
  l : EReal
  o : EReal

/-- One block of it: logits `s`, values `v`. -/
def step {n : ℕ} (s v : Fin n → EReal) (t : St) : St where
  m := max t.m (Finset.univ.fold max ⊥ s)
  l := t.l * Ideal.exp (t.m - max t.m (Finset.univ.fold max ⊥ s))
    + ∑ k, Ideal.exp (s k - max t.m (Finset.univ.fold max ⊥ s))
  o := t.o * Ideal.exp (t.m - max t.m (Finset.univ.fold max ⊥ s))
    + ∑ k, v k * Ideal.exp (s k - max t.m (Finset.univ.fold max ⊥ s))

/-- The state before the first block. -/
def st0 : St := ⟨⊥, 0, 0⟩

/-- What a state is after some blocks: `L` and `N` the plain sums over them, both scaled by `exp (-M)`. -/
def Good (t : St) (L : ℝ) (N : EReal) : Prop :=
  ∃ M : ℝ, t.m = M ∧ t.l = ((L * Real.exp (-M) : ℝ) : EReal) ∧ t.o = N * ((Real.exp (-M) : ℝ) : EReal)

/-- A block's own sums, scaled. -/
theorem block_l {n : ℕ} (s : Fin n → ℝ) (M : ℝ) :
    (∑ k, Ideal.exp ((s k : EReal) - (M : EReal))) = (((∑ k, Real.exp (s k)) * Real.exp (-M) : ℝ) : EReal) := by
  rw [Finset.sum_mul, ← sum_real]
  refine Finset.sum_congr rfl fun k _ => ?_
  rw [← EReal.coe_sub, exp_real, sub_eq_add_neg, Real.exp_add]

theorem block_o {n : ℕ} (s : Fin n → ℝ) (v : Fin n → EReal) (M : ℝ) :
    (∑ k, v k * Ideal.exp ((s k : EReal) - (M : EReal)))
      = (∑ k, Ideal.exp (s k : EReal) * v k) * ((Real.exp (-M) : ℝ) : EReal) := by
  rw [sum_mul_real _ _ (Real.exp_pos _).le]
  refine Finset.sum_congr rfl fun k _ => ?_
  rw [← EReal.coe_sub, exp_real, exp_real, sub_eq_add_neg, Real.exp_add, EReal.coe_mul, ← mul_assoc, mul_comm (v k)]

theorem good_first {n : ℕ} (hn : 0 < n) (s : Fin n → ℝ) (v : Fin n → EReal) :
    Good (step (fun k => (s k : EReal)) v st0) (∑ k, Real.exp (s k)) (∑ k, Ideal.exp (s k : EReal) * v k) := by
  obtain ⟨M, hM⟩ := fold_max_real Finset.univ ⟨⟨0, hn⟩, Finset.mem_univ _⟩ s
  have hm : max (⊥ : EReal) (Finset.univ.fold max ⊥ fun k => (s k : EReal)) = M := by rw [hM]; exact max_eq_right bot_le
  refine ⟨M, hm, ?_, ?_⟩
  · show 0 * _ + _ = _
    rw [zero_mul, zero_add, st0, hm, block_l]
  · show 0 * _ + _ = _
    rw [zero_mul, zero_add, st0, hm, block_o]

theorem good_step {n : ℕ} (hn : 0 < n) (s : Fin n → ℝ) (v : Fin n → EReal) {t : St} {L : ℝ} {N : EReal} (ht : Good t L N) :
    Good (step (fun k => (s k : EReal)) v t) (L + ∑ k, Real.exp (s k)) (N + ∑ k, Ideal.exp (s k : EReal) * v k) := by
  obtain ⟨M, h1, h2, h3⟩ := ht
  obtain ⟨B, hB⟩ := fold_max_real Finset.univ ⟨⟨0, hn⟩, Finset.mem_univ _⟩ s
  have hm : max t.m (Finset.univ.fold max ⊥ fun k => (s k : EReal)) = ((max M B : ℝ) : EReal) := by
    rw [hB, h1]; exact (EReal.coe_strictMono.monotone.map_max).symm
  have ha : Ideal.exp (t.m - ((max M B : ℝ) : EReal)) = ((Real.exp M * Real.exp (-max M B) : ℝ) : EReal) := by
    rw [h1, ← EReal.coe_sub, exp_real, sub_eq_add_neg, Real.exp_add]
  have hc : Real.exp (-M) * (Real.exp M * Real.exp (-max M B)) = Real.exp (-max M B) := by
    rw [← mul_assoc, ← Real.exp_add, neg_add_cancel, Real.exp_zero, one_mul]
  refine ⟨max M B, hm, ?_, ?_⟩
  · show t.l * Ideal.exp (t.m - max t.m _) + ∑ k, Ideal.exp ((s k : EReal) - max t.m _) = _
    rw [hm, ha, block_l, h2, ← EReal.coe_mul, ← EReal.coe_add, mul_assoc, hc, add_mul]
  · show t.o * Ideal.exp (t.m - max t.m _) + ∑ k, v k * Ideal.exp ((s k : EReal) - max t.m _) = _
    rw [hm, ha, block_o, h3, mul_assoc, ← EReal.coe_mul, hc,
      ← EReal.right_distrib_of_nonneg_of_ne_top (EReal.coe_nonneg.2 (Real.exp_pos _).le) (EReal.coe_ne_top _)]

/-- The scale drops out of the quotient. -/
theorem good_div {t : St} {L : ℝ} {N : EReal} (ht : Good t L N) (hL : 0 < L) :
    Ideal.div t.o t.l = Ideal.div N (L : EReal) := by
  obtain ⟨M, -, h2, h3⟩ := ht
  have hE : (0 : ℝ) < Real.exp (-M) := Real.exp_pos _
  have hne : ((L * Real.exp (-M) : ℝ) : EReal) ≠ 0 := EReal.coe_ne_zero.2 (mul_pos hL hE).ne'
  have hne' : (L : EReal) ≠ 0 := EReal.coe_ne_zero.2 hL.ne'
  unfold Ideal.div
  rw [h2, h3, if_neg hne, if_neg hne', mul_assoc, ← EReal.coe_inv, ← EReal.coe_inv, ← EReal.coe_mul]
  congr 2
  rw [mul_inv, mul_comm L⁻¹, ← mul_assoc, mul_inv_cancel₀ hE.ne', one_mul]

/-- Four blocks of the running softmax give the plain quotient. -/
theorem online_eq_plain {n : ℕ} (hn : 0 < n) (s0 s1 s2 s3 : Fin n → ℝ) (v0 v1 v2 v3 : Fin n → EReal) (t : St)
    (ht : t = step (fun k => (s3 k : EReal)) v3 (step (fun k => (s2 k : EReal)) v2
      (step (fun k => (s1 k : EReal)) v1 (step (fun k => (s0 k : EReal)) v0 st0)))) :
    Ideal.div t.o t.l
      = Ideal.div
          ((∑ k, Ideal.exp (s0 k : EReal) * v0 k) + (∑ k, Ideal.exp (s1 k : EReal) * v1 k)
            + (∑ k, Ideal.exp (s2 k : EReal) * v2 k) + ∑ k, Ideal.exp (s3 k : EReal) * v3 k)
          ((∑ k, Ideal.exp (s0 k : EReal)) + (∑ k, Ideal.exp (s1 k : EReal))
            + (∑ k, Ideal.exp (s2 k : EReal)) + ∑ k, Ideal.exp (s3 k : EReal)) := by
  have hg := good_step hn s3 v3 (good_step hn s2 v2 (good_step hn s1 v1 (good_first hn s0 v0)))
  rw [← ht] at hg
  have hp : ∀ s : Fin n → ℝ, 0 < ∑ k, Real.exp (s k) := fun s =>
    Finset.sum_pos (fun k _ => Real.exp_pos _) ⟨⟨0, hn⟩, Finset.mem_univ _⟩
  rw [good_div hg (by have := hp s0; have := hp s1; have := hp s2; have := hp s3; linarith)]
  simp only [exp_real, sum_real, ← EReal.coe_add]

end Cert.Attn

end
-- ==== Proof.Value.RPoint.lean ====
/-
  The reference's stages read at an index: one step of its running softmax is the step on extended reals.
-/
module

public import proofs.«01_k».proof.Proof.Value.RTerm
public import proofs.«01_k».proof.Proof.Value.Softmax
public import Idealize.ShloMosaic.Lib.Pipeline.Value

@[expose] public section

set_option maxRecDepth 16384

noncomputable section

namespace Cert.ReferenceIdeal.Val

open Cert.ReferenceIdeal Cert.ReferenceIdeal.Gen
open Idealize.ShloMosaic Cert.Attn

/-- The word of minus infinity. -/
theorem ofBits_neg_inf : Ideal.ofBits .f32 0xFF800000#32 = (⊥ : EReal) := by
  simp [Ideal.ofBits, Ideal.ieee]

theorem rQ_apply (x : FVec Ideal S1x256x1024 .f32) (w : FVec Ideal S1024x32768 .f32) (r H : Fin 256) (e : Fin 128) :
    rQ x w (ix4 0 r H e) = ∑ k : Fin 1024, x (ix3 0 r k) * w (ix2 k ⟨H.val * 128 + e.val, by omega⟩) := by
  pointwise [rQ]

theorem rRep_apply (k : FVec Ideal S1x4096x64x128 .f32) (t : Fin 4096) (H : Fin 256) (e : Fin 128) :
    rRep k (ix4 0 t H e) = k (ix4 0 t ⟨H.val / 4, by omega⟩ e) := by
  have hb : rRep k (ix4 0 t H e)
      = broadcastInDim S1x4096x64x4x128 ![0, 1, 2, 4] bcast_S1x4096x64x128_S1x4096x64x4x128_0_1_2_4 k
          (ix5 0 t ⟨H.val / 4, by omega⟩ ⟨H.val % 4, by omega⟩ e) := by
    refine shapeCast_apply _ _ _ _ ?_
    rw [Shape.rowMajor_val_five, Shape.rowMajor_val_four]
    show (((0 * 4096 + t.val) * 64 + H.val / 4) * 4 + H.val % 4) * 128 + e.val = ((0 * 4096 + t.val) * 256 + H.val) * 128 + e.val
    omega
  rw [hb]
  pointwise

theorem rS_apply (q : FVec Ideal S1x256x256x128 .f32) (k : FVec Ideal S1x1024x256x128 .f32) (H r : Fin 256) (t : Fin 1024) :
    rS q k (ix4 0 H r t) = (∑ e : Fin 128, q (ix4 0 r H e) * k (ix4 0 t H e)) * Ideal.ofBits .f32 0x3DB504F3#32 := by
  pointwise [rS]

/-- A maximum along the last of four axes. -/
theorem reduceMax_last {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) x init h hu (ix3 a b c)
      = Finset.univ.fold max (init (Shape.Idx.first hu)) fun t : Fin n3 => x (ix4 a b c t) := by
  rw [Host.reduce_eq_fold, h.fold_fiber_r4_a3]
  rfl

/-- A maximum with what is laid along a last axis of one. -/
theorem max_bcast (m : FVec Ideal S1x256x256x1 .f32) (y : FVec Ideal S1x256x256 .f32) (H r : Fin 256) :
    (maximumf m (broadcastInDim S1x256x256x1 ![0, 1, 2] bcast_S1x256x256_S1x256x256x1_0_1_2 y)) (ix4 0 H r 0)
      = max (m (ix4 0 H r 0)) (y (ix3 0 H r)) := by
  pointwise

theorem init_max : (constant (F := Ideal) S_ .f32 0xFF800000#32) (Shape.Idx.first h_S_) = (⊥ : EReal) := ofBits_neg_inf

theorem rM_apply (m : FVec Ideal S1x256x256x1 .f32) (s : FVec Ideal S1x256x256x1024 .f32) (H r : Fin 256) :
    rM m s (ix4 0 H r 0) = max (m (ix4 0 H r 0)) (Finset.univ.fold max ⊥ fun t : Fin 1024 => s (ix4 0 H r t)) :=
  (max_bcast m _ H r).trans (congrArg (max (m (ix4 0 H r 0)))
    ((reduceMax_last s (constant S_ .f32 0xFF800000#32) reducesTo_S1x256x256x1024_S1x256x256_d3 h_S_ 0 H r).trans
      (congrArg (fun b : EReal => Finset.univ.fold max b fun t : Fin 1024 => s (ix4 0 H r t)) init_max)))

theorem rP_apply (m : FVec Ideal S1x256x256x1 .f32) (s : FVec Ideal S1x256x256x1024 .f32) (H r : Fin 256) (t : Fin 1024) :
    rP m s (ix4 0 H r t) = Ideal.exp (s (ix4 0 H r t) - rM m s (ix4 0 H r 0)) := by
  pointwise [rP]

theorem rA_apply (m : FVec Ideal S1x256x256x1 .f32) (s : FVec Ideal S1x256x256x1024 .f32) (H r : Fin 256) :
    rA m s (ix4 0 H r 0) = Ideal.exp (m (ix4 0 H r 0) - rM m s (ix4 0 H r 0)) := by
  pointwise [rA]

theorem rL_apply (m l : FVec Ideal S1x256x256x1 .f32) (s : FVec Ideal S1x256x256x1024 .f32) (H r : Fin 256) :
    rL m l s (ix4 0 H r 0) = l (ix4 0 H r 0) * rA m s (ix4 0 H r 0) + ∑ t : Fin 1024, rP m s (ix4 0 H r t) := by
  pointwise [rL]

theorem rO_apply (m : FVec Ideal S1x256x256x1 .f32) (o : FVec Ideal S1x256x256x128 .f32) (s : FVec Ideal S1x256x256x1024 .f32)
    (v : FVec Ideal S1x1024x256x128 .f32) (r H : Fin 256) (d : Fin 128) :
    rO m o s v (ix4 0 r H d)
      = o (ix4 0 r H d) * rA m s (ix4 0 H r 0) + ∑ t : Fin 1024, v (ix4 0 t H d) * rP m s (ix4 0 H r t) := by
  pointwise [rO]

theorem rB_apply (k : FVec Ideal S1x4096x256x128 .f32) (t : Fin 1024) (H : Fin 256) (e : Fin 128) :
    rB0 k (ix4 0 t H e) = k (ix4 0 ⟨t.val, by omega⟩ H e) ∧ rB1 k (ix4 0 t H e) = k (ix4 0 ⟨1024 + t.val, by omega⟩ H e)
      ∧ rB2 k (ix4 0 t H e) = k (ix4 0 ⟨2048 + t.val, by omega⟩ H e) ∧ rB3 k (ix4 0 t H e) = k (ix4 0 ⟨3072 + t.val, by omega⟩ H e) := by
  refine ⟨?_, ?_, ?_, ?_⟩
  · pointwise [rB0]
  · pointwise [rB1]
  · pointwise [rB2]
  · pointwise [rB3]

theorem r0_apply (r H : Fin 256) (d : Fin 128) :
    rM0 (F := Ideal) (ix4 0 H r 0) = ⊥ ∧ rL0 (F := Ideal) (ix4 0 H r 0) = 0 ∧ rO0 (F := Ideal) (ix4 0 r H d) = 0 := by
  refine ⟨?_, ?_, ?_⟩
  · pointwise [rM0]; exact ofBits_neg_inf
  · pointwise [rL0]
  · pointwise [rO0]

theorem rDiv_apply (o : FVec Ideal S1x256x256x128 .f32) (l : FVec Ideal S1x256x256x1 .f32) (r H : Fin 256) (d : Fin 128) :
    rDiv o l (ix4 0 r H d) = Ideal.div (o (ix4 0 r H d)) (l (ix4 0 H r 0)) := by
  pointwise [rDiv]

theorem rEnd_apply (a : FVec Ideal S1x256x256x128 .f32) (w : FVec Ideal S32768x1024 .f32) (r : Fin 256) (c : Fin 1024) :
    rEnd a w (ix3 0 r c)
      = ∑ k : Fin 32768, a (ix4 0 r ⟨k.val / 128, by omega⟩ ⟨k.val % 128, by omega⟩) * w (ix2 k c) := by
  pointwise [rEnd]

/-- The state at one row, head and column. -/
def stAt (m l : FVec Ideal S1x256x256x1 .f32) (o : FVec Ideal S1x256x256x128 .f32) (r H : Fin 256) (d : Fin 128) : St :=
  ⟨m (ix4 0 H r 0), l (ix4 0 H r 0), o (ix4 0 r H d)⟩

theorem stAt_step (m l : FVec Ideal S1x256x256x1 .f32) (o : FVec Ideal S1x256x256x128 .f32) (s : FVec Ideal S1x256x256x1024 .f32)
    (v : FVec Ideal S1x1024x256x128 .f32) (r H : Fin 256) (d : Fin 128) :
    stAt (rM m s) (rL m l s) (rO m o s v) r H d
      = step (fun t => s (ix4 0 H r t)) (fun t => v (ix4 0 t H d)) (stAt m l o r H d) := by
  unfold stAt step
  simp only [rL_apply, rO_apply, rA_apply, rP_apply, rM_apply]

theorem stAt_fin (s0 s1 s2 s3 : FVec Ideal S1x256x256x1024 .f32) (v0 v1 v2 v3 : FVec Ideal S1x1024x256x128 .f32)
    (r H : Fin 256) (d : Fin 128) :
    stAt (rM (rM (rM (rM rM0 s0) s1) s2) s3) (rLfin s0 s1 s2 s3) (rOfin s0 s1 s2 s3 v0 v1 v2 v3) r H d
      = step (fun t => s3 (ix4 0 H r t)) (fun t => v3 (ix4 0 t H d)) (step (fun t => s2 (ix4 0 H r t)) (fun t => v2 (ix4 0 t H d))
          (step (fun t => s1 (ix4 0 H r t)) (fun t => v1 (ix4 0 t H d)) (step (fun t => s0 (ix4 0 H r t)) (fun t => v0 (ix4 0 t H d)) st0))) := by
  have h0 : stAt rM0 rL0 rO0 r H d = st0 := by
    unfold stAt st0
    rw [(r0_apply r H d).1, (r0_apply r H d).2.1, (r0_apply r H d).2.2]
  unfold rLfin rOfin
  rw [stAt_step, stAt_step, stAt_step, stAt_step, h0]

end Cert.ReferenceIdeal.Val

end
-- ==== Proof.Value.RFin.lean ====
/-
  The reference's result at an index, when x, Wq and K hold reals: every head's plain quotient, times Wo.
-/
module

public import proofs.«01_k».proof.Proof.Value.RPoint

@[expose] public section

set_option maxRecDepth 16384

noncomputable section

namespace Cert.Attn

open Idealize.ShloMosaic

/-- A sum in four runs of the same length. -/
theorem sum_four {M : Type} [AddCommMonoid M] (n : ℕ) (f : Fin (n + n + n + n) → M) :
    ∑ t, f t = (∑ k : Fin n, f ⟨k.val, by omega⟩) + (∑ k : Fin n, f ⟨n + k.val, by omega⟩)
      + (∑ k : Fin n, f ⟨n + n + k.val, by omega⟩) + ∑ k : Fin n, f ⟨n + n + n + k.val, by omega⟩ := by
  rw [Fin.sum_univ_add, Fin.sum_univ_add, Fin.sum_univ_add]
  rfl

/-- A sum in blocks. -/
theorem sum_blocks {M : Type} [AddCommMonoid M] (a b : ℕ) (f : Fin (a * b) → M) :
    ∑ i, f i = ∑ j : Fin a, ∑ k : Fin b, f (finProdFinEquiv (j, k)) := by
  rw [← finProdFinEquiv.sum_comp, Fintype.sum_prod_type]

/-- Over reals the factor may scale the queries or the logits, and either way the logit is a real. -/
theorem logit_real {n : ℕ} (q k : Fin n → ℝ) (c : ℝ) :
    (∑ e, (q e : EReal) * (k e : EReal)) * (c : EReal) = ((∑ e, q e * c * k e : ℝ) : EReal)
      ∧ ∑ e, (q e : EReal) * (c : EReal) * (k e : EReal) = ((∑ e, q e * c * k e : ℝ) : EReal) := by
  constructor
  · rw [show (∑ e, q e * c * k e) = (∑ e, q e * k e) * c by
      rw [Finset.sum_mul]; exact Finset.sum_congr rfl fun e _ => by ring]
    rw [EReal.coe_mul, ← sum_real]
    simp only [EReal.coe_mul]
  · rw [← sum_real]
    simp only [EReal.coe_mul]

/-- The scale of the logits. -/
theorem scale_real : ∃ c : ℝ, Ideal.ofBits .f32 0x3DB504F3#32 = (c : EReal) := by
  unfold Ideal.ofBits Ideal.ieee
  dsimp only
  rw [if_neg (by decide), if_neg (by decide)]
  exact ⟨_, rfl⟩

end Cert.Attn

namespace Cert.ReferenceIdeal.Val

open Cert.ReferenceIdeal Cert.ReferenceIdeal.Gen
open Idealize.ShloMosaic Cert.Attn

/-- The logit of row `R` and key `t` in head `H`, the queries scaled. -/
def lg (x : FVec Ideal S1x256x1024 .f32) (wq : FVec Ideal S1024x32768 .f32) (k : FVec Ideal S1x4096x64x128 .f32)
    (R H : Fin 256) (t : Fin 4096) : EReal :=
  ∑ e : Fin 128, ((∑ i : Fin 1024, x (ix3 0 R i) * wq (ix2 i ⟨H.val * 128 + e.val, by omega⟩)) * Ideal.ofBits .f32 0x3DB504F3#32)
    * k (ix4 0 t ⟨H.val / 4, by omega⟩ e)

/-- One element of head `H`'s output: the plain quotient. -/
def att (x : FVec Ideal S1x256x1024 .f32) (wq : FVec Ideal S1024x32768 .f32) (k v : FVec Ideal S1x4096x64x128 .f32)
    (R H : Fin 256) (d : Fin 128) : EReal :=
  Ideal.div (∑ t : Fin 4096, Ideal.exp (lg x wq k R H t) * v (ix4 0 t ⟨H.val / 4, by omega⟩ d))
    (∑ t : Fin 4096, Ideal.exp (lg x wq k R H t))

/-- A block's logits are the plain ones, and real. -/
theorem rS_real (x : FVec Ideal S1x256x1024 .f32) (wq : FVec Ideal S1024x32768 .f32) (k : FVec Ideal S1x4096x64x128 .f32)
    (hx : ∀ i, ∃ r : ℝ, x i = r) (hw : ∀ i, ∃ r : ℝ, wq i = r) (hk : ∀ i, ∃ r : ℝ, k i = r) :
    ∃ s : Fin 256 → Fin 256 → Fin 4096 → ℝ, ∀ (R H : Fin 256),
      (∀ t, lg x wq k R H t = (s R H t : EReal))
      ∧ ∀ (b : FVec Ideal S1x1024x256x128 .f32) (t : Fin 1024) (T : Fin 4096) (hb : ∀ e, b (ix4 0 t H e) = k (ix4 0 T ⟨H.val / 4, by omega⟩ e)),
        rS (rQ x wq) b (ix4 0 H R t) = (s R H T : EReal) := by
  obtain ⟨c, hc⟩ := scale_real
  choose xr hxr using hx
  choose wr hwr using hw
  choose kr hkr using hk
  have hq : ∀ (R H : Fin 256) (e : Fin 128), (∑ i : Fin 1024, x (ix3 0 R i) * wq (ix2 i ⟨H.val * 128 + e.val, by omega⟩))
      = ((∑ i : Fin 1024, xr (ix3 0 R i) * wr (ix2 i ⟨H.val * 128 + e.val, by omega⟩) : ℝ) : EReal) := fun R H e => by
    rw [← sum_real]
    exact Finset.sum_congr rfl fun i _ => by rw [hxr, hwr, EReal.coe_mul]
  refine ⟨fun R H t => ∑ e : Fin 128, (∑ i : Fin 1024, xr (ix3 0 R i) * wr (ix2 i ⟨H.val * 128 + e.val, by omega⟩)) * c
    * kr (ix4 0 t ⟨H.val / 4, by omega⟩ e), fun R H => ⟨fun t => ?_, fun b t T hb => ?_⟩⟩
  · unfold lg
    rw [← (logit_real _ _ c).2]
    exact Finset.sum_congr rfl fun e _ => by rw [hq, hc, hkr]
  · rw [rS_apply, ← (logit_real _ _ c).1, hc]
    exact congrArg (· * (c : EReal)) (Finset.sum_congr rfl fun e _ => by rw [rQ_apply, hq, hb, hkr])

theorem rBk_apply (k : FVec Ideal S1x4096x64x128 .f32) (t : Fin 1024) (H : Fin 256) (e : Fin 128) :
    rB0 (rRep k) (ix4 0 t H e) = k (ix4 0 ⟨t.val, by omega⟩ ⟨H.val / 4, by omega⟩ e)
      ∧ rB1 (rRep k) (ix4 0 t H e) = k (ix4 0 ⟨1024 + t.val, by omega⟩ ⟨H.val / 4, by omega⟩ e)
      ∧ rB2 (rRep k) (ix4 0 t H e) = k (ix4 0 ⟨2048 + t.val, by omega⟩ ⟨H.val / 4, by omega⟩ e)
      ∧ rB3 (rRep k) (ix4 0 t H e) = k (ix4 0 ⟨3072 + t.val, by omega⟩ ⟨H.val / 4, by omega⟩ e) := by
  obtain ⟨h0, h1, h2, h3⟩ := rB_apply (rRep k) t H e
  rw [h0, h1, h2, h3]
  simp only [rRep_apply, and_self]

theorem rOut_apply (x : FVec Ideal S1x256x1024 .f32) (wq : FVec Ideal S1024x32768 .f32) (wo : FVec Ideal S32768x1024 .f32)
    (k v : FVec Ideal S1x4096x64x128 .f32)
    (hx : ∀ i, ∃ r : ℝ, x i = r) (hw : ∀ i, ∃ r : ℝ, wq i = r) (hk : ∀ i, ∃ r : ℝ, k i = r) (R : Fin 256) (C : Fin 1024) :
    rOut x wq wo k v (ix3 0 R C)
      = ∑ n : Fin 32768, att x wq k v R ⟨n.val / 128, by omega⟩ ⟨n.val % 128, by omega⟩ * wo (ix2 n C) := by
  obtain ⟨s, hs⟩ := rS_real x wq k hx hw hk
  unfold rOut
  rw [rEnd_apply]
  refine Finset.sum_congr rfl fun n _ => congrArg (· * wo (ix2 n C)) ?_
  generalize (⟨n.val / 128, by omega⟩ : Fin 256) = H
  generalize (⟨n.val % 128, by omega⟩ : Fin 128) = d
  rw [rDiv_apply]
  have h0 : (fun t : Fin 1024 => rS (rQ x wq) (rB0 (rRep k)) (ix4 0 H R t)) = fun t : Fin 1024 => (s R H ⟨t.val, by omega⟩ : EReal) :=
    funext fun t => (hs R H).2 _ t _ fun e => (rBk_apply k t H e).1
  have h1 : (fun t : Fin 1024 => rS (rQ x wq) (rB1 (rRep k)) (ix4 0 H R t)) = fun t : Fin 1024 => (s R H ⟨1024 + t.val, by omega⟩ : EReal) :=
    funext fun t => (hs R H).2 _ t _ fun e => (rBk_apply k t H e).2.1
  have h2 : (fun t : Fin 1024 => rS (rQ x wq) (rB2 (rRep k)) (ix4 0 H R t)) = fun t : Fin 1024 => (s R H ⟨2048 + t.val, by omega⟩ : EReal) :=
    funext fun t => (hs R H).2 _ t _ fun e => (rBk_apply k t H e).2.2.1
  have h3 : (fun t : Fin 1024 => rS (rQ x wq) (rB3 (rRep k)) (ix4 0 H R t)) = fun t : Fin 1024 => (s R H ⟨3072 + t.val, by omega⟩ : EReal) :=
    funext fun t => (hs R H).2 _ t _ fun e => (rBk_apply k t H e).2.2.2
  have hfin := stAt_fin (rS (rQ x wq) (rB0 (rRep k))) (rS (rQ x wq) (rB1 (rRep k))) (rS (rQ x wq) (rB2 (rRep k)))
    (rS (rQ x wq) (rB3 (rRep k))) (rB0 (rRep v)) (rB1 (rRep v)) (rB2 (rRep v)) (rB3 (rRep v)) R H d
  rw [h0, h1, h2, h3] at hfin
  refine (online_eq_plain (by decide) _ _ _ _ _ _ _ _ _ hfin).trans ?_
  unfold att
  simp only [(hs R H).1]
  rw [sum_four 1024 (fun t : Fin 4096 => Ideal.exp (s R H t : EReal) * v (ix4 0 t ⟨H.val / 4, by omega⟩ d)),
    sum_four 1024 (fun t : Fin 4096 => Ideal.exp (s R H t : EReal))]
  have b0 := fun t => (rBk_apply v t H d).1
  have b1 := fun t => (rBk_apply v t H d).2.1
  have b2 := fun t => (rBk_apply v t H d).2.2.1
  have b3 := fun t => (rBk_apply v t H d).2.2.2
  simp only [b0, b1, b2, b3]

end Cert.ReferenceIdeal.Val

end
-- ==== Proof.Value.Pre.lean ====
/-
  The precondition: its side conditions, and what it says of a device's blocks.
-/
module

public import proofs.«01_k».proof.Pre_finite_logits_KernelIdeal
public import proofs.«01_k».proof.Pre_finite_logits_ReferenceIdeal
public import Idealize.ShloMosaic.Lib.ReduceAll
public import Idealize.ShloMosaic.Lib.Pointwise

@[expose] public section

noncomputable section

namespace Cert.Pre

open Idealize.ShloMosaic

theorem factsK : Cert.Pre_finite_logits_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x64x128 := by decide
  reducesTo_S1x4096x64x128_S_d0_1_2_3 := by decide

theorem factsR : Cert.Pre_finite_logits_ReferenceIdeal.Facts where
  bcast_S_S1x256x1024 := by decide
  reducesTo_S1x256x1024_S_d0_1_2 := by decide
  h_S_ := by decide
  bcast_S_S1024x32768 := by decide
  reducesTo_S1024x32768_S_d0_1 := by decide
  bcast_S_S1x4096x64x128 := by decide
  reducesTo_S1x4096x64x128_S_d0_1_2_3 := by decide

/-- The word of infinity. -/
theorem ofBits_inf : Ideal.ofBits .f32 0x7F800000#32 = (⊤ : EReal) := by
  simp [Ideal.ofBits, Ideal.ieee]

/-- A number whose absolute value is below infinity is a real. -/
theorem real_of_abs (a : EReal) (h : max a (-a) < ⊤) : ∃ r : ℝ, a = r := by
  induction a using EReal.rec with
  | bot => simp at h
  | top => simp at h
  | coe r => exact ⟨r, rfl⟩

/-- Where every absolute value compares below infinity, every element is a real. -/
theorem real_of_all {s t u b : Shape} {axes : List (Fin s.rank)} [Subsingleton t.Idx] (x : FVec Ideal s .f32)
    (dims : Fin b.rank → Fin s.rank) (hb : b.BroadcastsInDim s dims) (init : u.Idx → BitVec 1) (h : s.ReducesTo axes t)
    (hu : 0 < u.numel) (j : t.Idx)
    (e : Host.reduce IntOp.andi (cmpf .olt (Host.absf x) (broadcastInDim s dims hb (constant b .f32 0x7F800000#32))) init h hu j = 1#1)
    (i : s.Idx) : ∃ r : ℝ, x i = r := by
  have hi := Host.reduce_andi_all _ init h hu j e i
  have hc : Ideal.cmp .olt (max (x i) (-x i)) (Ideal.ofBits .f32 0x7F800000#32) = 1#1 := hi
  rw [ofBits_inf] at hc
  refine real_of_abs (x i) ?_
  by_contra hn
  simp [Ideal.cmp, hn] at hc

instance : Subsingleton Cert.Pre_finite_logits_KernelIdeal.S_.Idx := ⟨fun a b => funext fun i => absurd i.isLt (Nat.not_lt_zero _)⟩

/-- The two halves of a conjunction of bits. -/
theorem and_bits (a b : BitVec 1) (h : a &&& b = 1#1) : a = 1#1 ∧ b = 1#1 := by
  revert a b; decide

attribute [local instance] factsK in
/-- The precondition at a device: x, its block of Wq, and K hold reals. -/
theorem real_of_pre (x : FVec Ideal ⟨3, ![1, 256, 1024]⟩ .f32) (wq wo : FVec Ideal ⟨2, ![1024, 1024]⟩ .f32)
    (k v : FVec Ideal ⟨4, ![1, 4096, 64, 128]⟩ .f32)
    (h : Cert.Pre_finite_logits_KernelIdeal.fn (F := Ideal) x wq wo k v = fun _ => 1#1) :
    (∀ i, ∃ r : ℝ, x i = r) ∧ (∀ i, ∃ r : ℝ, wq i = r) ∧ ∀ i, ∃ r : ℝ, k i = r := by
  have h0 := congrFun h ix0
  obtain ⟨h1, hk⟩ := and_bits _ _ h0
  obtain ⟨hx, hw⟩ := and_bits _ _ h1
  exact ⟨real_of_all x _ _ _ _ _ _ hx, real_of_all wq _ _ _ _ _ _ hw, real_of_all k _ _ _ _ _ _ hk⟩

end Cert.Pre

end
-- ==== Proof.Value.Final.lean ====
/-
  The kernel's result is the reference's, when x, Wq and K hold reals.
-/
module

public import proofs.«01_k».proof.Defs
public import proofs.«01_k».proof.Proof.Value.KOut
public import proofs.«01_k».proof.Proof.Value.KArr
public import proofs.«01_k».proof.Proof.Value.RFin
public import proofs.«01_k».proof.Proof.Value.Pre
public import Idealize.ShloMosaic.Lib.Layout

@[expose] public section

set_option maxRecDepth 16384

noncomputable section

namespace Cert.Val

open Idealize.ShloMosaic Cert.Attn
open Cert.KernelIdeal.Pf Cert.KernelIdeal.Val Cert.ReferenceIdeal.Val

section Head

variable (m : (ℓ : Loc Cert.KernelIdeal.nD Cert.KernelIdeal.τ Cert.KernelIdeal.sig) → Buf (Elt Ideal) ℓ)
variable (x : FVec Ideal Cert.ReferenceIdeal.S1x256x1024 .f32) (wq : FVec Ideal Cert.ReferenceIdeal.S1024x32768 .f32)
  (wo : FVec Ideal Cert.ReferenceIdeal.S32768x1024 .f32) (k v : FVec Ideal Cert.ReferenceIdeal.S1x4096x64x128 .f32)

/-- Device `j`'s head at columns `o` of its block is head `H` of the whole. -/
theorem hout_eq (j : Fin 32) (hx : xstg m j = x)
    (hw : ∀ (i l : Fin 1024), wqstg m j (ix2 i l) = wq (ix2 i ⟨j.val * 1024 + l.val, by omega⟩))
    (hk : kA m j = k) (hv : vA m j = v) (o : ℕ) (ho : o + 128 ≤ 1024) (H : Fin 256) (hH : H.val * 128 = j.val * 1024 + o)
    (G : Fin 64) (hG : G.val = H.val / 4) (R : Fin 256) (d : Fin 128) :
    hout m j o ho G R d = att x wq k v R H d := by
  rw [show G = (⟨H.val / 4, Nat.div_lt_of_lt_mul H.isLt⟩ : Fin 64) from Fin.ext hG]
  have hl : ∀ t, lgt m j o ho ⟨H.val / 4, by omega⟩ R t = lg x wq k R H t := fun t => by
    unfold lgt lg
    refine Finset.sum_congr rfl fun e _ => ?_
    rw [hk, hx]
    have hc : ∀ i : Fin 1024, wqstg m j (ix2 i ⟨o + e.val, by omega⟩) = wq (ix2 i ⟨H.val * 128 + e.val, by omega⟩) := fun i => by
      rw [hw]
      exact congrArg (fun l : Fin 32768 => wq (ix2 i l)) (Fin.ext (by show j.val * 1024 + (o + e.val) = H.val * 128 + e.val; omega))
    simp only [hc]
  unfold hout att
  simp only [hl, hv]

/-- The sum over the devices is the product over all the columns. -/
theorem out_eq (hx : ∀ j : Fin 32, xstg m j = x)
    (hw : ∀ (j : Fin 32) (i l : Fin 1024), wqstg m j (ix2 i l) = wq (ix2 i ⟨j.val * 1024 + l.val, by omega⟩))
    (ho : ∀ (j : Fin 32) (l C : Fin 1024), woA m j (ix2 l C) = wo (ix2 ⟨j.val * 1024 + l.val, by omega⟩ C))
    (hk : ∀ j : Fin 32, kA m j = k) (hv : ∀ j : Fin 32, vA m j = v)
    (rx : ∀ i, ∃ r : ℝ, x i = r) (rw : ∀ i, ∃ r : ℝ, wq i = r) (rk : ∀ i, ∃ r : ℝ, k i = r) (c : Fin 32) :
    OUT m c = rOut x wq wo k v := by
  funext i
  obtain ⟨R, C, rfl⟩ : ∃ (R : Fin 256) (C : Fin 1024), i = ix3 0 R C := ⟨i 1, i 2, by
    funext a
    match a with
    | ⟨0, _⟩ => exact Subsingleton.elim (α := Fin 1) _ _
    | ⟨1, _⟩ => rfl
    | ⟨2, _⟩ => rfl⟩
  rw [OUT_apply, rOut_apply x wq wo k v rx rw rk]
  refine Eq.trans ?_ (sum_blocks 32 1024 fun n : Fin 32768 =>
    att x wq k v R ⟨n.val / 128, by omega⟩ ⟨n.val % 128, by omega⟩ * wo (ix2 n C)).symm
  refine Finset.sum_congr rfl fun j _ => Finset.sum_congr rfl fun l _ => ?_
  have hn : (finProdFinEquiv (j, l) : Fin (32 * 1024)).val = l.val + 1024 * j.val := rfl
  have e1 : AT m j (ix2 R l) = att x wq k v R ⟨(finProdFinEquiv (j, l) : Fin (32 * 1024)).val / 128, by omega⟩
      ⟨(finProdFinEquiv (j, l) : Fin (32 * 1024)).val % 128, by omega⟩ := by
    rw [AT_apply m j ⟨2 * j.val + l.val / 512, by omega⟩ l rfl R]
    have hd : (⟨l.val % 128, by omega⟩ : Fin 128) = ⟨(finProdFinEquiv (j, l) : Fin (32 * 1024)).val % 128, by omega⟩ :=
      Fin.ext (by show l.val % 128 = (finProdFinEquiv (j, l) : Fin (32 * 1024)).val % 128; omega)
    rw [hd]
    refine hout_eq m x wq k v j (hx j) (hw j) (hk j) (hv j) _ _ _ ?_ _ ?_ _ _
    · show (finProdFinEquiv (j, l) : Fin (32 * 1024)).val / 128 * 128 = j.val * 1024 + 128 * (l.val / 128)
      omega
    · show 2 * j.val + l.val / 512 = (finProdFinEquiv (j, l) : Fin (32 * 1024)).val / 128 / 4
      omega
  have e2 : woA m j (ix2 l C) = wo (ix2 (finProdFinEquiv (j, l) : Fin (32 * 1024)) C) := by
    rw [ho]
    exact congrArg (fun n : Fin 32768 => wo (ix2 n C)) (Fin.ext (by
      show j.val * 1024 + l.val = (finProdFinEquiv (j, l) : Fin (32 * 1024)).val
      omega))
  rw [e1, e2]

end Head

/-- A block of columns and a block of rows, at an index. -/
theorem block_cols (w : (⟨2, ![1024, 32768]⟩ : Shape).Idx → EReal) (j : Fin 32)
    (h : Layout.Tiles ⟨2, ![1024, 1024]⟩ ⟨2, ![1024, 32768]⟩ 1 32) (i l : Fin 1024) :
    Layout.block ⟨2, ![1024, 1024]⟩ ⟨2, ![1024, 32768]⟩ 1 32 j w h (ix2 i l) = w (ix2 i ⟨j.val * 1024 + l.val, by omega⟩) :=
  congrArg w (funext fun a => Fin.ext (by
    match a with
    | ⟨0, _⟩ => rfl
    | ⟨1, _⟩ => rfl))

theorem block_rows (w : (⟨2, ![32768, 1024]⟩ : Shape).Idx → EReal) (j : Fin 32)
    (h : Layout.Tiles ⟨2, ![1024, 1024]⟩ ⟨2, ![32768, 1024]⟩ 0 32) (l C : Fin 1024) :
    Layout.block ⟨2, ![1024, 1024]⟩ ⟨2, ![32768, 1024]⟩ 0 32 j w h (ix2 l C) = w (ix2 ⟨j.val * 1024 + l.val, by omega⟩ C) :=
  congrArg w (funext fun a => Fin.ext (by
    match a with
    | ⟨0, _⟩ => rfl
    | ⟨1, _⟩ => rfl))

/-- Reals in every block of columns are reals in the whole. -/
theorem real_cols (w : (⟨2, ![1024, 32768]⟩ : Shape).Idx → EReal)
    (h : ∀ (j : Fin 32) (i l : Fin 1024), ∃ r : ℝ, w (ix2 i ⟨j.val * 1024 + l.val, by omega⟩) = r) (i : (⟨2, ![1024, 32768]⟩ : Shape).Idx) :
    ∃ r : ℝ, w i = r := by
  have h1 : (i 1).val < 32768 := (i 1).isLt
  obtain ⟨r, hr⟩ := h ⟨(i 1).val / 1024, by omega⟩ (i 0) ⟨(i 1).val % 1024, by omega⟩
  refine ⟨r, Eq.trans (congrArg w (funext fun a => Fin.ext ?_)) hr⟩
  match a with
  | ⟨0, _⟩ => rfl
  | ⟨1, _⟩ =>
    show (i 1).val = (i 1).val / 1024 * 1024 + (i 1).val % 1024
    omega

end Cert.Val

end
-- ==== Proof.lean ====
/- The certificate: what the mesh's run leaves on every device, read for each claim. -/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import proofs.«01_k».proof.Proof.Value.Final
public import Idealize.ShloMosaic.Adequacy
public import Idealize.ShloMosaic.Init

@[expose] public section

noncomputable section

namespace Cert.Proof

open Idealize.ShloMosaic Idealize.SL.Sem

/-- The kernel ends, its arguments unchanged, every counter at zero. -/
theorem quiescent_k : Cert.quiescent_Kernel (hKernel := Cert.Kernel.Gen.facts) := by
  intro m g _
  refine (θ_run (Cert.Kernel.defs (F := Bits)) _ _).mono (fun r h => ⟨fun c => ?_, h.2⟩) (Cert.Kernel.Pf.run_main m g)
  exact ⟨((h.1 c).1 0).trans ((Cert.Kernel.Pf.dats m g 0 c).arrAt_in 0 rfl _), ((h.1 c).1 1).trans ((Cert.Kernel.Pf.dats m g 0 c).arrAt_in 1 rfl _), (h.1 c).2⟩

/-- Its idealization likewise. -/
theorem quiescent_ki : Cert.quiescent_KernelIdeal (hKernelIdeal := Cert.KernelIdeal.Gen.facts) := by
  intro m g _
  refine (θ_run (Cert.KernelIdeal.defs (F := Ideal)) _ _).mono (fun r h => ⟨fun c => ?_, h.2⟩) (Cert.KernelIdeal.Pf.run_main m g)
  exact ⟨((h.1 c).1 0).trans ((Cert.KernelIdeal.Pf.dats m g 0 c).arrAt_in 0 rfl _), ((h.1 c).1 1).trans ((Cert.KernelIdeal.Pf.dats m g 0 c).arrAt_in 1 rfl _), (h.1 c).2⟩

/-- The reference has no semaphore. -/
theorem quiescent_ri : Cert.quiescent_ReferenceIdeal (hReferenceIdeal := Cert.ReferenceIdeal.Gen.facts) := by
  intro m g _
  exact (θ_run (Cert.ReferenceIdeal.defs (F := Ideal)) _ _).mono (fun r h => ⟨fun c => (h c).2, sem_eq_zero_of_no_sems (by decide) r.2⟩)
    (Cert.ReferenceIdeal.Value.run m g)

/-- With the same arguments the kernel's result, on every device, is the reference's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (x : FVec Ideal Cert.ReferenceIdeal.S1x256x1024 .f32) (wq : FVec Ideal Cert.ReferenceIdeal.S1024x32768 .f32)
    (wo : FVec Ideal Cert.ReferenceIdeal.S32768x1024 .f32) (k v : FVec Ideal Cert.ReferenceIdeal.S1x4096x64x128 .f32)
    (e0 : m' (((0 : Dev Cert.ReferenceIdeal.nD).tc : Thread Cert.ReferenceIdeal.nD Cert.ReferenceIdeal.τ).loc Cert.ReferenceIdeal.main_arg0) = x)
    (e1 : m' (((0 : Dev Cert.ReferenceIdeal.nD).tc : Thread Cert.ReferenceIdeal.nD Cert.ReferenceIdeal.τ).loc Cert.ReferenceIdeal.main_arg1) = wq)
    (e2 : m' (((0 : Dev Cert.ReferenceIdeal.nD).tc : Thread Cert.ReferenceIdeal.nD Cert.ReferenceIdeal.τ).loc Cert.ReferenceIdeal.main_arg2) = wo)
    (e3 : m' (((0 : Dev Cert.ReferenceIdeal.nD).tc : Thread Cert.ReferenceIdeal.nD Cert.ReferenceIdeal.τ).loc Cert.ReferenceIdeal.main_arg3) = k)
    (e4 : m' (((0 : Dev Cert.ReferenceIdeal.nD).tc : Thread Cert.ReferenceIdeal.nD Cert.ReferenceIdeal.τ).loc Cert.ReferenceIdeal.main_arg4) = v)
    (hp : ∀ c : Fin 32, (∀ i, ∃ r : ℝ, Cert.KernelIdeal.Pf.xstg m c i = (r : EReal)) ∧ (∀ i, ∃ r : ℝ, Cert.KernelIdeal.Pf.wqstg m c i = (r : EReal))
      ∧ ∀ i, ∃ r : ℝ, Cert.KernelIdeal.Pf.kA m c i = (r : EReal))
    (hx : ∀ c : Fin 32, Cert.KernelIdeal.Pf.xstg m c = x)
    (hw : ∀ c : Fin 32, Cert.KernelIdeal.Pf.wqstg m c = Layout.block ⟨2, ![1024, 1024]⟩ ⟨2, ![1024, 32768]⟩ 1 32 c wq)
    (ho : ∀ c : Fin 32, Cert.KernelIdeal.Pf.woA m c = Layout.block ⟨2, ![1024, 1024]⟩ ⟨2, ![32768, 1024]⟩ 0 32 c wo)
    (hk : ∀ c : Fin 32, Cert.KernelIdeal.Pf.kA m c = k) (hv : ∀ c : Fin 32, Cert.KernelIdeal.Pf.vA m c = v) (c : Fin 32) :
    Cert.KernelIdeal.Pf.OUT m c = Cert.ReferenceIdeal.Value.res_main_v105 m' 0 := by
  have hwi : ∀ (j : Fin 32) (i l : Fin 1024), Cert.KernelIdeal.Pf.wqstg m j (ix2 i l) = wq (ix2 i ⟨j.val * 1024 + l.val, by omega⟩) :=
    fun j i l => (congrFun (hw j) _).trans (Cert.Val.block_cols wq j _ i l)
  rw [Cert.ReferenceIdeal.Val.res_eq, e0, e1, e2, e3, e4]
  refine Cert.Val.out_eq m x wq wo k v hx hwi (fun j l C => (congrFun (ho j) _).trans (Cert.Val.block_rows wo j _ l C)) hk hv ?_ ?_ ?_ c
  · rw [← hx 0]; exact (hp 0).1
  · exact Cert.Val.real_cols wq fun j i l => by rw [← hwi j i l]; exact (hp j).2.1 _
  · rw [← hk 0]; exact (hp 0).2.2

/-- The value claim. -/
theorem algebraic : Cert.algebraic_KernelIdeal_ReferenceIdeal_pre_finite_logits_KernelIdeal
    (hKernelIdeal := Cert.KernelIdeal.Gen.facts) (hReferenceIdeal := Cert.ReferenceIdeal.Gen.facts)
    (hPre_finite_logits_KernelIdeal := Cert.Pre.factsK) := by
  intro m g m' g' hpre hargs
  refine ⟨Cert.ReferenceIdeal.Value.res_main_v105 m' 0, ?_, ?_⟩
  · refine (θ_run (Cert.KernelIdeal.defs (F := Ideal)) _ _).mono (fun r h c => ⟨?_, ?_⟩) (Cert.KernelIdeal.Pf.run_main m g)
    · refine ((h.1 c).1 2).trans ((Cert.KernelIdeal.Val.finalA_out m g c).trans ?_)
      refine value_eq m m' _ _ _ _ _ rfl rfl rfl rfl rfl (fun c => ?_) (fun c => (Cert.KernelIdeal.Val.xstg_eq m c).trans (hargs c).1)
        (fun c => (Cert.KernelIdeal.Val.wqstg_eq m c).trans (hargs c).2.1) (fun c => (hargs c).2.2.1) (fun c => (hargs c).2.2.2.1)
        (fun c => (hargs c).2.2.2.2) c
      rw [Cert.KernelIdeal.Val.xstg_eq, Cert.KernelIdeal.Val.wqstg_eq]
      exact Cert.Pre.real_of_pre _ _ _ _ _ (hpre c)
    · exact ⟨((h.1 c).1 0).trans ((Cert.KernelIdeal.Pf.dats m g 0 c).arrAt_in 0 rfl _), ((h.1 c).1 1).trans ((Cert.KernelIdeal.Pf.dats m g 0 c).arrAt_in 1 rfl _), (h.1 c).2⟩
  · exact (θ_run (Cert.ReferenceIdeal.defs (F := Ideal)) _ _).mono (fun r h => h 0) (Cert.ReferenceIdeal.Value.run m' g')

theorem claim : Cert.Claim := ⟨Cert.Kernel.Gen.facts, Cert.KernelIdeal.Gen.facts, Cert.ReferenceIdeal.Gen.facts, Cert.Pre.factsK, Cert.Pre.factsR,
  quiescent_k, quiescent_ki, fun m g _ => quiescent_ki m g trivial, quiescent_ri, fun m g _ => quiescent_ri m g trivial, trivial, algebraic⟩

end Cert.Proof

end
